-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![256, 8192]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![256, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S8x512 : Shape := ⟨2, ![8, 512]⟩
abbrev S32x8x512 : Shape := ⟨3, ![32, 8, 512]⟩
abbrev S32 : Shape := ⟨1, ![32]⟩
abbrev S_ : Shape := ⟨0, ![]⟩
abbrev S1 : Shape := ⟨1, ![1]⟩
abbrev S1x8x512 : Shape := ⟨3, ![1, 8, 512]⟩

abbrev nBuf : Space → Nat
  | .hbm => 8
  | .vmem => 12
  | .smem => 0
  | _ => 0

abbrev bufTy : (tb : Table) → Fin (tcTables nBuf tb) → BufTy
  | .hbm, ⟨0, _⟩ => ⟨S256x256, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S256x256, .f32⟩
  | .local _ .vmem, ⟨0, _⟩ => ⟨S256x256, .f32⟩
  | .local _ .vmem, ⟨1, _⟩ => ⟨S256x512, .f32⟩
  | .local _ .vmem, ⟨2, _⟩ => ⟨S512x256, .f32⟩
  | .local _ .vmem, ⟨3, _⟩ => ⟨S256x512, .f32⟩
  | .local _ .vmem, ⟨4, _⟩ => ⟨S512x256, .f32⟩
  | .local _ .vmem, ⟨5, _⟩ => ⟨S256x512, .f32⟩
  | .local _ .vmem, ⟨6, _⟩ => ⟨S512x256, .f32⟩
  | .local _ .vmem, ⟨7, _⟩ => ⟨S256x256, .f32⟩
  | .local _ .vmem, ⟨8, _⟩ => ⟨S256x512, .f32⟩
  | .local _ .vmem, ⟨9, _⟩ => ⟨S8x512, .f32⟩
  | .local _ .vmem, ⟨10, _⟩ => ⟨S32x8x512, .f32⟩
  | .local _ .vmem, ⟨11, _⟩ => ⟨S32x8x512, .f32⟩
  | _, _ => ⟨S256x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 136 → Bool
  | ⟨i, _⟩ => dmaSemScopedAt i

abbrev sig : RefSig :=
  (ofTc nBuf bufTy 1 136 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

def k0_dev1 : Nat :=
  let c0_i32_2 : BitVec 32 := 0#32
  let c0_i32 : BitVec 32 := 0#32
  let c1_i32_1 : BitVec 32 := 1#32
  let v4 : BitVec 32 := Scalar.muli c0_i32 c1_i32_1
  let v5 : BitVec 32 := Scalar.addi c0_i32_2 v4
  v5.toNat
def k0_dev2 : Nat :=
  let c0_i32_6 : BitVec 32 := 0#32
  let c1_i32_4 : BitVec 32 := 1#32
  let c1_i32_5 : BitVec 32 := 1#32
  let v6 : BitVec 32 := Scalar.muli c1_i32_4 c1_i32_5
  let v7 : BitVec 32 := Scalar.addi c0_i32_6 v6
  v7.toNat
def k0_dev3 : Nat :=
  let c0_i32_9 : BitVec 32 := 0#32
  let c2_i32 : BitVec 32 := 2#32
  let c1_i32_8 : BitVec 32 := 1#32
  let v8 : BitVec 32 := Scalar.muli c2_i32 c1_i32_8
  let v9 : BitVec 32 := Scalar.addi c0_i32_9 v8
  v9.toNat
def k0_dev4 : Nat :=
  let c0_i32_12 : BitVec 32 := 0#32
  let c3_i32 : BitVec 32 := 3#32
  let c1_i32_11 : BitVec 32 := 1#32
  let v10 : BitVec 32 := Scalar.muli c3_i32 c1_i32_11
  let v11 : BitVec 32 := Scalar.addi c0_i32_12 v10
  v11.toNat
def k0_dev5 : Nat :=
  let c0_i32_15 : BitVec 32 := 0#32
  let c4_i32 : BitVec 32 := 4#32
  let c1_i32_14 : BitVec 32 := 1#32
  let v12 : BitVec 32 := Scalar.muli c4_i32 c1_i32_14
  let v13 : BitVec 32 := Scalar.addi c0_i32_15 v12
  v13.toNat
def k0_dev6 : Nat :=
  let c0_i32_18 : BitVec 32 := 0#32
  let c5_i32 : BitVec 32 := 5#32
  let c1_i32_17 : BitVec 32 := 1#32
  let v14 : BitVec 32 := Scalar.muli c5_i32 c1_i32_17
  let v15 : BitVec 32 := Scalar.addi c0_i32_18 v14
  v15.toNat
def k0_dev7 : Nat :=
  let c0_i32_21 : BitVec 32 := 0#32
  let c6_i32 : BitVec 32 := 6#32
  let c1_i32_20 : BitVec 32 := 1#32
  let v16 : BitVec 32 := Scalar.muli c6_i32 c1_i32_20
  let v17 : BitVec 32 := Scalar.addi c0_i32_21 v16
  v17.toNat
def k0_dev8 : Nat :=
  let c0_i32_24 : BitVec 32 := 0#32
  let c7_i32 : BitVec 32 := 7#32
  let c1_i32_23 : BitVec 32 := 1#32
  let v18 : BitVec 32 := Scalar.muli c7_i32 c1_i32_23
  let v19 : BitVec 32 := Scalar.addi c0_i32_24 v18
  v19.toNat
def k0_dev9 : Nat :=
  let c0_i32_27 : BitVec 32 := 0#32
  let c8_i32 : BitVec 32 := 8#32
  let c1_i32_26 : BitVec 32 := 1#32
  let v20 : BitVec 32 := Scalar.muli c8_i32 c1_i32_26
  let v21 : BitVec 32 := Scalar.addi c0_i32_27 v20
  v21.toNat
def k0_dev10 : Nat :=
  let c0_i32_30 : BitVec 32 := 0#32
  let c9_i32 : BitVec 32 := 9#32
  let c1_i32_29 : BitVec 32 := 1#32
  let v22 : BitVec 32 := Scalar.muli c9_i32 c1_i32_29
  let v23 : BitVec 32 := Scalar.addi c0_i32_30 v22
  v23.toNat
def k0_dev11 : Nat :=
  let c0_i32_33 : BitVec 32 := 0#32
  let c10_i32 : BitVec 32 := 10#32
  let c1_i32_32 : BitVec 32 := 1#32
  let v24 : BitVec 32 := Scalar.muli c10_i32 c1_i32_32
  let v25 : BitVec 32 := Scalar.addi c0_i32_33 v24
  v25.toNat
def k0_dev12 : Nat :=
  let c0_i32_36 : BitVec 32 := 0#32
  let c11_i32 : BitVec 32 := 11#32
  let c1_i32_35 : BitVec 32 := 1#32
  let v26 : BitVec 32 := Scalar.muli c11_i32 c1_i32_35
  let v27 : BitVec 32 := Scalar.addi c0_i32_36 v26
  v27.toNat
def k0_dev13 : Nat :=
  let c0_i32_39 : BitVec 32 := 0#32
  let c12_i32 : BitVec 32 := 12#32
  let c1_i32_38 : BitVec 32 := 1#32
  let v28 : BitVec 32 := Scalar.muli c12_i32 c1_i32_38
  let v29 : BitVec 32 := Scalar.addi c0_i32_39 v28
  v29.toNat
def k0_dev14 : Nat :=
  let c0_i32_42 : BitVec 32 := 0#32
  let c13_i32 : BitVec 32 := 13#32
  let c1_i32_41 : BitVec 32 := 1#32
  let v30 : BitVec 32 := Scalar.muli c13_i32 c1_i32_41
  let v31 : BitVec 32 := Scalar.addi c0_i32_42 v30
  v31.toNat
def k0_dev15 : Nat :=
  let c0_i32_45 : BitVec 32 := 0#32
  let c14_i32 : BitVec 32 := 14#32
  let c1_i32_44 : BitVec 32 := 1#32
  let v32 : BitVec 32 := Scalar.muli c14_i32 c1_i32_44
  let v33 : BitVec 32 := Scalar.addi c0_i32_45 v32
  v33.toNat
def k0_dev16 : Nat :=
  let c0_i32_48 : BitVec 32 := 0#32
  let c15_i32 : BitVec 32 := 15#32
  let c1_i32_47 : BitVec 32 := 1#32
  let v34 : BitVec 32 := Scalar.muli c15_i32 c1_i32_47
  let v35 : BitVec 32 := Scalar.addi c0_i32_48 v34
  v35.toNat
def k0_dev17 : Nat :=
  let c0_i32_51 : BitVec 32 := 0#32
  let c16_i32 : BitVec 32 := 16#32
  let c1_i32_50 : BitVec 32 := 1#32
  let v36 : BitVec 32 := Scalar.muli c16_i32 c1_i32_50
  let v37 : BitVec 32 := Scalar.addi c0_i32_51 v36
  v37.toNat
def k0_dev18 : Nat :=
  let c0_i32_54 : BitVec 32 := 0#32
  let c17_i32 : BitVec 32 := 17#32
  let c1_i32_53 : BitVec 32 := 1#32
  let v38 : BitVec 32 := Scalar.muli c17_i32 c1_i32_53
  let v39 : BitVec 32 := Scalar.addi c0_i32_54 v38
  v39.toNat
def k0_dev19 : Nat :=
  let c0_i32_57 : BitVec 32 := 0#32
  let c18_i32 : BitVec 32 := 18#32
  let c1_i32_56 : BitVec 32 := 1#32
  let v40 : BitVec 32 := Scalar.muli c18_i32 c1_i32_56
  let v41 : BitVec 32 := Scalar.addi c0_i32_57 v40
  v41.toNat
def k0_dev20 : Nat :=
  let c0_i32_60 : BitVec 32 := 0#32
  let c19_i32 : BitVec 32 := 19#32
  let c1_i32_59 : BitVec 32 := 1#32
  let v42 : BitVec 32 := Scalar.muli c19_i32 c1_i32_59
  let v43 : BitVec 32 := Scalar.addi c0_i32_60 v42
  v43.toNat
def k0_dev21 : Nat :=
  let c0_i32_63 : BitVec 32 := 0#32
  let c20_i32 : BitVec 32 := 20#32
  let c1_i32_62 : BitVec 32 := 1#32
  let v44 : BitVec 32 := Scalar.muli c20_i32 c1_i32_62
  let v45 : BitVec 32 := Scalar.addi c0_i32_63 v44
  v45.toNat
def k0_dev22 : Nat :=
  let c0_i32_66 : BitVec 32 := 0#32
  let c21_i32 : BitVec 32 := 21#32
  let c1_i32_65 : BitVec 32 := 1#32
  let v46 : BitVec 32 := Scalar.muli c21_i32 c1_i32_65
  let v47 : BitVec 32 := Scalar.addi c0_i32_66 v46
  v47.toNat
def k0_dev23 : Nat :=
  let c0_i32_69 : BitVec 32 := 0#32
  let c22_i32 : BitVec 32 := 22#32
  let c1_i32_68 : BitVec 32 := 1#32
  let v48 : BitVec 32 := Scalar.muli c22_i32 c1_i32_68
  let v49 : BitVec 32 := Scalar.addi c0_i32_69 v48
  v49.toNat
def k0_dev24 : Nat :=
  let c0_i32_72 : BitVec 32 := 0#32
  let c23_i32 : BitVec 32 := 23#32
  let c1_i32_71 : BitVec 32 := 1#32
  let v50 : BitVec 32 := Scalar.muli c23_i32 c1_i32_71
  let v51 : BitVec 32 := Scalar.addi c0_i32_72 v50
  v51.toNat
def k0_dev25 : Nat :=
  let c0_i32_75 : BitVec 32 := 0#32
  let c24_i32 : BitVec 32 := 24#32
  let c1_i32_74 : BitVec 32 := 1#32
  let v52 : BitVec 32 := Scalar.muli c24_i32 c1_i32_74
  let v53 : BitVec 32 := Scalar.addi c0_i32_75 v52
  v53.toNat
def k0_dev26 : Nat :=
  let c0_i32_78 : BitVec 32 := 0#32
  let c25_i32 : BitVec 32 := 25#32
  let c1_i32_77 : BitVec 32 := 1#32
  let v54 : BitVec 32 := Scalar.muli c25_i32 c1_i32_77
  let v55 : BitVec 32 := Scalar.addi c0_i32_78 v54
  v55.toNat
def k0_dev27 : Nat :=
  let c0_i32_81 : BitVec 32 := 0#32
  let c26_i32 : BitVec 32 := 26#32
  let c1_i32_80 : BitVec 32 := 1#32
  let v56 : BitVec 32 := Scalar.muli c26_i32 c1_i32_80
  let v57 : BitVec 32 := Scalar.addi c0_i32_81 v56
  v57.toNat
def k0_dev28 : Nat :=
  let c0_i32_84 : BitVec 32 := 0#32
  let c27_i32 : BitVec 32 := 27#32
  let c1_i32_83 : BitVec 32 := 1#32
  let v58 : BitVec 32 := Scalar.muli c27_i32 c1_i32_83
  let v59 : BitVec 32 := Scalar.addi c0_i32_84 v58
  v59.toNat
def k0_dev29 : Nat :=
  let c0_i32_87 : BitVec 32 := 0#32
  let c28_i32 : BitVec 32 := 28#32
  let c1_i32_86 : BitVec 32 := 1#32
  let v60 : BitVec 32 := Scalar.muli c28_i32 c1_i32_86
  let v61 : BitVec 32 := Scalar.addi c0_i32_87 v60
  v61.toNat
def k0_dev30 : Nat :=
  let c0_i32_90 : BitVec 32 := 0#32
  let c29_i32 : BitVec 32 := 29#32
  let c1_i32_89 : BitVec 32 := 1#32
  let v62 : BitVec 32 := Scalar.muli c29_i32 c1_i32_89
  let v63 : BitVec 32 := Scalar.addi c0_i32_90 v62
  v63.toNat
def k0_dev31 : Nat :=
  let c0_i32_93 : BitVec 32 := 0#32
  let c30_i32 : BitVec 32 := 30#32
  let c1_i32_92 : BitVec 32 := 1#32
  let v64 : BitVec 32 := Scalar.muli c30_i32 c1_i32_92
  let v65 : BitVec 32 := Scalar.addi c0_i32_93 v64
  v65.toNat
def k0_dev32 : Nat :=
  let c0_i32_96 : BitVec 32 := 0#32
  let c31_i32 : BitVec 32 := 31#32
  let c1_i32_95 : BitVec 32 := 1#32
  let v66 : BitVec 32 := Scalar.muli c31_i32 c1_i32_95
  let v67 : BitVec 32 := Scalar.addi c0_i32_96 v66
  v67.toNat
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_103 : BitVec 32 := 0#32
  let v76 : BitVec 1 := Scalar.cmpi .ne v2 c0_i32_103
  let v77 : BitVec 32 := Scalar.extui v76
  let c0_i32_104 : BitVec 32 := 0#32
  let v78 : BitVec 1 := Scalar.cmpi .ne v77 c0_i32_104
  v78

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev33 : Nat :=
  let c0_i32_1135 : BitVec 32 := 0#32
  let c0_i32_1133 : BitVec 32 := 0#32
  let c1_i32_1134 : BitVec 32 := 1#32
  let v1598 : BitVec 32 := Scalar.muli c0_i32_1133 c1_i32_1134
  let v1599 : BitVec 32 := Scalar.addi c0_i32_1135 v1598
  v1599.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_105 : BitVec 32 := 1#32
  let v79 : BitVec 1 := Scalar.cmpi .ne v2 c1_i32_105
  let v80 : BitVec 32 := Scalar.extui v79
  let c0_i32_106 : BitVec 32 := 0#32
  let v81 : BitVec 1 := Scalar.cmpi .ne v80 c0_i32_106
  v81

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev34 : Nat :=
  let c0_i32_1135 : BitVec 32 := 0#32
  let c1_i32_1133 : BitVec 32 := 1#32
  let c1_i32_1134 : BitVec 32 := 1#32
  let v1598 : BitVec 32 := Scalar.muli c1_i32_1133 c1_i32_1134
  let v1599 : BitVec 32 := Scalar.addi c0_i32_1135 v1598
  v1599.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_107 : BitVec 32 := 2#32
  let v82 : BitVec 1 := Scalar.cmpi .ne v2 c2_i32_107
  let v83 : BitVec 32 := Scalar.extui v82
  let c0_i32_108 : BitVec 32 := 0#32
  let v84 : BitVec 1 := Scalar.cmpi .ne v83 c0_i32_108
  v84

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev35 : Nat :=
  let c0_i32_1135 : BitVec 32 := 0#32
  let c2_i32_1133 : BitVec 32 := 2#32
  let c1_i32_1134 : BitVec 32 := 1#32
  let v1598 : BitVec 32 := Scalar.muli c2_i32_1133 c1_i32_1134
  let v1599 : BitVec 32 := Scalar.addi c0_i32_1135 v1598
  v1599.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_109 : BitVec 32 := 3#32
  let v85 : BitVec 1 := Scalar.cmpi .ne v2 c3_i32_109
  let v86 : BitVec 32 := Scalar.extui v85
  let c0_i32_110 : BitVec 32 := 0#32
  let v87 : BitVec 1 := Scalar.cmpi .ne v86 c0_i32_110
  v87

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev36 : Nat :=
  let c0_i32_1135 : BitVec 32 := 0#32
  let c3_i32_1133 : BitVec 32 := 3#32
  let c1_i32_1134 : BitVec 32 := 1#32
  let v1598 : BitVec 32 := Scalar.muli c3_i32_1133 c1_i32_1134
  let v1599 : BitVec 32 := Scalar.addi c0_i32_1135 v1598
  v1599.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_111 : BitVec 32 := 4#32
  let v88 : BitVec 1 := Scalar.cmpi .ne v2 c4_i32_111
  let v89 : BitVec 32 := Scalar.extui v88
  let c0_i32_112 : BitVec 32 := 0#32
  let v90 : BitVec 1 := Scalar.cmpi .ne v89 c0_i32_112
  v90

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev37 : Nat :=
  let c0_i32_1135 : BitVec 32 := 0#32
  let c4_i32_1133 : BitVec 32 := 4#32
  let c1_i32_1134 : BitVec 32 := 1#32
  let v1598 : BitVec 32 := Scalar.muli c4_i32_1133 c1_i32_1134
  let v1599 : BitVec 32 := Scalar.addi c0_i32_1135 v1598
  v1599.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_113 : BitVec 32 := 5#32
  let v91 : BitVec 1 := Scalar.cmpi .ne v2 c5_i32_113
  let v92 : BitVec 32 := Scalar.extui v91
  let c0_i32_114 : BitVec 32 := 0#32
  let v93 : BitVec 1 := Scalar.cmpi .ne v92 c0_i32_114
  v93

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev38 : Nat :=
  let c0_i32_1135 : BitVec 32 := 0#32
  let c5_i32_1133 : BitVec 32 := 5#32
  let c1_i32_1134 : BitVec 32 := 1#32
  let v1598 : BitVec 32 := Scalar.muli c5_i32_1133 c1_i32_1134
  let v1599 : BitVec 32 := Scalar.addi c0_i32_1135 v1598
  v1599.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_115 : BitVec 32 := 6#32
  let v94 : BitVec 1 := Scalar.cmpi .ne v2 c6_i32_115
  let v95 : BitVec 32 := Scalar.extui v94
  let c0_i32_116 : BitVec 32 := 0#32
  let v96 : BitVec 1 := Scalar.cmpi .ne v95 c0_i32_116
  v96

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev39 : Nat :=
  let c0_i32_1135 : BitVec 32 := 0#32
  let c6_i32_1133 : BitVec 32 := 6#32
  let c1_i32_1134 : BitVec 32 := 1#32
  let v1598 : BitVec 32 := Scalar.muli c6_i32_1133 c1_i32_1134
  let v1599 : BitVec 32 := Scalar.addi c0_i32_1135 v1598
  v1599.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_117 : BitVec 32 := 7#32
  let v97 : BitVec 1 := Scalar.cmpi .ne v2 c7_i32_117
  let v98 : BitVec 32 := Scalar.extui v97
  let c0_i32_118 : BitVec 32 := 0#32
  let v99 : BitVec 1 := Scalar.cmpi .ne v98 c0_i32_118
  v99

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev40 : Nat :=
  let c0_i32_1135 : BitVec 32 := 0#32
  let c7_i32_1133 : BitVec 32 := 7#32
  let c1_i32_1134 : BitVec 32 := 1#32
  let v1598 : BitVec 32 := Scalar.muli c7_i32_1133 c1_i32_1134
  let v1599 : BitVec 32 := Scalar.addi c0_i32_1135 v1598
  v1599.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_119 : BitVec 32 := 8#32
  let v100 : BitVec 1 := Scalar.cmpi .ne v2 c8_i32_119
  let v101 : BitVec 32 := Scalar.extui v100
  let c0_i32_120 : BitVec 32 := 0#32
  let v102 : BitVec 1 := Scalar.cmpi .ne v101 c0_i32_120
  v102

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev41 : Nat :=
  let c0_i32_1135 : BitVec 32 := 0#32
  let c8_i32_1133 : BitVec 32 := 8#32
  let c1_i32_1134 : BitVec 32 := 1#32
  let v1598 : BitVec 32 := Scalar.muli c8_i32_1133 c1_i32_1134
  let v1599 : BitVec 32 := Scalar.addi c0_i32_1135 v1598
  v1599.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_121 : BitVec 32 := 9#32
  let v103 : BitVec 1 := Scalar.cmpi .ne v2 c9_i32_121
  let v104 : BitVec 32 := Scalar.extui v103
  let c0_i32_122 : BitVec 32 := 0#32
  let v105 : BitVec 1 := Scalar.cmpi .ne v104 c0_i32_122
  v105

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev42 : Nat :=
  let c0_i32_1135 : BitVec 32 := 0#32
  let c9_i32_1133 : BitVec 32 := 9#32
  let c1_i32_1134 : BitVec 32 := 1#32
  let v1598 : BitVec 32 := Scalar.muli c9_i32_1133 c1_i32_1134
  let v1599 : BitVec 32 := Scalar.addi c0_i32_1135 v1598
  v1599.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_123 : BitVec 32 := 10#32
  let v106 : BitVec 1 := Scalar.cmpi .ne v2 c10_i32_123
  let v107 : BitVec 32 := Scalar.extui v106
  let c0_i32_124 : BitVec 32 := 0#32
  let v108 : BitVec 1 := Scalar.cmpi .ne v107 c0_i32_124
  v108

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev43 : Nat :=
  let c0_i32_1135 : BitVec 32 := 0#32
  let c10_i32_1133 : BitVec 32 := 10#32
  let c1_i32_1134 : BitVec 32 := 1#32
  let v1598 : BitVec 32 := Scalar.muli c10_i32_1133 c1_i32_1134
  let v1599 : BitVec 32 := Scalar.addi c0_i32_1135 v1598
  v1599.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_125 : BitVec 32 := 11#32
  let v109 : BitVec 1 := Scalar.cmpi .ne v2 c11_i32_125
  let v110 : BitVec 32 := Scalar.extui v109
  let c0_i32_126 : BitVec 32 := 0#32
  let v111 : BitVec 1 := Scalar.cmpi .ne v110 c0_i32_126
  v111

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev44 : Nat :=
  let c0_i32_1135 : BitVec 32 := 0#32
  let c11_i32_1133 : BitVec 32 := 11#32
  let c1_i32_1134 : BitVec 32 := 1#32
  let v1598 : BitVec 32 := Scalar.muli c11_i32_1133 c1_i32_1134
  let v1599 : BitVec 32 := Scalar.addi c0_i32_1135 v1598
  v1599.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_127 : BitVec 32 := 12#32
  let v112 : BitVec 1 := Scalar.cmpi .ne v2 c12_i32_127
  let v113 : BitVec 32 := Scalar.extui v112
  let c0_i32_128 : BitVec 32 := 0#32
  let v114 : BitVec 1 := Scalar.cmpi .ne v113 c0_i32_128
  v114

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev45 : Nat :=
  let c0_i32_1135 : BitVec 32 := 0#32
  let c12_i32_1133 : BitVec 32 := 12#32
  let c1_i32_1134 : BitVec 32 := 1#32
  let v1598 : BitVec 32 := Scalar.muli c12_i32_1133 c1_i32_1134
  let v1599 : BitVec 32 := Scalar.addi c0_i32_1135 v1598
  v1599.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_129 : BitVec 32 := 13#32
  let v115 : BitVec 1 := Scalar.cmpi .ne v2 c13_i32_129
  let v116 : BitVec 32 := Scalar.extui v115
  let c0_i32_130 : BitVec 32 := 0#32
  let v117 : BitVec 1 := Scalar.cmpi .ne v116 c0_i32_130
  v117

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev46 : Nat :=
  let c0_i32_1135 : BitVec 32 := 0#32
  let c13_i32_1133 : BitVec 32 := 13#32
  let c1_i32_1134 : BitVec 32 := 1#32
  let v1598 : BitVec 32 := Scalar.muli c13_i32_1133 c1_i32_1134
  let v1599 : BitVec 32 := Scalar.addi c0_i32_1135 v1598
  v1599.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_131 : BitVec 32 := 14#32
  let v118 : BitVec 1 := Scalar.cmpi .ne v2 c14_i32_131
  let v119 : BitVec 32 := Scalar.extui v118
  let c0_i32_132 : BitVec 32 := 0#32
  let v120 : BitVec 1 := Scalar.cmpi .ne v119 c0_i32_132
  v120

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev47 : Nat :=
  let c0_i32_1135 : BitVec 32 := 0#32
  let c14_i32_1133 : BitVec 32 := 14#32
  let c1_i32_1134 : BitVec 32 := 1#32
  let v1598 : BitVec 32 := Scalar.muli c14_i32_1133 c1_i32_1134
  let v1599 : BitVec 32 := Scalar.addi c0_i32_1135 v1598
  v1599.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_133 : BitVec 32 := 15#32
  let v121 : BitVec 1 := Scalar.cmpi .ne v2 c15_i32_133
  let v122 : BitVec 32 := Scalar.extui v121
  let c0_i32_134 : BitVec 32 := 0#32
  let v123 : BitVec 1 := Scalar.cmpi .ne v122 c0_i32_134
  v123

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev48 : Nat :=
  let c0_i32_1135 : BitVec 32 := 0#32
  let c15_i32_1133 : BitVec 32 := 15#32
  let c1_i32_1134 : BitVec 32 := 1#32
  let v1598 : BitVec 32 := Scalar.muli c15_i32_1133 c1_i32_1134
  let v1599 : BitVec 32 := Scalar.addi c0_i32_1135 v1598
  v1599.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_135 : BitVec 32 := 16#32
  let v124 : BitVec 1 := Scalar.cmpi .ne v2 c16_i32_135
  let v125 : BitVec 32 := Scalar.extui v124
  let c0_i32_136 : BitVec 32 := 0#32
  let v126 : BitVec 1 := Scalar.cmpi .ne v125 c0_i32_136
  v126

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev49 : Nat :=
  let c0_i32_1135 : BitVec 32 := 0#32
  let c16_i32_1133 : BitVec 32 := 16#32
  let c1_i32_1134 : BitVec 32 := 1#32
  let v1598 : BitVec 32 := Scalar.muli c16_i32_1133 c1_i32_1134
  let v1599 : BitVec 32 := Scalar.addi c0_i32_1135 v1598
  v1599.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_137 : BitVec 32 := 17#32
  let v127 : BitVec 1 := Scalar.cmpi .ne v2 c17_i32_137
  let v128 : BitVec 32 := Scalar.extui v127
  let c0_i32_138 : BitVec 32 := 0#32
  let v129 : BitVec 1 := Scalar.cmpi .ne v128 c0_i32_138
  v129

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev50 : Nat :=
  let c0_i32_1135 : BitVec 32 := 0#32
  let c17_i32_1133 : BitVec 32 := 17#32
  let c1_i32_1134 : BitVec 32 := 1#32
  let v1598 : BitVec 32 := Scalar.muli c17_i32_1133 c1_i32_1134
  let v1599 : BitVec 32 := Scalar.addi c0_i32_1135 v1598
  v1599.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_139 : BitVec 32 := 18#32
  let v130 : BitVec 1 := Scalar.cmpi .ne v2 c18_i32_139
  let v131 : BitVec 32 := Scalar.extui v130
  let c0_i32_140 : BitVec 32 := 0#32
  let v132 : BitVec 1 := Scalar.cmpi .ne v131 c0_i32_140
  v132

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev51 : Nat :=
  let c0_i32_1135 : BitVec 32 := 0#32
  let c18_i32_1133 : BitVec 32 := 18#32
  let c1_i32_1134 : BitVec 32 := 1#32
  let v1598 : BitVec 32 := Scalar.muli c18_i32_1133 c1_i32_1134
  let v1599 : BitVec 32 := Scalar.addi c0_i32_1135 v1598
  v1599.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_141 : BitVec 32 := 19#32
  let v133 : BitVec 1 := Scalar.cmpi .ne v2 c19_i32_141
  let v134 : BitVec 32 := Scalar.extui v133
  let c0_i32_142 : BitVec 32 := 0#32
  let v135 : BitVec 1 := Scalar.cmpi .ne v134 c0_i32_142
  v135

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off40 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev52 : Nat :=
  let c0_i32_1135 : BitVec 32 := 0#32
  let c19_i32_1133 : BitVec 32 := 19#32
  let c1_i32_1134 : BitVec 32 := 1#32
  let v1598 : BitVec 32 := Scalar.muli c19_i32_1133 c1_i32_1134
  let v1599 : BitVec 32 := Scalar.addi c0_i32_1135 v1598
  v1599.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_143 : BitVec 32 := 20#32
  let v136 : BitVec 1 := Scalar.cmpi .ne v2 c20_i32_143
  let v137 : BitVec 32 := Scalar.extui v136
  let c0_i32_144 : BitVec 32 := 0#32
  let v138 : BitVec 1 := Scalar.cmpi .ne v137 c0_i32_144
  v138

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev53 : Nat :=
  let c0_i32_1135 : BitVec 32 := 0#32
  let c20_i32_1133 : BitVec 32 := 20#32
  let c1_i32_1134 : BitVec 32 := 1#32
  let v1598 : BitVec 32 := Scalar.muli c20_i32_1133 c1_i32_1134
  let v1599 : BitVec 32 := Scalar.addi c0_i32_1135 v1598
  v1599.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_145 : BitVec 32 := 21#32
  let v139 : BitVec 1 := Scalar.cmpi .ne v2 c21_i32_145
  let v140 : BitVec 32 := Scalar.extui v139
  let c0_i32_146 : BitVec 32 := 0#32
  let v141 : BitVec 1 := Scalar.cmpi .ne v140 c0_i32_146
  v141

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev54 : Nat :=
  let c0_i32_1135 : BitVec 32 := 0#32
  let c21_i32_1133 : BitVec 32 := 21#32
  let c1_i32_1134 : BitVec 32 := 1#32
  let v1598 : BitVec 32 := Scalar.muli c21_i32_1133 c1_i32_1134
  let v1599 : BitVec 32 := Scalar.addi c0_i32_1135 v1598
  v1599.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_147 : BitVec 32 := 22#32
  let v142 : BitVec 1 := Scalar.cmpi .ne v2 c22_i32_147
  let v143 : BitVec 32 := Scalar.extui v142
  let c0_i32_148 : BitVec 32 := 0#32
  let v144 : BitVec 1 := Scalar.cmpi .ne v143 c0_i32_148
  v144

def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev55 : Nat :=
  let c0_i32_1135 : BitVec 32 := 0#32
  let c22_i32_1133 : BitVec 32 := 22#32
  let c1_i32_1134 : BitVec 32 := 1#32
  let v1598 : BitVec 32 := Scalar.muli c22_i32_1133 c1_i32_1134
  let v1599 : BitVec 32 := Scalar.addi c0_i32_1135 v1598
  v1599.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_149 : BitVec 32 := 23#32
  let v145 : BitVec 1 := Scalar.cmpi .ne v2 c23_i32_149
  let v146 : BitVec 32 := Scalar.extui v145
  let c0_i32_150 : BitVec 32 := 0#32
  let v147 : BitVec 1 := Scalar.cmpi .ne v146 c0_i32_150
  v147

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off48 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev56 : Nat :=
  let c0_i32_1135 : BitVec 32 := 0#32
  let c23_i32_1133 : BitVec 32 := 23#32
  let c1_i32_1134 : BitVec 32 := 1#32
  let v1598 : BitVec 32 := Scalar.muli c23_i32_1133 c1_i32_1134
  let v1599 : BitVec 32 := Scalar.addi c0_i32_1135 v1598
  v1599.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_151 : BitVec 32 := 24#32
  let v148 : BitVec 1 := Scalar.cmpi .ne v2 c24_i32_151
  let v149 : BitVec 32 := Scalar.extui v148
  let c0_i32_152 : BitVec 32 := 0#32
  let v150 : BitVec 1 := Scalar.cmpi .ne v149 c0_i32_152
  v150

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev57 : Nat :=
  let c0_i32_1135 : BitVec 32 := 0#32
  let c24_i32_1133 : BitVec 32 := 24#32
  let c1_i32_1134 : BitVec 32 := 1#32
  let v1598 : BitVec 32 := Scalar.muli c24_i32_1133 c1_i32_1134
  let v1599 : BitVec 32 := Scalar.addi c0_i32_1135 v1598
  v1599.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_153 : BitVec 32 := 25#32
  let v151 : BitVec 1 := Scalar.cmpi .ne v2 c25_i32_153
  let v152 : BitVec 32 := Scalar.extui v151
  let c0_i32_154 : BitVec 32 := 0#32
  let v153 : BitVec 1 := Scalar.cmpi .ne v152 c0_i32_154
  v153

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off52 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev58 : Nat :=
  let c0_i32_1135 : BitVec 32 := 0#32
  let c25_i32_1133 : BitVec 32 := 25#32
  let c1_i32_1134 : BitVec 32 := 1#32
  let v1598 : BitVec 32 := Scalar.muli c25_i32_1133 c1_i32_1134
  let v1599 : BitVec 32 := Scalar.addi c0_i32_1135 v1598
  v1599.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_155 : BitVec 32 := 26#32
  let v154 : BitVec 1 := Scalar.cmpi .ne v2 c26_i32_155
  let v155 : BitVec 32 := Scalar.extui v154
  let c0_i32_156 : BitVec 32 := 0#32
  let v156 : BitVec 1 := Scalar.cmpi .ne v155 c0_i32_156
  v156

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev59 : Nat :=
  let c0_i32_1135 : BitVec 32 := 0#32
  let c26_i32_1133 : BitVec 32 := 26#32
  let c1_i32_1134 : BitVec 32 := 1#32
  let v1598 : BitVec 32 := Scalar.muli c26_i32_1133 c1_i32_1134
  let v1599 : BitVec 32 := Scalar.addi c0_i32_1135 v1598
  v1599.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_157 : BitVec 32 := 27#32
  let v157 : BitVec 1 := Scalar.cmpi .ne v2 c27_i32_157
  let v158 : BitVec 32 := Scalar.extui v157
  let c0_i32_158 : BitVec 32 := 0#32
  let v159 : BitVec 1 := Scalar.cmpi .ne v158 c0_i32_158
  v159

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev60 : Nat :=
  let c0_i32_1135 : BitVec 32 := 0#32
  let c27_i32_1133 : BitVec 32 := 27#32
  let c1_i32_1134 : BitVec 32 := 1#32
  let v1598 : BitVec 32 := Scalar.muli c27_i32_1133 c1_i32_1134
  let v1599 : BitVec 32 := Scalar.addi c0_i32_1135 v1598
  v1599.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_159 : BitVec 32 := 28#32
  let v160 : BitVec 1 := Scalar.cmpi .ne v2 c28_i32_159
  let v161 : BitVec 32 := Scalar.extui v160
  let c0_i32_160 : BitVec 32 := 0#32
  let v162 : BitVec 1 := Scalar.cmpi .ne v161 c0_i32_160
  v162

def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev61 : Nat :=
  let c0_i32_1135 : BitVec 32 := 0#32
  let c28_i32_1133 : BitVec 32 := 28#32
  let c1_i32_1134 : BitVec 32 := 1#32
  let v1598 : BitVec 32 := Scalar.muli c28_i32_1133 c1_i32_1134
  let v1599 : BitVec 32 := Scalar.addi c0_i32_1135 v1598
  v1599.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_161 : BitVec 32 := 29#32
  let v163 : BitVec 1 := Scalar.cmpi .ne v2 c29_i32_161
  let v164 : BitVec 32 := Scalar.extui v163
  let c0_i32_162 : BitVec 32 := 0#32
  let v165 : BitVec 1 := Scalar.cmpi .ne v164 c0_i32_162
  v165

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off60 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev62 : Nat :=
  let c0_i32_1135 : BitVec 32 := 0#32
  let c29_i32_1133 : BitVec 32 := 29#32
  let c1_i32_1134 : BitVec 32 := 1#32
  let v1598 : BitVec 32 := Scalar.muli c29_i32_1133 c1_i32_1134
  let v1599 : BitVec 32 := Scalar.addi c0_i32_1135 v1598
  v1599.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_163 : BitVec 32 := 30#32
  let v166 : BitVec 1 := Scalar.cmpi .ne v2 c30_i32_163
  let v167 : BitVec 32 := Scalar.extui v166
  let c0_i32_164 : BitVec 32 := 0#32
  let v168 : BitVec 1 := Scalar.cmpi .ne v167 c0_i32_164
  v168

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev63 : Nat :=
  let c0_i32_1135 : BitVec 32 := 0#32
  let c30_i32_1133 : BitVec 32 := 30#32
  let c1_i32_1134 : BitVec 32 := 1#32
  let v1598 : BitVec 32 := Scalar.muli c30_i32_1133 c1_i32_1134
  let v1599 : BitVec 32 := Scalar.addi c0_i32_1135 v1598
  v1599.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_165 : BitVec 32 := 31#32
  let v169 : BitVec 1 := Scalar.cmpi .ne v2 c31_i32_165
  let v170 : BitVec 32 := Scalar.extui v169
  let c0_i32_166 : BitVec 32 := 0#32
  let v171 : BitVec 1 := Scalar.cmpi .ne v170 c0_i32_166
  v171

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off64 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev64 : Nat :=
  let c0_i32_1135 : BitVec 32 := 0#32
  let c31_i32_1133 : BitVec 32 := 31#32
  let c1_i32_1134 : BitVec 32 := 1#32
  let v1598 : BitVec 32 := Scalar.muli c31_i32_1133 c1_i32_1134
  let v1599 : BitVec 32 := Scalar.addi c0_i32_1135 v1598
  v1599.toNat
def k0_off65 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_167 : BitVec 32 := 8#32
  let v172 : BitVec 32 := Scalar.muli v2 c8_i32_167
  let v173 : Index := Scalar.indexCast v172
  let c0_168 : Index := 0#32
  ![v173.toNat, 0]
def k0_off66 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v175 : Index := Scalar.indexCast v2
  let c0_169 : Index := 0#32
  let c0_170 : Index := 0#32
  ![v175.toNat, 0, 0]
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_242 : BitVec 32 := 0#32
  let v282 : BitVec 1 := Scalar.cmpi .ne v2 c0_i32_242
  let v283 : BitVec 32 := Scalar.extui v282
  let c0_i32_243 : BitVec 32 := 0#32
  let v284 : BitVec 1 := Scalar.cmpi .ne v283 c0_i32_243
  v284

def k0_off67 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off68 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev65 : Nat :=
  let c0_i32_1135 : BitVec 32 := 0#32
  let c0_i32_1133 : BitVec 32 := 0#32
  let c1_i32_1134 : BitVec 32 := 1#32
  let v1598 : BitVec 32 := Scalar.muli c0_i32_1133 c1_i32_1134
  let v1599 : BitVec 32 := Scalar.addi c0_i32_1135 v1598
  v1599.toNat
def k0_cond66 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_244 : BitVec 32 := 1#32
  let v285 : BitVec 1 := Scalar.cmpi .ne v2 c1_i32_244
  let v286 : BitVec 32 := Scalar.extui v285
  let c0_i32_245 : BitVec 32 := 0#32
  let v287 : BitVec 1 := Scalar.cmpi .ne v286 c0_i32_245
  v287

def k0_off69 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off70 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev66 : Nat :=
  let c0_i32_1135 : BitVec 32 := 0#32
  let c1_i32_1133 : BitVec 32 := 1#32
  let c1_i32_1134 : BitVec 32 := 1#32
  let v1598 : BitVec 32 := Scalar.muli c1_i32_1133 c1_i32_1134
  let v1599 : BitVec 32 := Scalar.addi c0_i32_1135 v1598
  v1599.toNat
def k0_cond67 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_246 : BitVec 32 := 2#32
  let v288 : BitVec 1 := Scalar.cmpi .ne v2 c2_i32_246
  let v289 : BitVec 32 := Scalar.extui v288
  let c0_i32_247 : BitVec 32 := 0#32
  let v290 : BitVec 1 := Scalar.cmpi .ne v289 c0_i32_247
  v290

def k0_off71 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off72 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev67 : Nat :=
  let c0_i32_1135 : BitVec 32 := 0#32
  let c2_i32_1133 : BitVec 32 := 2#32
  let c1_i32_1134 : BitVec 32 := 1#32
  let v1598 : BitVec 32 := Scalar.muli c2_i32_1133 c1_i32_1134
  let v1599 : BitVec 32 := Scalar.addi c0_i32_1135 v1598
  v1599.toNat
def k0_cond68 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_248 : BitVec 32 := 3#32
  let v291 : BitVec 1 := Scalar.cmpi .ne v2 c3_i32_248
  let v292 : BitVec 32 := Scalar.extui v291
  let c0_i32_249 : BitVec 32 := 0#32
  let v293 : BitVec 1 := Scalar.cmpi .ne v292 c0_i32_249
  v293

def k0_off73 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off74 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev68 : Nat :=
  let c0_i32_1135 : BitVec 32 := 0#32
  let c3_i32_1133 : BitVec 32 := 3#32
  let c1_i32_1134 : BitVec 32 := 1#32
  let v1598 : BitVec 32 := Scalar.muli c3_i32_1133 c1_i32_1134
  let v1599 : BitVec 32 := Scalar.addi c0_i32_1135 v1598
  v1599.toNat
def k0_cond69 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_250 : BitVec 32 := 4#32
  let v294 : BitVec 1 := Scalar.cmpi .ne v2 c4_i32_250
  let v295 : BitVec 32 := Scalar.extui v294
  let c0_i32_251 : BitVec 32 := 0#32
  let v296 : BitVec 1 := Scalar.cmpi .ne v295 c0_i32_251
  v296

def k0_off75 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off76 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev69 : Nat :=
  let c0_i32_1135 : BitVec 32 := 0#32
  let c4_i32_1133 : BitVec 32 := 4#32
  let c1_i32_1134 : BitVec 32 := 1#32
  let v1598 : BitVec 32 := Scalar.muli c4_i32_1133 c1_i32_1134
  let v1599 : BitVec 32 := Scalar.addi c0_i32_1135 v1598
  v1599.toNat
def k0_cond70 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_252 : BitVec 32 := 5#32
  let v297 : BitVec 1 := Scalar.cmpi .ne v2 c5_i32_252
  let v298 : BitVec 32 := Scalar.extui v297
  let c0_i32_253 : BitVec 32 := 0#32
  let v299 : BitVec 1 := Scalar.cmpi .ne v298 c0_i32_253
  v299

def k0_off77 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off78 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev70 : Nat :=
  let c0_i32_1135 : BitVec 32 := 0#32
  let c5_i32_1133 : BitVec 32 := 5#32
  let c1_i32_1134 : BitVec 32 := 1#32
  let v1598 : BitVec 32 := Scalar.muli c5_i32_1133 c1_i32_1134
  let v1599 : BitVec 32 := Scalar.addi c0_i32_1135 v1598
  v1599.toNat
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_254 : BitVec 32 := 6#32
  let v300 : BitVec 1 := Scalar.cmpi .ne v2 c6_i32_254
  let v301 : BitVec 32 := Scalar.extui v300
  let c0_i32_255 : BitVec 32 := 0#32
  let v302 : BitVec 1 := Scalar.cmpi .ne v301 c0_i32_255
  v302

def k0_off79 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off80 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev71 : Nat :=
  let c0_i32_1135 : BitVec 32 := 0#32
  let c6_i32_1133 : BitVec 32 := 6#32
  let c1_i32_1134 : BitVec 32 := 1#32
  let v1598 : BitVec 32 := Scalar.muli c6_i32_1133 c1_i32_1134
  let v1599 : BitVec 32 := Scalar.addi c0_i32_1135 v1598
  v1599.toNat
def k0_cond72 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_256 : BitVec 32 := 7#32
  let v303 : BitVec 1 := Scalar.cmpi .ne v2 c7_i32_256
  let v304 : BitVec 32 := Scalar.extui v303
  let c0_i32_257 : BitVec 32 := 0#32
  let v305 : BitVec 1 := Scalar.cmpi .ne v304 c0_i32_257
  v305

def k0_off81 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off82 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev72 : Nat :=
  let c0_i32_1135 : BitVec 32 := 0#32
  let c7_i32_1133 : BitVec 32 := 7#32
  let c1_i32_1134 : BitVec 32 := 1#32
  let v1598 : BitVec 32 := Scalar.muli c7_i32_1133 c1_i32_1134
  let v1599 : BitVec 32 := Scalar.addi c0_i32_1135 v1598
  v1599.toNat
def k0_cond73 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_258 : BitVec 32 := 8#32
  let v306 : BitVec 1 := Scalar.cmpi .ne v2 c8_i32_258
  let v307 : BitVec 32 := Scalar.extui v306
  let c0_i32_259 : BitVec 32 := 0#32
  let v308 : BitVec 1 := Scalar.cmpi .ne v307 c0_i32_259
  v308

def k0_off83 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off84 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev73 : Nat :=
  let c0_i32_1135 : BitVec 32 := 0#32
  let c8_i32_1133 : BitVec 32 := 8#32
  let c1_i32_1134 : BitVec 32 := 1#32
  let v1598 : BitVec 32 := Scalar.muli c8_i32_1133 c1_i32_1134
  let v1599 : BitVec 32 := Scalar.addi c0_i32_1135 v1598
  v1599.toNat
def k0_cond74 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_260 : BitVec 32 := 9#32
  let v309 : BitVec 1 := Scalar.cmpi .ne v2 c9_i32_260
  let v310 : BitVec 32 := Scalar.extui v309
  let c0_i32_261 : BitVec 32 := 0#32
  let v311 : BitVec 1 := Scalar.cmpi .ne v310 c0_i32_261
  v311

def k0_off85 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off86 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev74 : Nat :=
  let c0_i32_1135 : BitVec 32 := 0#32
  let c9_i32_1133 : BitVec 32 := 9#32
  let c1_i32_1134 : BitVec 32 := 1#32
  let v1598 : BitVec 32 := Scalar.muli c9_i32_1133 c1_i32_1134
  let v1599 : BitVec 32 := Scalar.addi c0_i32_1135 v1598
  v1599.toNat
def k0_cond75 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_262 : BitVec 32 := 10#32
  let v312 : BitVec 1 := Scalar.cmpi .ne v2 c10_i32_262
  let v313 : BitVec 32 := Scalar.extui v312
  let c0_i32_263 : BitVec 32 := 0#32
  let v314 : BitVec 1 := Scalar.cmpi .ne v313 c0_i32_263
  v314

def k0_off87 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off88 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev75 : Nat :=
  let c0_i32_1135 : BitVec 32 := 0#32
  let c10_i32_1133 : BitVec 32 := 10#32
  let c1_i32_1134 : BitVec 32 := 1#32
  let v1598 : BitVec 32 := Scalar.muli c10_i32_1133 c1_i32_1134
  let v1599 : BitVec 32 := Scalar.addi c0_i32_1135 v1598
  v1599.toNat
def k0_cond76 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_264 : BitVec 32 := 11#32
  let v315 : BitVec 1 := Scalar.cmpi .ne v2 c11_i32_264
  let v316 : BitVec 32 := Scalar.extui v315
  let c0_i32_265 : BitVec 32 := 0#32
  let v317 : BitVec 1 := Scalar.cmpi .ne v316 c0_i32_265
  v317

def k0_off89 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off90 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev76 : Nat :=
  let c0_i32_1135 : BitVec 32 := 0#32
  let c11_i32_1133 : BitVec 32 := 11#32
  let c1_i32_1134 : BitVec 32 := 1#32
  let v1598 : BitVec 32 := Scalar.muli c11_i32_1133 c1_i32_1134
  let v1599 : BitVec 32 := Scalar.addi c0_i32_1135 v1598
  v1599.toNat
def k0_cond77 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_266 : BitVec 32 := 12#32
  let v318 : BitVec 1 := Scalar.cmpi .ne v2 c12_i32_266
  let v319 : BitVec 32 := Scalar.extui v318
  let c0_i32_267 : BitVec 32 := 0#32
  let v320 : BitVec 1 := Scalar.cmpi .ne v319 c0_i32_267
  v320

def k0_off91 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off92 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev77 : Nat :=
  let c0_i32_1135 : BitVec 32 := 0#32
  let c12_i32_1133 : BitVec 32 := 12#32
  let c1_i32_1134 : BitVec 32 := 1#32
  let v1598 : BitVec 32 := Scalar.muli c12_i32_1133 c1_i32_1134
  let v1599 : BitVec 32 := Scalar.addi c0_i32_1135 v1598
  v1599.toNat
def k0_cond78 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_268 : BitVec 32 := 13#32
  let v321 : BitVec 1 := Scalar.cmpi .ne v2 c13_i32_268
  let v322 : BitVec 32 := Scalar.extui v321
  let c0_i32_269 : BitVec 32 := 0#32
  let v323 : BitVec 1 := Scalar.cmpi .ne v322 c0_i32_269
  v323

def k0_off93 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off94 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev78 : Nat :=
  let c0_i32_1135 : BitVec 32 := 0#32
  let c13_i32_1133 : BitVec 32 := 13#32
  let c1_i32_1134 : BitVec 32 := 1#32
  let v1598 : BitVec 32 := Scalar.muli c13_i32_1133 c1_i32_1134
  let v1599 : BitVec 32 := Scalar.addi c0_i32_1135 v1598
  v1599.toNat
def k0_cond79 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_270 : BitVec 32 := 14#32
  let v324 : BitVec 1 := Scalar.cmpi .ne v2 c14_i32_270
  let v325 : BitVec 32 := Scalar.extui v324
  let c0_i32_271 : BitVec 32 := 0#32
  let v326 : BitVec 1 := Scalar.cmpi .ne v325 c0_i32_271
  v326

def k0_off95 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off96 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev79 : Nat :=
  let c0_i32_1135 : BitVec 32 := 0#32
  let c14_i32_1133 : BitVec 32 := 14#32
  let c1_i32_1134 : BitVec 32 := 1#32
  let v1598 : BitVec 32 := Scalar.muli c14_i32_1133 c1_i32_1134
  let v1599 : BitVec 32 := Scalar.addi c0_i32_1135 v1598
  v1599.toNat
def k0_cond80 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_272 : BitVec 32 := 15#32
  let v327 : BitVec 1 := Scalar.cmpi .ne v2 c15_i32_272
  let v328 : BitVec 32 := Scalar.extui v327
  let c0_i32_273 : BitVec 32 := 0#32
  let v329 : BitVec 1 := Scalar.cmpi .ne v328 c0_i32_273
  v329

def k0_off97 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off98 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev80 : Nat :=
  let c0_i32_1135 : BitVec 32 := 0#32
  let c15_i32_1133 : BitVec 32 := 15#32
  let c1_i32_1134 : BitVec 32 := 1#32
  let v1598 : BitVec 32 := Scalar.muli c15_i32_1133 c1_i32_1134
  let v1599 : BitVec 32 := Scalar.addi c0_i32_1135 v1598
  v1599.toNat
def k0_cond81 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_274 : BitVec 32 := 16#32
  let v330 : BitVec 1 := Scalar.cmpi .ne v2 c16_i32_274
  let v331 : BitVec 32 := Scalar.extui v330
  let c0_i32_275 : BitVec 32 := 0#32
  let v332 : BitVec 1 := Scalar.cmpi .ne v331 c0_i32_275
  v332

def k0_off99 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off100 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev81 : Nat :=
  let c0_i32_1135 : BitVec 32 := 0#32
  let c16_i32_1133 : BitVec 32 := 16#32
  let c1_i32_1134 : BitVec 32 := 1#32
  let v1598 : BitVec 32 := Scalar.muli c16_i32_1133 c1_i32_1134
  let v1599 : BitVec 32 := Scalar.addi c0_i32_1135 v1598
  v1599.toNat
def k0_cond82 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_276 : BitVec 32 := 17#32
  let v333 : BitVec 1 := Scalar.cmpi .ne v2 c17_i32_276
  let v334 : BitVec 32 := Scalar.extui v333
  let c0_i32_277 : BitVec 32 := 0#32
  let v335 : BitVec 1 := Scalar.cmpi .ne v334 c0_i32_277
  v335

def k0_off101 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off102 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev82 : Nat :=
  let c0_i32_1135 : BitVec 32 := 0#32
  let c17_i32_1133 : BitVec 32 := 17#32
  let c1_i32_1134 : BitVec 32 := 1#32
  let v1598 : BitVec 32 := Scalar.muli c17_i32_1133 c1_i32_1134
  let v1599 : BitVec 32 := Scalar.addi c0_i32_1135 v1598
  v1599.toNat
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_278 : BitVec 32 := 18#32
  let v336 : BitVec 1 := Scalar.cmpi .ne v2 c18_i32_278
  let v337 : BitVec 32 := Scalar.extui v336
  let c0_i32_279 : BitVec 32 := 0#32
  let v338 : BitVec 1 := Scalar.cmpi .ne v337 c0_i32_279
  v338

def k0_off103 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off104 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev83 : Nat :=
  let c0_i32_1135 : BitVec 32 := 0#32
  let c18_i32_1133 : BitVec 32 := 18#32
  let c1_i32_1134 : BitVec 32 := 1#32
  let v1598 : BitVec 32 := Scalar.muli c18_i32_1133 c1_i32_1134
  let v1599 : BitVec 32 := Scalar.addi c0_i32_1135 v1598
  v1599.toNat
def k0_cond84 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_280 : BitVec 32 := 19#32
  let v339 : BitVec 1 := Scalar.cmpi .ne v2 c19_i32_280
  let v340 : BitVec 32 := Scalar.extui v339
  let c0_i32_281 : BitVec 32 := 0#32
  let v341 : BitVec 1 := Scalar.cmpi .ne v340 c0_i32_281
  v341

def k0_off105 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off106 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev84 : Nat :=
  let c0_i32_1135 : BitVec 32 := 0#32
  let c19_i32_1133 : BitVec 32 := 19#32
  let c1_i32_1134 : BitVec 32 := 1#32
  let v1598 : BitVec 32 := Scalar.muli c19_i32_1133 c1_i32_1134
  let v1599 : BitVec 32 := Scalar.addi c0_i32_1135 v1598
  v1599.toNat
def k0_cond85 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_282 : BitVec 32 := 20#32
  let v342 : BitVec 1 := Scalar.cmpi .ne v2 c20_i32_282
  let v343 : BitVec 32 := Scalar.extui v342
  let c0_i32_283 : BitVec 32 := 0#32
  let v344 : BitVec 1 := Scalar.cmpi .ne v343 c0_i32_283
  v344

def k0_off107 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off108 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev85 : Nat :=
  let c0_i32_1135 : BitVec 32 := 0#32
  let c20_i32_1133 : BitVec 32 := 20#32
  let c1_i32_1134 : BitVec 32 := 1#32
  let v1598 : BitVec 32 := Scalar.muli c20_i32_1133 c1_i32_1134
  let v1599 : BitVec 32 := Scalar.addi c0_i32_1135 v1598
  v1599.toNat
def k0_cond86 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_284 : BitVec 32 := 21#32
  let v345 : BitVec 1 := Scalar.cmpi .ne v2 c21_i32_284
  let v346 : BitVec 32 := Scalar.extui v345
  let c0_i32_285 : BitVec 32 := 0#32
  let v347 : BitVec 1 := Scalar.cmpi .ne v346 c0_i32_285
  v347

def k0_off109 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off110 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev86 : Nat :=
  let c0_i32_1135 : BitVec 32 := 0#32
  let c21_i32_1133 : BitVec 32 := 21#32
  let c1_i32_1134 : BitVec 32 := 1#32
  let v1598 : BitVec 32 := Scalar.muli c21_i32_1133 c1_i32_1134
  let v1599 : BitVec 32 := Scalar.addi c0_i32_1135 v1598
  v1599.toNat
def k0_cond87 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_286 : BitVec 32 := 22#32
  let v348 : BitVec 1 := Scalar.cmpi .ne v2 c22_i32_286
  let v349 : BitVec 32 := Scalar.extui v348
  let c0_i32_287 : BitVec 32 := 0#32
  let v350 : BitVec 1 := Scalar.cmpi .ne v349 c0_i32_287
  v350

def k0_off111 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off112 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev87 : Nat :=
  let c0_i32_1135 : BitVec 32 := 0#32
  let c22_i32_1133 : BitVec 32 := 22#32
  let c1_i32_1134 : BitVec 32 := 1#32
  let v1598 : BitVec 32 := Scalar.muli c22_i32_1133 c1_i32_1134
  let v1599 : BitVec 32 := Scalar.addi c0_i32_1135 v1598
  v1599.toNat
def k0_cond88 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_288 : BitVec 32 := 23#32
  let v351 : BitVec 1 := Scalar.cmpi .ne v2 c23_i32_288
  let v352 : BitVec 32 := Scalar.extui v351
  let c0_i32_289 : BitVec 32 := 0#32
  let v353 : BitVec 1 := Scalar.cmpi .ne v352 c0_i32_289
  v353

def k0_off113 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off114 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev88 : Nat :=
  let c0_i32_1135 : BitVec 32 := 0#32
  let c23_i32_1133 : BitVec 32 := 23#32
  let c1_i32_1134 : BitVec 32 := 1#32
  let v1598 : BitVec 32 := Scalar.muli c23_i32_1133 c1_i32_1134
  let v1599 : BitVec 32 := Scalar.addi c0_i32_1135 v1598
  v1599.toNat
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_290 : BitVec 32 := 24#32
  let v354 : BitVec 1 := Scalar.cmpi .ne v2 c24_i32_290
  let v355 : BitVec 32 := Scalar.extui v354
  let c0_i32_291 : BitVec 32 := 0#32
  let v356 : BitVec 1 := Scalar.cmpi .ne v355 c0_i32_291
  v356

def k0_off115 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off116 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev89 : Nat :=
  let c0_i32_1135 : BitVec 32 := 0#32
  let c24_i32_1133 : BitVec 32 := 24#32
  let c1_i32_1134 : BitVec 32 := 1#32
  let v1598 : BitVec 32 := Scalar.muli c24_i32_1133 c1_i32_1134
  let v1599 : BitVec 32 := Scalar.addi c0_i32_1135 v1598
  v1599.toNat
def k0_cond90 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_292 : BitVec 32 := 25#32
  let v357 : BitVec 1 := Scalar.cmpi .ne v2 c25_i32_292
  let v358 : BitVec 32 := Scalar.extui v357
  let c0_i32_293 : BitVec 32 := 0#32
  let v359 : BitVec 1 := Scalar.cmpi .ne v358 c0_i32_293
  v359

def k0_off117 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off118 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev90 : Nat :=
  let c0_i32_1135 : BitVec 32 := 0#32
  let c25_i32_1133 : BitVec 32 := 25#32
  let c1_i32_1134 : BitVec 32 := 1#32
  let v1598 : BitVec 32 := Scalar.muli c25_i32_1133 c1_i32_1134
  let v1599 : BitVec 32 := Scalar.addi c0_i32_1135 v1598
  v1599.toNat
def k0_cond91 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_294 : BitVec 32 := 26#32
  let v360 : BitVec 1 := Scalar.cmpi .ne v2 c26_i32_294
  let v361 : BitVec 32 := Scalar.extui v360
  let c0_i32_295 : BitVec 32 := 0#32
  let v362 : BitVec 1 := Scalar.cmpi .ne v361 c0_i32_295
  v362

def k0_off119 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off120 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev91 : Nat :=
  let c0_i32_1135 : BitVec 32 := 0#32
  let c26_i32_1133 : BitVec 32 := 26#32
  let c1_i32_1134 : BitVec 32 := 1#32
  let v1598 : BitVec 32 := Scalar.muli c26_i32_1133 c1_i32_1134
  let v1599 : BitVec 32 := Scalar.addi c0_i32_1135 v1598
  v1599.toNat
def k0_cond92 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_296 : BitVec 32 := 27#32
  let v363 : BitVec 1 := Scalar.cmpi .ne v2 c27_i32_296
  let v364 : BitVec 32 := Scalar.extui v363
  let c0_i32_297 : BitVec 32 := 0#32
  let v365 : BitVec 1 := Scalar.cmpi .ne v364 c0_i32_297
  v365

def k0_off121 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off122 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev92 : Nat :=
  let c0_i32_1135 : BitVec 32 := 0#32
  let c27_i32_1133 : BitVec 32 := 27#32
  let c1_i32_1134 : BitVec 32 := 1#32
  let v1598 : BitVec 32 := Scalar.muli c27_i32_1133 c1_i32_1134
  let v1599 : BitVec 32 := Scalar.addi c0_i32_1135 v1598
  v1599.toNat
def k0_cond93 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_298 : BitVec 32 := 28#32
  let v366 : BitVec 1 := Scalar.cmpi .ne v2 c28_i32_298
  let v367 : BitVec 32 := Scalar.extui v366
  let c0_i32_299 : BitVec 32 := 0#32
  let v368 : BitVec 1 := Scalar.cmpi .ne v367 c0_i32_299
  v368

def k0_off123 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off124 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev93 : Nat :=
  let c0_i32_1135 : BitVec 32 := 0#32
  let c28_i32_1133 : BitVec 32 := 28#32
  let c1_i32_1134 : BitVec 32 := 1#32
  let v1598 : BitVec 32 := Scalar.muli c28_i32_1133 c1_i32_1134
  let v1599 : BitVec 32 := Scalar.addi c0_i32_1135 v1598
  v1599.toNat
def k0_cond94 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_300 : BitVec 32 := 29#32
  let v369 : BitVec 1 := Scalar.cmpi .ne v2 c29_i32_300
  let v370 : BitVec 32 := Scalar.extui v369
  let c0_i32_301 : BitVec 32 := 0#32
  let v371 : BitVec 1 := Scalar.cmpi .ne v370 c0_i32_301
  v371

def k0_off125 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off126 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev94 : Nat :=
  let c0_i32_1135 : BitVec 32 := 0#32
  let c29_i32_1133 : BitVec 32 := 29#32
  let c1_i32_1134 : BitVec 32 := 1#32
  let v1598 : BitVec 32 := Scalar.muli c29_i32_1133 c1_i32_1134
  let v1599 : BitVec 32 := Scalar.addi c0_i32_1135 v1598
  v1599.toNat
def k0_cond95 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_302 : BitVec 32 := 30#32
  let v372 : BitVec 1 := Scalar.cmpi .ne v2 c30_i32_302
  let v373 : BitVec 32 := Scalar.extui v372
  let c0_i32_303 : BitVec 32 := 0#32
  let v374 : BitVec 1 := Scalar.cmpi .ne v373 c0_i32_303
  v374

def k0_off127 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off128 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev95 : Nat :=
  let c0_i32_1135 : BitVec 32 := 0#32
  let c30_i32_1133 : BitVec 32 := 30#32
  let c1_i32_1134 : BitVec 32 := 1#32
  let v1598 : BitVec 32 := Scalar.muli c30_i32_1133 c1_i32_1134
  let v1599 : BitVec 32 := Scalar.addi c0_i32_1135 v1598
  v1599.toNat
def k0_cond96 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_304 : BitVec 32 := 31#32
  let v375 : BitVec 1 := Scalar.cmpi .ne v2 c31_i32_304
  let v376 : BitVec 32 := Scalar.extui v375
  let c0_i32_305 : BitVec 32 := 0#32
  let v377 : BitVec 1 := Scalar.cmpi .ne v376 c0_i32_305
  v377

def k0_off129 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off130 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev96 : Nat :=
  let c0_i32_1135 : BitVec 32 := 0#32
  let c31_i32_1133 : BitVec 32 := 31#32
  let c1_i32_1134 : BitVec 32 := 1#32
  let v1598 : BitVec 32 := Scalar.muli c31_i32_1133 c1_i32_1134
  let v1599 : BitVec 32 := Scalar.addi c0_i32_1135 v1598
  v1599.toNat
def k0_cond129 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_378 : BitVec 32 := 0#32
  let v483 : BitVec 1 := Scalar.cmpi .ne v2 c0_i32_378
  let v484 : BitVec 32 := Scalar.extui v483
  let c0_i32_379 : BitVec 32 := 0#32
  let v485 : BitVec 1 := Scalar.cmpi .ne v484 c0_i32_379
  v485

def k0_off131 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1137 : BitVec 32 := 0#32
  let c0_i32_1138 : BitVec 32 := 0#32
  ![v2.toNat, 0, 0]
def k0_cond130 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_380 : BitVec 32 := 1#32
  let v486 : BitVec 1 := Scalar.cmpi .ne v2 c1_i32_380
  let v487 : BitVec 32 := Scalar.extui v486
  let c0_i32_381 : BitVec 32 := 0#32
  let v488 : BitVec 1 := Scalar.cmpi .ne v487 c0_i32_381
  v488

def k0_off132 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1137 : BitVec 32 := 0#32
  let c0_i32_1138 : BitVec 32 := 0#32
  ![v2.toNat, 0, 0]
def k0_cond131 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_382 : BitVec 32 := 2#32
  let v489 : BitVec 1 := Scalar.cmpi .ne v2 c2_i32_382
  let v490 : BitVec 32 := Scalar.extui v489
  let c0_i32_383 : BitVec 32 := 0#32
  let v491 : BitVec 1 := Scalar.cmpi .ne v490 c0_i32_383
  v491

def k0_off133 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1137 : BitVec 32 := 0#32
  let c0_i32_1138 : BitVec 32 := 0#32
  ![v2.toNat, 0, 0]
def k0_cond132 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_384 : BitVec 32 := 3#32
  let v492 : BitVec 1 := Scalar.cmpi .ne v2 c3_i32_384
  let v493 : BitVec 32 := Scalar.extui v492
  let c0_i32_385 : BitVec 32 := 0#32
  let v494 : BitVec 1 := Scalar.cmpi .ne v493 c0_i32_385
  v494

def k0_off134 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1137 : BitVec 32 := 0#32
  let c0_i32_1138 : BitVec 32 := 0#32
  ![v2.toNat, 0, 0]
def k0_cond133 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_386 : BitVec 32 := 4#32
  let v495 : BitVec 1 := Scalar.cmpi .ne v2 c4_i32_386
  let v496 : BitVec 32 := Scalar.extui v495
  let c0_i32_387 : BitVec 32 := 0#32
  let v497 : BitVec 1 := Scalar.cmpi .ne v496 c0_i32_387
  v497

def k0_off135 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1137 : BitVec 32 := 0#32
  let c0_i32_1138 : BitVec 32 := 0#32
  ![v2.toNat, 0, 0]
def k0_cond134 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_388 : BitVec 32 := 5#32
  let v498 : BitVec 1 := Scalar.cmpi .ne v2 c5_i32_388
  let v499 : BitVec 32 := Scalar.extui v498
  let c0_i32_389 : BitVec 32 := 0#32
  let v500 : BitVec 1 := Scalar.cmpi .ne v499 c0_i32_389
  v500

def k0_off136 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond135 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_390 : BitVec 32 := 6#32
  let v501 : BitVec 1 := Scalar.cmpi .ne v2 c6_i32_390
  let v502 : BitVec 32 := Scalar.extui v501
  let c0_i32_391 : BitVec 32 := 0#32
  let v503 : BitVec 1 := Scalar.cmpi .ne v502 c0_i32_391
  v503

def k0_off137 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond136 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_392 : BitVec 32 := 7#32
  let v504 : BitVec 1 := Scalar.cmpi .ne v2 c7_i32_392
  let v505 : BitVec 32 := Scalar.extui v504
  let c0_i32_393 : BitVec 32 := 0#32
  let v506 : BitVec 1 := Scalar.cmpi .ne v505 c0_i32_393
  v506

def k0_off138 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond137 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_394 : BitVec 32 := 8#32
  let v507 : BitVec 1 := Scalar.cmpi .ne v2 c8_i32_394
  let v508 : BitVec 32 := Scalar.extui v507
  let c0_i32_395 : BitVec 32 := 0#32
  let v509 : BitVec 1 := Scalar.cmpi .ne v508 c0_i32_395
  v509

def k0_off139 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond138 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_396 : BitVec 32 := 9#32
  let v510 : BitVec 1 := Scalar.cmpi .ne v2 c9_i32_396
  let v511 : BitVec 32 := Scalar.extui v510
  let c0_i32_397 : BitVec 32 := 0#32
  let v512 : BitVec 1 := Scalar.cmpi .ne v511 c0_i32_397
  v512

def k0_off140 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond139 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_398 : BitVec 32 := 10#32
  let v513 : BitVec 1 := Scalar.cmpi .ne v2 c10_i32_398
  let v514 : BitVec 32 := Scalar.extui v513
  let c0_i32_399 : BitVec 32 := 0#32
  let v515 : BitVec 1 := Scalar.cmpi .ne v514 c0_i32_399
  v515

def k0_off141 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond140 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_400 : BitVec 32 := 11#32
  let v516 : BitVec 1 := Scalar.cmpi .ne v2 c11_i32_400
  let v517 : BitVec 32 := Scalar.extui v516
  let c0_i32_401 : BitVec 32 := 0#32
  let v518 : BitVec 1 := Scalar.cmpi .ne v517 c0_i32_401
  v518

def k0_off142 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond141 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_402 : BitVec 32 := 12#32
  let v519 : BitVec 1 := Scalar.cmpi .ne v2 c12_i32_402
  let v520 : BitVec 32 := Scalar.extui v519
  let c0_i32_403 : BitVec 32 := 0#32
  let v521 : BitVec 1 := Scalar.cmpi .ne v520 c0_i32_403
  v521

def k0_off143 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond142 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_404 : BitVec 32 := 13#32
  let v522 : BitVec 1 := Scalar.cmpi .ne v2 c13_i32_404
  let v523 : BitVec 32 := Scalar.extui v522
  let c0_i32_405 : BitVec 32 := 0#32
  let v524 : BitVec 1 := Scalar.cmpi .ne v523 c0_i32_405
  v524

def k0_off144 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond143 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_406 : BitVec 32 := 14#32
  let v525 : BitVec 1 := Scalar.cmpi .ne v2 c14_i32_406
  let v526 : BitVec 32 := Scalar.extui v525
  let c0_i32_407 : BitVec 32 := 0#32
  let v527 : BitVec 1 := Scalar.cmpi .ne v526 c0_i32_407
  v527

def k0_off145 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond144 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_408 : BitVec 32 := 15#32
  let v528 : BitVec 1 := Scalar.cmpi .ne v2 c15_i32_408
  let v529 : BitVec 32 := Scalar.extui v528
  let c0_i32_409 : BitVec 32 := 0#32
  let v530 : BitVec 1 := Scalar.cmpi .ne v529 c0_i32_409
  v530

def k0_off146 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond145 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_410 : BitVec 32 := 16#32
  let v531 : BitVec 1 := Scalar.cmpi .ne v2 c16_i32_410
  let v532 : BitVec 32 := Scalar.extui v531
  let c0_i32_411 : BitVec 32 := 0#32
  let v533 : BitVec 1 := Scalar.cmpi .ne v532 c0_i32_411
  v533

def k0_off147 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond146 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_412 : BitVec 32 := 17#32
  let v534 : BitVec 1 := Scalar.cmpi .ne v2 c17_i32_412
  let v535 : BitVec 32 := Scalar.extui v534
  let c0_i32_413 : BitVec 32 := 0#32
  let v536 : BitVec 1 := Scalar.cmpi .ne v535 c0_i32_413
  v536

def k0_off148 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond147 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_414 : BitVec 32 := 18#32
  let v537 : BitVec 1 := Scalar.cmpi .ne v2 c18_i32_414
  let v538 : BitVec 32 := Scalar.extui v537
  let c0_i32_415 : BitVec 32 := 0#32
  let v539 : BitVec 1 := Scalar.cmpi .ne v538 c0_i32_415
  v539

def k0_off149 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond148 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_416 : BitVec 32 := 19#32
  let v540 : BitVec 1 := Scalar.cmpi .ne v2 c19_i32_416
  let v541 : BitVec 32 := Scalar.extui v540
  let c0_i32_417 : BitVec 32 := 0#32
  let v542 : BitVec 1 := Scalar.cmpi .ne v541 c0_i32_417
  v542

def k0_off150 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond149 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_418 : BitVec 32 := 20#32
  let v543 : BitVec 1 := Scalar.cmpi .ne v2 c20_i32_418
  let v544 : BitVec 32 := Scalar.extui v543
  let c0_i32_419 : BitVec 32 := 0#32
  let v545 : BitVec 1 := Scalar.cmpi .ne v544 c0_i32_419
  v545

def k0_off151 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond150 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_420 : BitVec 32 := 21#32
  let v546 : BitVec 1 := Scalar.cmpi .ne v2 c21_i32_420
  let v547 : BitVec 32 := Scalar.extui v546
  let c0_i32_421 : BitVec 32 := 0#32
  let v548 : BitVec 1 := Scalar.cmpi .ne v547 c0_i32_421
  v548

def k0_off152 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond151 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_422 : BitVec 32 := 22#32
  let v549 : BitVec 1 := Scalar.cmpi .ne v2 c22_i32_422
  let v550 : BitVec 32 := Scalar.extui v549
  let c0_i32_423 : BitVec 32 := 0#32
  let v551 : BitVec 1 := Scalar.cmpi .ne v550 c0_i32_423
  v551

def k0_off153 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond152 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_424 : BitVec 32 := 23#32
  let v552 : BitVec 1 := Scalar.cmpi .ne v2 c23_i32_424
  let v553 : BitVec 32 := Scalar.extui v552
  let c0_i32_425 : BitVec 32 := 0#32
  let v554 : BitVec 1 := Scalar.cmpi .ne v553 c0_i32_425
  v554

def k0_off154 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond153 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_426 : BitVec 32 := 24#32
  let v555 : BitVec 1 := Scalar.cmpi .ne v2 c24_i32_426
  let v556 : BitVec 32 := Scalar.extui v555
  let c0_i32_427 : BitVec 32 := 0#32
  let v557 : BitVec 1 := Scalar.cmpi .ne v556 c0_i32_427
  v557

def k0_off155 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond154 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_428 : BitVec 32 := 25#32
  let v558 : BitVec 1 := Scalar.cmpi .ne v2 c25_i32_428
  let v559 : BitVec 32 := Scalar.extui v558
  let c0_i32_429 : BitVec 32 := 0#32
  let v560 : BitVec 1 := Scalar.cmpi .ne v559 c0_i32_429
  v560

def k0_off156 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond155 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_430 : BitVec 32 := 26#32
  let v561 : BitVec 1 := Scalar.cmpi .ne v2 c26_i32_430
  let v562 : BitVec 32 := Scalar.extui v561
  let c0_i32_431 : BitVec 32 := 0#32
  let v563 : BitVec 1 := Scalar.cmpi .ne v562 c0_i32_431
  v563

def k0_off157 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond156 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_432 : BitVec 32 := 27#32
  let v564 : BitVec 1 := Scalar.cmpi .ne v2 c27_i32_432
  let v565 : BitVec 32 := Scalar.extui v564
  let c0_i32_433 : BitVec 32 := 0#32
  let v566 : BitVec 1 := Scalar.cmpi .ne v565 c0_i32_433
  v566

def k0_off158 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond157 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_434 : BitVec 32 := 28#32
  let v567 : BitVec 1 := Scalar.cmpi .ne v2 c28_i32_434
  let v568 : BitVec 32 := Scalar.extui v567
  let c0_i32_435 : BitVec 32 := 0#32
  let v569 : BitVec 1 := Scalar.cmpi .ne v568 c0_i32_435
  v569

def k0_off159 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond158 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_436 : BitVec 32 := 29#32
  let v570 : BitVec 1 := Scalar.cmpi .ne v2 c29_i32_436
  let v571 : BitVec 32 := Scalar.extui v570
  let c0_i32_437 : BitVec 32 := 0#32
  let v572 : BitVec 1 := Scalar.cmpi .ne v571 c0_i32_437
  v572

def k0_off160 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond159 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_438 : BitVec 32 := 30#32
  let v573 : BitVec 1 := Scalar.cmpi .ne v2 c30_i32_438
  let v574 : BitVec 32 := Scalar.extui v573
  let c0_i32_439 : BitVec 32 := 0#32
  let v575 : BitVec 1 := Scalar.cmpi .ne v574 c0_i32_439
  v575

def k0_off161 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond160 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_440 : BitVec 32 := 31#32
  let v576 : BitVec 1 := Scalar.cmpi .ne v2 c31_i32_440
  let v577 : BitVec 32 := Scalar.extui v576
  let c0_i32_441 : BitVec 32 := 0#32
  let v578 : BitVec 1 := Scalar.cmpi .ne v577 c0_i32_441
  v578

def k0_off162 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond161 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_447 : BitVec 32 := 0#32
  let v585 : BitVec 1 := Scalar.cmpi .ne v2 c0_i32_447
  let v586 : BitVec 32 := Scalar.extui v585
  let c0_i32_448 : BitVec 32 := 0#32
  let v587 : BitVec 1 := Scalar.cmpi .ne v586 c0_i32_448
  v587

def k0_off163 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off164 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev97 : Nat :=
  let c0_i32_1135 : BitVec 32 := 0#32
  let c0_i32_1133 : BitVec 32 := 0#32
  let c1_i32_1134 : BitVec 32 := 1#32
  let v1598 : BitVec 32 := Scalar.muli c0_i32_1133 c1_i32_1134
  let v1599 : BitVec 32 := Scalar.addi c0_i32_1135 v1598
  v1599.toNat
def k0_cond162 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_449 : BitVec 32 := 1#32
  let v588 : BitVec 1 := Scalar.cmpi .ne v2 c1_i32_449
  let v589 : BitVec 32 := Scalar.extui v588
  let c0_i32_450 : BitVec 32 := 0#32
  let v590 : BitVec 1 := Scalar.cmpi .ne v589 c0_i32_450
  v590

def k0_off165 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off166 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev98 : Nat :=
  let c0_i32_1135 : BitVec 32 := 0#32
  let c1_i32_1133 : BitVec 32 := 1#32
  let c1_i32_1134 : BitVec 32 := 1#32
  let v1598 : BitVec 32 := Scalar.muli c1_i32_1133 c1_i32_1134
  let v1599 : BitVec 32 := Scalar.addi c0_i32_1135 v1598
  v1599.toNat
def k0_cond163 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_451 : BitVec 32 := 2#32
  let v591 : BitVec 1 := Scalar.cmpi .ne v2 c2_i32_451
  let v592 : BitVec 32 := Scalar.extui v591
  let c0_i32_452 : BitVec 32 := 0#32
  let v593 : BitVec 1 := Scalar.cmpi .ne v592 c0_i32_452
  v593

def k0_off167 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off168 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev99 : Nat :=
  let c0_i32_1135 : BitVec 32 := 0#32
  let c2_i32_1133 : BitVec 32 := 2#32
  let c1_i32_1134 : BitVec 32 := 1#32
  let v1598 : BitVec 32 := Scalar.muli c2_i32_1133 c1_i32_1134
  let v1599 : BitVec 32 := Scalar.addi c0_i32_1135 v1598
  v1599.toNat
def k0_cond164 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_453 : BitVec 32 := 3#32
  let v594 : BitVec 1 := Scalar.cmpi .ne v2 c3_i32_453
  let v595 : BitVec 32 := Scalar.extui v594
  let c0_i32_454 : BitVec 32 := 0#32
  let v596 : BitVec 1 := Scalar.cmpi .ne v595 c0_i32_454
  v596

def k0_off169 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off170 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev100 : Nat :=
  let c0_i32_1135 : BitVec 32 := 0#32
  let c3_i32_1133 : BitVec 32 := 3#32
  let c1_i32_1134 : BitVec 32 := 1#32
  let v1598 : BitVec 32 := Scalar.muli c3_i32_1133 c1_i32_1134
  let v1599 : BitVec 32 := Scalar.addi c0_i32_1135 v1598
  v1599.toNat
def k0_cond165 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_455 : BitVec 32 := 4#32
  let v597 : BitVec 1 := Scalar.cmpi .ne v2 c4_i32_455
  let v598 : BitVec 32 := Scalar.extui v597
  let c0_i32_456 : BitVec 32 := 0#32
  let v599 : BitVec 1 := Scalar.cmpi .ne v598 c0_i32_456
  v599

def k0_off171 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off172 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev101 : Nat :=
  let c0_i32_1135 : BitVec 32 := 0#32
  let c4_i32_1133 : BitVec 32 := 4#32
  let c1_i32_1134 : BitVec 32 := 1#32
  let v1598 : BitVec 32 := Scalar.muli c4_i32_1133 c1_i32_1134
  let v1599 : BitVec 32 := Scalar.addi c0_i32_1135 v1598
  v1599.toNat
def k0_cond166 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_457 : BitVec 32 := 5#32
  let v600 : BitVec 1 := Scalar.cmpi .ne v2 c5_i32_457
  let v601 : BitVec 32 := Scalar.extui v600
  let c0_i32_458 : BitVec 32 := 0#32
  let v602 : BitVec 1 := Scalar.cmpi .ne v601 c0_i32_458
  v602

def k0_off173 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off174 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev102 : Nat :=
  let c0_i32_1135 : BitVec 32 := 0#32
  let c5_i32_1133 : BitVec 32 := 5#32
  let c1_i32_1134 : BitVec 32 := 1#32
  let v1598 : BitVec 32 := Scalar.muli c5_i32_1133 c1_i32_1134
  let v1599 : BitVec 32 := Scalar.addi c0_i32_1135 v1598
  v1599.toNat
def k0_cond167 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_459 : BitVec 32 := 6#32
  let v603 : BitVec 1 := Scalar.cmpi .ne v2 c6_i32_459
  let v604 : BitVec 32 := Scalar.extui v603
  let c0_i32_460 : BitVec 32 := 0#32
  let v605 : BitVec 1 := Scalar.cmpi .ne v604 c0_i32_460
  v605

def k0_off175 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off176 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev103 : Nat :=
  let c0_i32_1135 : BitVec 32 := 0#32
  let c6_i32_1133 : BitVec 32 := 6#32
  let c1_i32_1134 : BitVec 32 := 1#32
  let v1598 : BitVec 32 := Scalar.muli c6_i32_1133 c1_i32_1134
  let v1599 : BitVec 32 := Scalar.addi c0_i32_1135 v1598
  v1599.toNat
def k0_cond168 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_461 : BitVec 32 := 7#32
  let v606 : BitVec 1 := Scalar.cmpi .ne v2 c7_i32_461
  let v607 : BitVec 32 := Scalar.extui v606
  let c0_i32_462 : BitVec 32 := 0#32
  let v608 : BitVec 1 := Scalar.cmpi .ne v607 c0_i32_462
  v608

def k0_off177 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off178 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev104 : Nat :=
  let c0_i32_1135 : BitVec 32 := 0#32
  let c7_i32_1133 : BitVec 32 := 7#32
  let c1_i32_1134 : BitVec 32 := 1#32
  let v1598 : BitVec 32 := Scalar.muli c7_i32_1133 c1_i32_1134
  let v1599 : BitVec 32 := Scalar.addi c0_i32_1135 v1598
  v1599.toNat
def k0_cond169 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_463 : BitVec 32 := 8#32
  let v609 : BitVec 1 := Scalar.cmpi .ne v2 c8_i32_463
  let v610 : BitVec 32 := Scalar.extui v609
  let c0_i32_464 : BitVec 32 := 0#32
  let v611 : BitVec 1 := Scalar.cmpi .ne v610 c0_i32_464
  v611

def k0_off179 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off180 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev105 : Nat :=
  let c0_i32_1135 : BitVec 32 := 0#32
  let c8_i32_1133 : BitVec 32 := 8#32
  let c1_i32_1134 : BitVec 32 := 1#32
  let v1598 : BitVec 32 := Scalar.muli c8_i32_1133 c1_i32_1134
  let v1599 : BitVec 32 := Scalar.addi c0_i32_1135 v1598
  v1599.toNat
def k0_cond170 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_465 : BitVec 32 := 9#32
  let v612 : BitVec 1 := Scalar.cmpi .ne v2 c9_i32_465
  let v613 : BitVec 32 := Scalar.extui v612
  let c0_i32_466 : BitVec 32 := 0#32
  let v614 : BitVec 1 := Scalar.cmpi .ne v613 c0_i32_466
  v614

def k0_off181 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off182 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev106 : Nat :=
  let c0_i32_1135 : BitVec 32 := 0#32
  let c9_i32_1133 : BitVec 32 := 9#32
  let c1_i32_1134 : BitVec 32 := 1#32
  let v1598 : BitVec 32 := Scalar.muli c9_i32_1133 c1_i32_1134
  let v1599 : BitVec 32 := Scalar.addi c0_i32_1135 v1598
  v1599.toNat
def k0_cond171 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_467 : BitVec 32 := 10#32
  let v615 : BitVec 1 := Scalar.cmpi .ne v2 c10_i32_467
  let v616 : BitVec 32 := Scalar.extui v615
  let c0_i32_468 : BitVec 32 := 0#32
  let v617 : BitVec 1 := Scalar.cmpi .ne v616 c0_i32_468
  v617

def k0_off183 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off184 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev107 : Nat :=
  let c0_i32_1135 : BitVec 32 := 0#32
  let c10_i32_1133 : BitVec 32 := 10#32
  let c1_i32_1134 : BitVec 32 := 1#32
  let v1598 : BitVec 32 := Scalar.muli c10_i32_1133 c1_i32_1134
  let v1599 : BitVec 32 := Scalar.addi c0_i32_1135 v1598
  v1599.toNat
def k0_cond172 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_469 : BitVec 32 := 11#32
  let v618 : BitVec 1 := Scalar.cmpi .ne v2 c11_i32_469
  let v619 : BitVec 32 := Scalar.extui v618
  let c0_i32_470 : BitVec 32 := 0#32
  let v620 : BitVec 1 := Scalar.cmpi .ne v619 c0_i32_470
  v620

def k0_off185 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off186 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev108 : Nat :=
  let c0_i32_1135 : BitVec 32 := 0#32
  let c11_i32_1133 : BitVec 32 := 11#32
  let c1_i32_1134 : BitVec 32 := 1#32
  let v1598 : BitVec 32 := Scalar.muli c11_i32_1133 c1_i32_1134
  let v1599 : BitVec 32 := Scalar.addi c0_i32_1135 v1598
  v1599.toNat
def k0_cond173 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_471 : BitVec 32 := 12#32
  let v621 : BitVec 1 := Scalar.cmpi .ne v2 c12_i32_471
  let v622 : BitVec 32 := Scalar.extui v621
  let c0_i32_472 : BitVec 32 := 0#32
  let v623 : BitVec 1 := Scalar.cmpi .ne v622 c0_i32_472
  v623

def k0_off187 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off188 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev109 : Nat :=
  let c0_i32_1135 : BitVec 32 := 0#32
  let c12_i32_1133 : BitVec 32 := 12#32
  let c1_i32_1134 : BitVec 32 := 1#32
  let v1598 : BitVec 32 := Scalar.muli c12_i32_1133 c1_i32_1134
  let v1599 : BitVec 32 := Scalar.addi c0_i32_1135 v1598
  v1599.toNat
def k0_cond174 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_473 : BitVec 32 := 13#32
  let v624 : BitVec 1 := Scalar.cmpi .ne v2 c13_i32_473
  let v625 : BitVec 32 := Scalar.extui v624
  let c0_i32_474 : BitVec 32 := 0#32
  let v626 : BitVec 1 := Scalar.cmpi .ne v625 c0_i32_474
  v626

def k0_off189 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off190 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev110 : Nat :=
  let c0_i32_1135 : BitVec 32 := 0#32
  let c13_i32_1133 : BitVec 32 := 13#32
  let c1_i32_1134 : BitVec 32 := 1#32
  let v1598 : BitVec 32 := Scalar.muli c13_i32_1133 c1_i32_1134
  let v1599 : BitVec 32 := Scalar.addi c0_i32_1135 v1598
  v1599.toNat
def k0_cond175 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_475 : BitVec 32 := 14#32
  let v627 : BitVec 1 := Scalar.cmpi .ne v2 c14_i32_475
  let v628 : BitVec 32 := Scalar.extui v627
  let c0_i32_476 : BitVec 32 := 0#32
  let v629 : BitVec 1 := Scalar.cmpi .ne v628 c0_i32_476
  v629

def k0_off191 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off192 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev111 : Nat :=
  let c0_i32_1135 : BitVec 32 := 0#32
  let c14_i32_1133 : BitVec 32 := 14#32
  let c1_i32_1134 : BitVec 32 := 1#32
  let v1598 : BitVec 32 := Scalar.muli c14_i32_1133 c1_i32_1134
  let v1599 : BitVec 32 := Scalar.addi c0_i32_1135 v1598
  v1599.toNat
def k0_cond176 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_477 : BitVec 32 := 15#32
  let v630 : BitVec 1 := Scalar.cmpi .ne v2 c15_i32_477
  let v631 : BitVec 32 := Scalar.extui v630
  let c0_i32_478 : BitVec 32 := 0#32
  let v632 : BitVec 1 := Scalar.cmpi .ne v631 c0_i32_478
  v632

def k0_off193 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off194 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev112 : Nat :=
  let c0_i32_1135 : BitVec 32 := 0#32
  let c15_i32_1133 : BitVec 32 := 15#32
  let c1_i32_1134 : BitVec 32 := 1#32
  let v1598 : BitVec 32 := Scalar.muli c15_i32_1133 c1_i32_1134
  let v1599 : BitVec 32 := Scalar.addi c0_i32_1135 v1598
  v1599.toNat
def k0_cond177 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_479 : BitVec 32 := 16#32
  let v633 : BitVec 1 := Scalar.cmpi .ne v2 c16_i32_479
  let v634 : BitVec 32 := Scalar.extui v633
  let c0_i32_480 : BitVec 32 := 0#32
  let v635 : BitVec 1 := Scalar.cmpi .ne v634 c0_i32_480
  v635

def k0_off195 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off196 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev113 : Nat :=
  let c0_i32_1135 : BitVec 32 := 0#32
  let c16_i32_1133 : BitVec 32 := 16#32
  let c1_i32_1134 : BitVec 32 := 1#32
  let v1598 : BitVec 32 := Scalar.muli c16_i32_1133 c1_i32_1134
  let v1599 : BitVec 32 := Scalar.addi c0_i32_1135 v1598
  v1599.toNat
def k0_cond178 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_481 : BitVec 32 := 17#32
  let v636 : BitVec 1 := Scalar.cmpi .ne v2 c17_i32_481
  let v637 : BitVec 32 := Scalar.extui v636
  let c0_i32_482 : BitVec 32 := 0#32
  let v638 : BitVec 1 := Scalar.cmpi .ne v637 c0_i32_482
  v638

def k0_off197 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off198 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev114 : Nat :=
  let c0_i32_1135 : BitVec 32 := 0#32
  let c17_i32_1133 : BitVec 32 := 17#32
  let c1_i32_1134 : BitVec 32 := 1#32
  let v1598 : BitVec 32 := Scalar.muli c17_i32_1133 c1_i32_1134
  let v1599 : BitVec 32 := Scalar.addi c0_i32_1135 v1598
  v1599.toNat
def k0_cond179 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_483 : BitVec 32 := 18#32
  let v639 : BitVec 1 := Scalar.cmpi .ne v2 c18_i32_483
  let v640 : BitVec 32 := Scalar.extui v639
  let c0_i32_484 : BitVec 32 := 0#32
  let v641 : BitVec 1 := Scalar.cmpi .ne v640 c0_i32_484
  v641

def k0_off199 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off200 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev115 : Nat :=
  let c0_i32_1135 : BitVec 32 := 0#32
  let c18_i32_1133 : BitVec 32 := 18#32
  let c1_i32_1134 : BitVec 32 := 1#32
  let v1598 : BitVec 32 := Scalar.muli c18_i32_1133 c1_i32_1134
  let v1599 : BitVec 32 := Scalar.addi c0_i32_1135 v1598
  v1599.toNat
def k0_cond180 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_485 : BitVec 32 := 19#32
  let v642 : BitVec 1 := Scalar.cmpi .ne v2 c19_i32_485
  let v643 : BitVec 32 := Scalar.extui v642
  let c0_i32_486 : BitVec 32 := 0#32
  let v644 : BitVec 1 := Scalar.cmpi .ne v643 c0_i32_486
  v644

def k0_off201 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off202 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev116 : Nat :=
  let c0_i32_1135 : BitVec 32 := 0#32
  let c19_i32_1133 : BitVec 32 := 19#32
  let c1_i32_1134 : BitVec 32 := 1#32
  let v1598 : BitVec 32 := Scalar.muli c19_i32_1133 c1_i32_1134
  let v1599 : BitVec 32 := Scalar.addi c0_i32_1135 v1598
  v1599.toNat
def k0_cond181 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_487 : BitVec 32 := 20#32
  let v645 : BitVec 1 := Scalar.cmpi .ne v2 c20_i32_487
  let v646 : BitVec 32 := Scalar.extui v645
  let c0_i32_488 : BitVec 32 := 0#32
  let v647 : BitVec 1 := Scalar.cmpi .ne v646 c0_i32_488
  v647

def k0_off203 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off204 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev117 : Nat :=
  let c0_i32_1135 : BitVec 32 := 0#32
  let c20_i32_1133 : BitVec 32 := 20#32
  let c1_i32_1134 : BitVec 32 := 1#32
  let v1598 : BitVec 32 := Scalar.muli c20_i32_1133 c1_i32_1134
  let v1599 : BitVec 32 := Scalar.addi c0_i32_1135 v1598
  v1599.toNat
def k0_cond182 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_489 : BitVec 32 := 21#32
  let v648 : BitVec 1 := Scalar.cmpi .ne v2 c21_i32_489
  let v649 : BitVec 32 := Scalar.extui v648
  let c0_i32_490 : BitVec 32 := 0#32
  let v650 : BitVec 1 := Scalar.cmpi .ne v649 c0_i32_490
  v650

def k0_off205 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off206 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev118 : Nat :=
  let c0_i32_1135 : BitVec 32 := 0#32
  let c21_i32_1133 : BitVec 32 := 21#32
  let c1_i32_1134 : BitVec 32 := 1#32
  let v1598 : BitVec 32 := Scalar.muli c21_i32_1133 c1_i32_1134
  let v1599 : BitVec 32 := Scalar.addi c0_i32_1135 v1598
  v1599.toNat
def k0_cond183 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_491 : BitVec 32 := 22#32
  let v651 : BitVec 1 := Scalar.cmpi .ne v2 c22_i32_491
  let v652 : BitVec 32 := Scalar.extui v651
  let c0_i32_492 : BitVec 32 := 0#32
  let v653 : BitVec 1 := Scalar.cmpi .ne v652 c0_i32_492
  v653

def k0_off207 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off208 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev119 : Nat :=
  let c0_i32_1135 : BitVec 32 := 0#32
  let c22_i32_1133 : BitVec 32 := 22#32
  let c1_i32_1134 : BitVec 32 := 1#32
  let v1598 : BitVec 32 := Scalar.muli c22_i32_1133 c1_i32_1134
  let v1599 : BitVec 32 := Scalar.addi c0_i32_1135 v1598
  v1599.toNat
def k0_cond184 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_493 : BitVec 32 := 23#32
  let v654 : BitVec 1 := Scalar.cmpi .ne v2 c23_i32_493
  let v655 : BitVec 32 := Scalar.extui v654
  let c0_i32_494 : BitVec 32 := 0#32
  let v656 : BitVec 1 := Scalar.cmpi .ne v655 c0_i32_494
  v656

def k0_off209 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off210 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev120 : Nat :=
  let c0_i32_1135 : BitVec 32 := 0#32
  let c23_i32_1133 : BitVec 32 := 23#32
  let c1_i32_1134 : BitVec 32 := 1#32
  let v1598 : BitVec 32 := Scalar.muli c23_i32_1133 c1_i32_1134
  let v1599 : BitVec 32 := Scalar.addi c0_i32_1135 v1598
  v1599.toNat
def k0_cond185 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_495 : BitVec 32 := 24#32
  let v657 : BitVec 1 := Scalar.cmpi .ne v2 c24_i32_495
  let v658 : BitVec 32 := Scalar.extui v657
  let c0_i32_496 : BitVec 32 := 0#32
  let v659 : BitVec 1 := Scalar.cmpi .ne v658 c0_i32_496
  v659

def k0_off211 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off212 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev121 : Nat :=
  let c0_i32_1135 : BitVec 32 := 0#32
  let c24_i32_1133 : BitVec 32 := 24#32
  let c1_i32_1134 : BitVec 32 := 1#32
  let v1598 : BitVec 32 := Scalar.muli c24_i32_1133 c1_i32_1134
  let v1599 : BitVec 32 := Scalar.addi c0_i32_1135 v1598
  v1599.toNat
def k0_cond186 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_497 : BitVec 32 := 25#32
  let v660 : BitVec 1 := Scalar.cmpi .ne v2 c25_i32_497
  let v661 : BitVec 32 := Scalar.extui v660
  let c0_i32_498 : BitVec 32 := 0#32
  let v662 : BitVec 1 := Scalar.cmpi .ne v661 c0_i32_498
  v662

def k0_off213 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off214 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev122 : Nat :=
  let c0_i32_1135 : BitVec 32 := 0#32
  let c25_i32_1133 : BitVec 32 := 25#32
  let c1_i32_1134 : BitVec 32 := 1#32
  let v1598 : BitVec 32 := Scalar.muli c25_i32_1133 c1_i32_1134
  let v1599 : BitVec 32 := Scalar.addi c0_i32_1135 v1598
  v1599.toNat
def k0_cond187 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_499 : BitVec 32 := 26#32
  let v663 : BitVec 1 := Scalar.cmpi .ne v2 c26_i32_499
  let v664 : BitVec 32 := Scalar.extui v663
  let c0_i32_500 : BitVec 32 := 0#32
  let v665 : BitVec 1 := Scalar.cmpi .ne v664 c0_i32_500
  v665

def k0_off215 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off216 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev123 : Nat :=
  let c0_i32_1135 : BitVec 32 := 0#32
  let c26_i32_1133 : BitVec 32 := 26#32
  let c1_i32_1134 : BitVec 32 := 1#32
  let v1598 : BitVec 32 := Scalar.muli c26_i32_1133 c1_i32_1134
  let v1599 : BitVec 32 := Scalar.addi c0_i32_1135 v1598
  v1599.toNat
def k0_cond188 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_501 : BitVec 32 := 27#32
  let v666 : BitVec 1 := Scalar.cmpi .ne v2 c27_i32_501
  let v667 : BitVec 32 := Scalar.extui v666
  let c0_i32_502 : BitVec 32 := 0#32
  let v668 : BitVec 1 := Scalar.cmpi .ne v667 c0_i32_502
  v668

def k0_off217 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off218 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev124 : Nat :=
  let c0_i32_1135 : BitVec 32 := 0#32
  let c27_i32_1133 : BitVec 32 := 27#32
  let c1_i32_1134 : BitVec 32 := 1#32
  let v1598 : BitVec 32 := Scalar.muli c27_i32_1133 c1_i32_1134
  let v1599 : BitVec 32 := Scalar.addi c0_i32_1135 v1598
  v1599.toNat
def k0_cond189 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_503 : BitVec 32 := 28#32
  let v669 : BitVec 1 := Scalar.cmpi .ne v2 c28_i32_503
  let v670 : BitVec 32 := Scalar.extui v669
  let c0_i32_504 : BitVec 32 := 0#32
  let v671 : BitVec 1 := Scalar.cmpi .ne v670 c0_i32_504
  v671

def k0_off219 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off220 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev125 : Nat :=
  let c0_i32_1135 : BitVec 32 := 0#32
  let c28_i32_1133 : BitVec 32 := 28#32
  let c1_i32_1134 : BitVec 32 := 1#32
  let v1598 : BitVec 32 := Scalar.muli c28_i32_1133 c1_i32_1134
  let v1599 : BitVec 32 := Scalar.addi c0_i32_1135 v1598
  v1599.toNat
def k0_cond190 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_505 : BitVec 32 := 29#32
  let v672 : BitVec 1 := Scalar.cmpi .ne v2 c29_i32_505
  let v673 : BitVec 32 := Scalar.extui v672
  let c0_i32_506 : BitVec 32 := 0#32
  let v674 : BitVec 1 := Scalar.cmpi .ne v673 c0_i32_506
  v674

def k0_off221 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off222 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev126 : Nat :=
  let c0_i32_1135 : BitVec 32 := 0#32
  let c29_i32_1133 : BitVec 32 := 29#32
  let c1_i32_1134 : BitVec 32 := 1#32
  let v1598 : BitVec 32 := Scalar.muli c29_i32_1133 c1_i32_1134
  let v1599 : BitVec 32 := Scalar.addi c0_i32_1135 v1598
  v1599.toNat
def k0_cond191 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_507 : BitVec 32 := 30#32
  let v675 : BitVec 1 := Scalar.cmpi .ne v2 c30_i32_507
  let v676 : BitVec 32 := Scalar.extui v675
  let c0_i32_508 : BitVec 32 := 0#32
  let v677 : BitVec 1 := Scalar.cmpi .ne v676 c0_i32_508
  v677

def k0_off223 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off224 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev127 : Nat :=
  let c0_i32_1135 : BitVec 32 := 0#32
  let c30_i32_1133 : BitVec 32 := 30#32
  let c1_i32_1134 : BitVec 32 := 1#32
  let v1598 : BitVec 32 := Scalar.muli c30_i32_1133 c1_i32_1134
  let v1599 : BitVec 32 := Scalar.addi c0_i32_1135 v1598
  v1599.toNat
def k0_cond192 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_509 : BitVec 32 := 31#32
  let v678 : BitVec 1 := Scalar.cmpi .ne v2 c31_i32_509
  let v679 : BitVec 32 := Scalar.extui v678
  let c0_i32_510 : BitVec 32 := 0#32
  let v680 : BitVec 1 := Scalar.cmpi .ne v679 c0_i32_510
  v680

def k0_off225 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off226 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev128 : Nat :=
  let c0_i32_1135 : BitVec 32 := 0#32
  let c31_i32_1133 : BitVec 32 := 31#32
  let c1_i32_1134 : BitVec 32 := 1#32
  let v1598 : BitVec 32 := Scalar.muli c31_i32_1133 c1_i32_1134
  let v1599 : BitVec 32 := Scalar.addi c0_i32_1135 v1598
  v1599.toNat
def k0_cond225 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_586 : BitVec 32 := 0#32
  let v791 : BitVec 1 := Scalar.cmpi .ne v2 c0_i32_586
  let v792 : BitVec 32 := Scalar.extui v791
  let c0_i32_587 : BitVec 32 := 0#32
  let v793 : BitVec 1 := Scalar.cmpi .ne v792 c0_i32_587
  v793

def k0_off227 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off228 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev129 : Nat :=
  let c0_i32_1135 : BitVec 32 := 0#32
  let c0_i32_1133 : BitVec 32 := 0#32
  let c1_i32_1134 : BitVec 32 := 1#32
  let v1598 : BitVec 32 := Scalar.muli c0_i32_1133 c1_i32_1134
  let v1599 : BitVec 32 := Scalar.addi c0_i32_1135 v1598
  v1599.toNat
def k0_cond226 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_588 : BitVec 32 := 1#32
  let v794 : BitVec 1 := Scalar.cmpi .ne v2 c1_i32_588
  let v795 : BitVec 32 := Scalar.extui v794
  let c0_i32_589 : BitVec 32 := 0#32
  let v796 : BitVec 1 := Scalar.cmpi .ne v795 c0_i32_589
  v796

def k0_off229 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off230 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev130 : Nat :=
  let c0_i32_1135 : BitVec 32 := 0#32
  let c1_i32_1133 : BitVec 32 := 1#32
  let c1_i32_1134 : BitVec 32 := 1#32
  let v1598 : BitVec 32 := Scalar.muli c1_i32_1133 c1_i32_1134
  let v1599 : BitVec 32 := Scalar.addi c0_i32_1135 v1598
  v1599.toNat
def k0_cond227 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_590 : BitVec 32 := 2#32
  let v797 : BitVec 1 := Scalar.cmpi .ne v2 c2_i32_590
  let v798 : BitVec 32 := Scalar.extui v797
  let c0_i32_591 : BitVec 32 := 0#32
  let v799 : BitVec 1 := Scalar.cmpi .ne v798 c0_i32_591
  v799

def k0_off231 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off232 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev131 : Nat :=
  let c0_i32_1135 : BitVec 32 := 0#32
  let c2_i32_1133 : BitVec 32 := 2#32
  let c1_i32_1134 : BitVec 32 := 1#32
  let v1598 : BitVec 32 := Scalar.muli c2_i32_1133 c1_i32_1134
  let v1599 : BitVec 32 := Scalar.addi c0_i32_1135 v1598
  v1599.toNat
def k0_cond228 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_592 : BitVec 32 := 3#32
  let v800 : BitVec 1 := Scalar.cmpi .ne v2 c3_i32_592
  let v801 : BitVec 32 := Scalar.extui v800
  let c0_i32_593 : BitVec 32 := 0#32
  let v802 : BitVec 1 := Scalar.cmpi .ne v801 c0_i32_593
  v802

def k0_off233 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off234 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev132 : Nat :=
  let c0_i32_1135 : BitVec 32 := 0#32
  let c3_i32_1133 : BitVec 32 := 3#32
  let c1_i32_1134 : BitVec 32 := 1#32
  let v1598 : BitVec 32 := Scalar.muli c3_i32_1133 c1_i32_1134
  let v1599 : BitVec 32 := Scalar.addi c0_i32_1135 v1598
  v1599.toNat
def k0_cond229 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_594 : BitVec 32 := 4#32
  let v803 : BitVec 1 := Scalar.cmpi .ne v2 c4_i32_594
  let v804 : BitVec 32 := Scalar.extui v803
  let c0_i32_595 : BitVec 32 := 0#32
  let v805 : BitVec 1 := Scalar.cmpi .ne v804 c0_i32_595
  v805

def k0_off235 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off236 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev133 : Nat :=
  let c0_i32_1135 : BitVec 32 := 0#32
  let c4_i32_1133 : BitVec 32 := 4#32
  let c1_i32_1134 : BitVec 32 := 1#32
  let v1598 : BitVec 32 := Scalar.muli c4_i32_1133 c1_i32_1134
  let v1599 : BitVec 32 := Scalar.addi c0_i32_1135 v1598
  v1599.toNat
def k0_cond230 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_596 : BitVec 32 := 5#32
  let v806 : BitVec 1 := Scalar.cmpi .ne v2 c5_i32_596
  let v807 : BitVec 32 := Scalar.extui v806
  let c0_i32_597 : BitVec 32 := 0#32
  let v808 : BitVec 1 := Scalar.cmpi .ne v807 c0_i32_597
  v808

def k0_off237 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off238 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev134 : Nat :=
  let c0_i32_1135 : BitVec 32 := 0#32
  let c5_i32_1133 : BitVec 32 := 5#32
  let c1_i32_1134 : BitVec 32 := 1#32
  let v1598 : BitVec 32 := Scalar.muli c5_i32_1133 c1_i32_1134
  let v1599 : BitVec 32 := Scalar.addi c0_i32_1135 v1598
  v1599.toNat
def k0_cond231 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_598 : BitVec 32 := 6#32
  let v809 : BitVec 1 := Scalar.cmpi .ne v2 c6_i32_598
  let v810 : BitVec 32 := Scalar.extui v809
  let c0_i32_599 : BitVec 32 := 0#32
  let v811 : BitVec 1 := Scalar.cmpi .ne v810 c0_i32_599
  v811

def k0_off239 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off240 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev135 : Nat :=
  let c0_i32_1135 : BitVec 32 := 0#32
  let c6_i32_1133 : BitVec 32 := 6#32
  let c1_i32_1134 : BitVec 32 := 1#32
  let v1598 : BitVec 32 := Scalar.muli c6_i32_1133 c1_i32_1134
  let v1599 : BitVec 32 := Scalar.addi c0_i32_1135 v1598
  v1599.toNat
def k0_cond232 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_600 : BitVec 32 := 7#32
  let v812 : BitVec 1 := Scalar.cmpi .ne v2 c7_i32_600
  let v813 : BitVec 32 := Scalar.extui v812
  let c0_i32_601 : BitVec 32 := 0#32
  let v814 : BitVec 1 := Scalar.cmpi .ne v813 c0_i32_601
  v814

def k0_off241 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off242 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev136 : Nat :=
  let c0_i32_1135 : BitVec 32 := 0#32
  let c7_i32_1133 : BitVec 32 := 7#32
  let c1_i32_1134 : BitVec 32 := 1#32
  let v1598 : BitVec 32 := Scalar.muli c7_i32_1133 c1_i32_1134
  let v1599 : BitVec 32 := Scalar.addi c0_i32_1135 v1598
  v1599.toNat
def k0_cond233 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_602 : BitVec 32 := 8#32
  let v815 : BitVec 1 := Scalar.cmpi .ne v2 c8_i32_602
  let v816 : BitVec 32 := Scalar.extui v815
  let c0_i32_603 : BitVec 32 := 0#32
  let v817 : BitVec 1 := Scalar.cmpi .ne v816 c0_i32_603
  v817

def k0_off243 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off244 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev137 : Nat :=
  let c0_i32_1135 : BitVec 32 := 0#32
  let c8_i32_1133 : BitVec 32 := 8#32
  let c1_i32_1134 : BitVec 32 := 1#32
  let v1598 : BitVec 32 := Scalar.muli c8_i32_1133 c1_i32_1134
  let v1599 : BitVec 32 := Scalar.addi c0_i32_1135 v1598
  v1599.toNat
def k0_cond234 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_604 : BitVec 32 := 9#32
  let v818 : BitVec 1 := Scalar.cmpi .ne v2 c9_i32_604
  let v819 : BitVec 32 := Scalar.extui v818
  let c0_i32_605 : BitVec 32 := 0#32
  let v820 : BitVec 1 := Scalar.cmpi .ne v819 c0_i32_605
  v820

def k0_off245 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off246 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev138 : Nat :=
  let c0_i32_1135 : BitVec 32 := 0#32
  let c9_i32_1133 : BitVec 32 := 9#32
  let c1_i32_1134 : BitVec 32 := 1#32
  let v1598 : BitVec 32 := Scalar.muli c9_i32_1133 c1_i32_1134
  let v1599 : BitVec 32 := Scalar.addi c0_i32_1135 v1598
  v1599.toNat
def k0_cond235 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_606 : BitVec 32 := 10#32
  let v821 : BitVec 1 := Scalar.cmpi .ne v2 c10_i32_606
  let v822 : BitVec 32 := Scalar.extui v821
  let c0_i32_607 : BitVec 32 := 0#32
  let v823 : BitVec 1 := Scalar.cmpi .ne v822 c0_i32_607
  v823

def k0_off247 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off248 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev139 : Nat :=
  let c0_i32_1135 : BitVec 32 := 0#32
  let c10_i32_1133 : BitVec 32 := 10#32
  let c1_i32_1134 : BitVec 32 := 1#32
  let v1598 : BitVec 32 := Scalar.muli c10_i32_1133 c1_i32_1134
  let v1599 : BitVec 32 := Scalar.addi c0_i32_1135 v1598
  v1599.toNat
def k0_cond236 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_608 : BitVec 32 := 11#32
  let v824 : BitVec 1 := Scalar.cmpi .ne v2 c11_i32_608
  let v825 : BitVec 32 := Scalar.extui v824
  let c0_i32_609 : BitVec 32 := 0#32
  let v826 : BitVec 1 := Scalar.cmpi .ne v825 c0_i32_609
  v826

def k0_off249 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off250 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev140 : Nat :=
  let c0_i32_1135 : BitVec 32 := 0#32
  let c11_i32_1133 : BitVec 32 := 11#32
  let c1_i32_1134 : BitVec 32 := 1#32
  let v1598 : BitVec 32 := Scalar.muli c11_i32_1133 c1_i32_1134
  let v1599 : BitVec 32 := Scalar.addi c0_i32_1135 v1598
  v1599.toNat
def k0_cond237 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_610 : BitVec 32 := 12#32
  let v827 : BitVec 1 := Scalar.cmpi .ne v2 c12_i32_610
  let v828 : BitVec 32 := Scalar.extui v827
  let c0_i32_611 : BitVec 32 := 0#32
  let v829 : BitVec 1 := Scalar.cmpi .ne v828 c0_i32_611
  v829

def k0_off251 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off252 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev141 : Nat :=
  let c0_i32_1135 : BitVec 32 := 0#32
  let c12_i32_1133 : BitVec 32 := 12#32
  let c1_i32_1134 : BitVec 32 := 1#32
  let v1598 : BitVec 32 := Scalar.muli c12_i32_1133 c1_i32_1134
  let v1599 : BitVec 32 := Scalar.addi c0_i32_1135 v1598
  v1599.toNat
def k0_cond238 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_612 : BitVec 32 := 13#32
  let v830 : BitVec 1 := Scalar.cmpi .ne v2 c13_i32_612
  let v831 : BitVec 32 := Scalar.extui v830
  let c0_i32_613 : BitVec 32 := 0#32
  let v832 : BitVec 1 := Scalar.cmpi .ne v831 c0_i32_613
  v832

def k0_off253 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off254 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev142 : Nat :=
  let c0_i32_1135 : BitVec 32 := 0#32
  let c13_i32_1133 : BitVec 32 := 13#32
  let c1_i32_1134 : BitVec 32 := 1#32
  let v1598 : BitVec 32 := Scalar.muli c13_i32_1133 c1_i32_1134
  let v1599 : BitVec 32 := Scalar.addi c0_i32_1135 v1598
  v1599.toNat
def k0_cond239 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_614 : BitVec 32 := 14#32
  let v833 : BitVec 1 := Scalar.cmpi .ne v2 c14_i32_614
  let v834 : BitVec 32 := Scalar.extui v833
  let c0_i32_615 : BitVec 32 := 0#32
  let v835 : BitVec 1 := Scalar.cmpi .ne v834 c0_i32_615
  v835

def k0_off255 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off256 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev143 : Nat :=
  let c0_i32_1135 : BitVec 32 := 0#32
  let c14_i32_1133 : BitVec 32 := 14#32
  let c1_i32_1134 : BitVec 32 := 1#32
  let v1598 : BitVec 32 := Scalar.muli c14_i32_1133 c1_i32_1134
  let v1599 : BitVec 32 := Scalar.addi c0_i32_1135 v1598
  v1599.toNat
def k0_cond240 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_616 : BitVec 32 := 15#32
  let v836 : BitVec 1 := Scalar.cmpi .ne v2 c15_i32_616
  let v837 : BitVec 32 := Scalar.extui v836
  let c0_i32_617 : BitVec 32 := 0#32
  let v838 : BitVec 1 := Scalar.cmpi .ne v837 c0_i32_617
  v838

def k0_off257 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off258 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev144 : Nat :=
  let c0_i32_1135 : BitVec 32 := 0#32
  let c15_i32_1133 : BitVec 32 := 15#32
  let c1_i32_1134 : BitVec 32 := 1#32
  let v1598 : BitVec 32 := Scalar.muli c15_i32_1133 c1_i32_1134
  let v1599 : BitVec 32 := Scalar.addi c0_i32_1135 v1598
  v1599.toNat
def k0_cond241 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_618 : BitVec 32 := 16#32
  let v839 : BitVec 1 := Scalar.cmpi .ne v2 c16_i32_618
  let v840 : BitVec 32 := Scalar.extui v839
  let c0_i32_619 : BitVec 32 := 0#32
  let v841 : BitVec 1 := Scalar.cmpi .ne v840 c0_i32_619
  v841

def k0_off259 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off260 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev145 : Nat :=
  let c0_i32_1135 : BitVec 32 := 0#32
  let c16_i32_1133 : BitVec 32 := 16#32
  let c1_i32_1134 : BitVec 32 := 1#32
  let v1598 : BitVec 32 := Scalar.muli c16_i32_1133 c1_i32_1134
  let v1599 : BitVec 32 := Scalar.addi c0_i32_1135 v1598
  v1599.toNat
def k0_cond242 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_620 : BitVec 32 := 17#32
  let v842 : BitVec 1 := Scalar.cmpi .ne v2 c17_i32_620
  let v843 : BitVec 32 := Scalar.extui v842
  let c0_i32_621 : BitVec 32 := 0#32
  let v844 : BitVec 1 := Scalar.cmpi .ne v843 c0_i32_621
  v844

def k0_off261 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off262 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev146 : Nat :=
  let c0_i32_1135 : BitVec 32 := 0#32
  let c17_i32_1133 : BitVec 32 := 17#32
  let c1_i32_1134 : BitVec 32 := 1#32
  let v1598 : BitVec 32 := Scalar.muli c17_i32_1133 c1_i32_1134
  let v1599 : BitVec 32 := Scalar.addi c0_i32_1135 v1598
  v1599.toNat
def k0_cond243 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_622 : BitVec 32 := 18#32
  let v845 : BitVec 1 := Scalar.cmpi .ne v2 c18_i32_622
  let v846 : BitVec 32 := Scalar.extui v845
  let c0_i32_623 : BitVec 32 := 0#32
  let v847 : BitVec 1 := Scalar.cmpi .ne v846 c0_i32_623
  v847

def k0_off263 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off264 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev147 : Nat :=
  let c0_i32_1135 : BitVec 32 := 0#32
  let c18_i32_1133 : BitVec 32 := 18#32
  let c1_i32_1134 : BitVec 32 := 1#32
  let v1598 : BitVec 32 := Scalar.muli c18_i32_1133 c1_i32_1134
  let v1599 : BitVec 32 := Scalar.addi c0_i32_1135 v1598
  v1599.toNat
def k0_cond244 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_624 : BitVec 32 := 19#32
  let v848 : BitVec 1 := Scalar.cmpi .ne v2 c19_i32_624
  let v849 : BitVec 32 := Scalar.extui v848
  let c0_i32_625 : BitVec 32 := 0#32
  let v850 : BitVec 1 := Scalar.cmpi .ne v849 c0_i32_625
  v850

def k0_off265 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off266 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev148 : Nat :=
  let c0_i32_1135 : BitVec 32 := 0#32
  let c19_i32_1133 : BitVec 32 := 19#32
  let c1_i32_1134 : BitVec 32 := 1#32
  let v1598 : BitVec 32 := Scalar.muli c19_i32_1133 c1_i32_1134
  let v1599 : BitVec 32 := Scalar.addi c0_i32_1135 v1598
  v1599.toNat
def k0_cond245 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_626 : BitVec 32 := 20#32
  let v851 : BitVec 1 := Scalar.cmpi .ne v2 c20_i32_626
  let v852 : BitVec 32 := Scalar.extui v851
  let c0_i32_627 : BitVec 32 := 0#32
  let v853 : BitVec 1 := Scalar.cmpi .ne v852 c0_i32_627
  v853

def k0_off267 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off268 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev149 : Nat :=
  let c0_i32_1135 : BitVec 32 := 0#32
  let c20_i32_1133 : BitVec 32 := 20#32
  let c1_i32_1134 : BitVec 32 := 1#32
  let v1598 : BitVec 32 := Scalar.muli c20_i32_1133 c1_i32_1134
  let v1599 : BitVec 32 := Scalar.addi c0_i32_1135 v1598
  v1599.toNat
def k0_cond246 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_628 : BitVec 32 := 21#32
  let v854 : BitVec 1 := Scalar.cmpi .ne v2 c21_i32_628
  let v855 : BitVec 32 := Scalar.extui v854
  let c0_i32_629 : BitVec 32 := 0#32
  let v856 : BitVec 1 := Scalar.cmpi .ne v855 c0_i32_629
  v856

def k0_off269 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off270 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev150 : Nat :=
  let c0_i32_1135 : BitVec 32 := 0#32
  let c21_i32_1133 : BitVec 32 := 21#32
  let c1_i32_1134 : BitVec 32 := 1#32
  let v1598 : BitVec 32 := Scalar.muli c21_i32_1133 c1_i32_1134
  let v1599 : BitVec 32 := Scalar.addi c0_i32_1135 v1598
  v1599.toNat
def k0_cond247 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_630 : BitVec 32 := 22#32
  let v857 : BitVec 1 := Scalar.cmpi .ne v2 c22_i32_630
  let v858 : BitVec 32 := Scalar.extui v857
  let c0_i32_631 : BitVec 32 := 0#32
  let v859 : BitVec 1 := Scalar.cmpi .ne v858 c0_i32_631
  v859

def k0_off271 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off272 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev151 : Nat :=
  let c0_i32_1135 : BitVec 32 := 0#32
  let c22_i32_1133 : BitVec 32 := 22#32
  let c1_i32_1134 : BitVec 32 := 1#32
  let v1598 : BitVec 32 := Scalar.muli c22_i32_1133 c1_i32_1134
  let v1599 : BitVec 32 := Scalar.addi c0_i32_1135 v1598
  v1599.toNat
def k0_cond248 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_632 : BitVec 32 := 23#32
  let v860 : BitVec 1 := Scalar.cmpi .ne v2 c23_i32_632
  let v861 : BitVec 32 := Scalar.extui v860
  let c0_i32_633 : BitVec 32 := 0#32
  let v862 : BitVec 1 := Scalar.cmpi .ne v861 c0_i32_633
  v862

def k0_off273 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off274 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev152 : Nat :=
  let c0_i32_1135 : BitVec 32 := 0#32
  let c23_i32_1133 : BitVec 32 := 23#32
  let c1_i32_1134 : BitVec 32 := 1#32
  let v1598 : BitVec 32 := Scalar.muli c23_i32_1133 c1_i32_1134
  let v1599 : BitVec 32 := Scalar.addi c0_i32_1135 v1598
  v1599.toNat
def k0_cond249 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_634 : BitVec 32 := 24#32
  let v863 : BitVec 1 := Scalar.cmpi .ne v2 c24_i32_634
  let v864 : BitVec 32 := Scalar.extui v863
  let c0_i32_635 : BitVec 32 := 0#32
  let v865 : BitVec 1 := Scalar.cmpi .ne v864 c0_i32_635
  v865

def k0_off275 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off276 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev153 : Nat :=
  let c0_i32_1135 : BitVec 32 := 0#32
  let c24_i32_1133 : BitVec 32 := 24#32
  let c1_i32_1134 : BitVec 32 := 1#32
  let v1598 : BitVec 32 := Scalar.muli c24_i32_1133 c1_i32_1134
  let v1599 : BitVec 32 := Scalar.addi c0_i32_1135 v1598
  v1599.toNat
def k0_cond250 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_636 : BitVec 32 := 25#32
  let v866 : BitVec 1 := Scalar.cmpi .ne v2 c25_i32_636
  let v867 : BitVec 32 := Scalar.extui v866
  let c0_i32_637 : BitVec 32 := 0#32
  let v868 : BitVec 1 := Scalar.cmpi .ne v867 c0_i32_637
  v868

def k0_off277 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off278 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev154 : Nat :=
  let c0_i32_1135 : BitVec 32 := 0#32
  let c25_i32_1133 : BitVec 32 := 25#32
  let c1_i32_1134 : BitVec 32 := 1#32
  let v1598 : BitVec 32 := Scalar.muli c25_i32_1133 c1_i32_1134
  let v1599 : BitVec 32 := Scalar.addi c0_i32_1135 v1598
  v1599.toNat
def k0_cond251 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_638 : BitVec 32 := 26#32
  let v869 : BitVec 1 := Scalar.cmpi .ne v2 c26_i32_638
  let v870 : BitVec 32 := Scalar.extui v869
  let c0_i32_639 : BitVec 32 := 0#32
  let v871 : BitVec 1 := Scalar.cmpi .ne v870 c0_i32_639
  v871

def k0_off279 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off280 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev155 : Nat :=
  let c0_i32_1135 : BitVec 32 := 0#32
  let c26_i32_1133 : BitVec 32 := 26#32
  let c1_i32_1134 : BitVec 32 := 1#32
  let v1598 : BitVec 32 := Scalar.muli c26_i32_1133 c1_i32_1134
  let v1599 : BitVec 32 := Scalar.addi c0_i32_1135 v1598
  v1599.toNat
def k0_cond252 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_640 : BitVec 32 := 27#32
  let v872 : BitVec 1 := Scalar.cmpi .ne v2 c27_i32_640
  let v873 : BitVec 32 := Scalar.extui v872
  let c0_i32_641 : BitVec 32 := 0#32
  let v874 : BitVec 1 := Scalar.cmpi .ne v873 c0_i32_641
  v874

def k0_off281 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off282 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev156 : Nat :=
  let c0_i32_1135 : BitVec 32 := 0#32
  let c27_i32_1133 : BitVec 32 := 27#32
  let c1_i32_1134 : BitVec 32 := 1#32
  let v1598 : BitVec 32 := Scalar.muli c27_i32_1133 c1_i32_1134
  let v1599 : BitVec 32 := Scalar.addi c0_i32_1135 v1598
  v1599.toNat
def k0_cond253 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_642 : BitVec 32 := 28#32
  let v875 : BitVec 1 := Scalar.cmpi .ne v2 c28_i32_642
  let v876 : BitVec 32 := Scalar.extui v875
  let c0_i32_643 : BitVec 32 := 0#32
  let v877 : BitVec 1 := Scalar.cmpi .ne v876 c0_i32_643
  v877

def k0_off283 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off284 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev157 : Nat :=
  let c0_i32_1135 : BitVec 32 := 0#32
  let c28_i32_1133 : BitVec 32 := 28#32
  let c1_i32_1134 : BitVec 32 := 1#32
  let v1598 : BitVec 32 := Scalar.muli c28_i32_1133 c1_i32_1134
  let v1599 : BitVec 32 := Scalar.addi c0_i32_1135 v1598
  v1599.toNat
def k0_cond254 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_644 : BitVec 32 := 29#32
  let v878 : BitVec 1 := Scalar.cmpi .ne v2 c29_i32_644
  let v879 : BitVec 32 := Scalar.extui v878
  let c0_i32_645 : BitVec 32 := 0#32
  let v880 : BitVec 1 := Scalar.cmpi .ne v879 c0_i32_645
  v880

def k0_off285 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off286 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev158 : Nat :=
  let c0_i32_1135 : BitVec 32 := 0#32
  let c29_i32_1133 : BitVec 32 := 29#32
  let c1_i32_1134 : BitVec 32 := 1#32
  let v1598 : BitVec 32 := Scalar.muli c29_i32_1133 c1_i32_1134
  let v1599 : BitVec 32 := Scalar.addi c0_i32_1135 v1598
  v1599.toNat
def k0_cond255 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_646 : BitVec 32 := 30#32
  let v881 : BitVec 1 := Scalar.cmpi .ne v2 c30_i32_646
  let v882 : BitVec 32 := Scalar.extui v881
  let c0_i32_647 : BitVec 32 := 0#32
  let v883 : BitVec 1 := Scalar.cmpi .ne v882 c0_i32_647
  v883

def k0_off287 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off288 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev159 : Nat :=
  let c0_i32_1135 : BitVec 32 := 0#32
  let c30_i32_1133 : BitVec 32 := 30#32
  let c1_i32_1134 : BitVec 32 := 1#32
  let v1598 : BitVec 32 := Scalar.muli c30_i32_1133 c1_i32_1134
  let v1599 : BitVec 32 := Scalar.addi c0_i32_1135 v1598
  v1599.toNat
def k0_cond256 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_648 : BitVec 32 := 31#32
  let v884 : BitVec 1 := Scalar.cmpi .ne v2 c31_i32_648
  let v885 : BitVec 32 := Scalar.extui v884
  let c0_i32_649 : BitVec 32 := 0#32
  let v886 : BitVec 1 := Scalar.cmpi .ne v885 c0_i32_649
  v886

def k0_off289 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off290 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev160 : Nat :=
  let c0_i32_1135 : BitVec 32 := 0#32
  let c31_i32_1133 : BitVec 32 := 31#32
  let c1_i32_1134 : BitVec 32 := 1#32
  let v1598 : BitVec 32 := Scalar.muli c31_i32_1133 c1_i32_1134
  let v1599 : BitVec 32 := Scalar.addi c0_i32_1135 v1598
  v1599.toNat
def k0_cond289 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_722 : BitVec 32 := 0#32
  let v992 : BitVec 1 := Scalar.cmpi .ne v2 c0_i32_722
  let v993 : BitVec 32 := Scalar.extui v992
  let c0_i32_723 : BitVec 32 := 0#32
  let v994 : BitVec 1 := Scalar.cmpi .ne v993 c0_i32_723
  v994

def k0_off291 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1137 : BitVec 32 := 0#32
  let c0_i32_1138 : BitVec 32 := 0#32
  ![v2.toNat, 0, 0]
def k0_cond290 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_724 : BitVec 32 := 1#32
  let v995 : BitVec 1 := Scalar.cmpi .ne v2 c1_i32_724
  let v996 : BitVec 32 := Scalar.extui v995
  let c0_i32_725 : BitVec 32 := 0#32
  let v997 : BitVec 1 := Scalar.cmpi .ne v996 c0_i32_725
  v997

def k0_off292 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1137 : BitVec 32 := 0#32
  let c0_i32_1138 : BitVec 32 := 0#32
  ![v2.toNat, 0, 0]
def k0_cond291 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_726 : BitVec 32 := 2#32
  let v998 : BitVec 1 := Scalar.cmpi .ne v2 c2_i32_726
  let v999 : BitVec 32 := Scalar.extui v998
  let c0_i32_727 : BitVec 32 := 0#32
  let v1000 : BitVec 1 := Scalar.cmpi .ne v999 c0_i32_727
  v1000

def k0_off293 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1137 : BitVec 32 := 0#32
  let c0_i32_1138 : BitVec 32 := 0#32
  ![v2.toNat, 0, 0]
def k0_cond292 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_728 : BitVec 32 := 3#32
  let v1001 : BitVec 1 := Scalar.cmpi .ne v2 c3_i32_728
  let v1002 : BitVec 32 := Scalar.extui v1001
  let c0_i32_729 : BitVec 32 := 0#32
  let v1003 : BitVec 1 := Scalar.cmpi .ne v1002 c0_i32_729
  v1003

def k0_off294 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1137 : BitVec 32 := 0#32
  let c0_i32_1138 : BitVec 32 := 0#32
  ![v2.toNat, 0, 0]
def k0_cond293 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_730 : BitVec 32 := 4#32
  let v1004 : BitVec 1 := Scalar.cmpi .ne v2 c4_i32_730
  let v1005 : BitVec 32 := Scalar.extui v1004
  let c0_i32_731 : BitVec 32 := 0#32
  let v1006 : BitVec 1 := Scalar.cmpi .ne v1005 c0_i32_731
  v1006

def k0_off295 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1137 : BitVec 32 := 0#32
  let c0_i32_1138 : BitVec 32 := 0#32
  ![v2.toNat, 0, 0]
def k0_cond294 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_732 : BitVec 32 := 5#32
  let v1007 : BitVec 1 := Scalar.cmpi .ne v2 c5_i32_732
  let v1008 : BitVec 32 := Scalar.extui v1007
  let c0_i32_733 : BitVec 32 := 0#32
  let v1009 : BitVec 1 := Scalar.cmpi .ne v1008 c0_i32_733
  v1009

def k0_off296 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond295 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_734 : BitVec 32 := 6#32
  let v1010 : BitVec 1 := Scalar.cmpi .ne v2 c6_i32_734
  let v1011 : BitVec 32 := Scalar.extui v1010
  let c0_i32_735 : BitVec 32 := 0#32
  let v1012 : BitVec 1 := Scalar.cmpi .ne v1011 c0_i32_735
  v1012

def k0_off297 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond296 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_736 : BitVec 32 := 7#32
  let v1013 : BitVec 1 := Scalar.cmpi .ne v2 c7_i32_736
  let v1014 : BitVec 32 := Scalar.extui v1013
  let c0_i32_737 : BitVec 32 := 0#32
  let v1015 : BitVec 1 := Scalar.cmpi .ne v1014 c0_i32_737
  v1015

def k0_off298 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond297 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_738 : BitVec 32 := 8#32
  let v1016 : BitVec 1 := Scalar.cmpi .ne v2 c8_i32_738
  let v1017 : BitVec 32 := Scalar.extui v1016
  let c0_i32_739 : BitVec 32 := 0#32
  let v1018 : BitVec 1 := Scalar.cmpi .ne v1017 c0_i32_739
  v1018

def k0_off299 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond298 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_740 : BitVec 32 := 9#32
  let v1019 : BitVec 1 := Scalar.cmpi .ne v2 c9_i32_740
  let v1020 : BitVec 32 := Scalar.extui v1019
  let c0_i32_741 : BitVec 32 := 0#32
  let v1021 : BitVec 1 := Scalar.cmpi .ne v1020 c0_i32_741
  v1021

def k0_off300 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond299 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_742 : BitVec 32 := 10#32
  let v1022 : BitVec 1 := Scalar.cmpi .ne v2 c10_i32_742
  let v1023 : BitVec 32 := Scalar.extui v1022
  let c0_i32_743 : BitVec 32 := 0#32
  let v1024 : BitVec 1 := Scalar.cmpi .ne v1023 c0_i32_743
  v1024

def k0_off301 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond300 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_744 : BitVec 32 := 11#32
  let v1025 : BitVec 1 := Scalar.cmpi .ne v2 c11_i32_744
  let v1026 : BitVec 32 := Scalar.extui v1025
  let c0_i32_745 : BitVec 32 := 0#32
  let v1027 : BitVec 1 := Scalar.cmpi .ne v1026 c0_i32_745
  v1027

def k0_off302 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond301 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_746 : BitVec 32 := 12#32
  let v1028 : BitVec 1 := Scalar.cmpi .ne v2 c12_i32_746
  let v1029 : BitVec 32 := Scalar.extui v1028
  let c0_i32_747 : BitVec 32 := 0#32
  let v1030 : BitVec 1 := Scalar.cmpi .ne v1029 c0_i32_747
  v1030

def k0_off303 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond302 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_748 : BitVec 32 := 13#32
  let v1031 : BitVec 1 := Scalar.cmpi .ne v2 c13_i32_748
  let v1032 : BitVec 32 := Scalar.extui v1031
  let c0_i32_749 : BitVec 32 := 0#32
  let v1033 : BitVec 1 := Scalar.cmpi .ne v1032 c0_i32_749
  v1033

def k0_off304 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond303 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_750 : BitVec 32 := 14#32
  let v1034 : BitVec 1 := Scalar.cmpi .ne v2 c14_i32_750
  let v1035 : BitVec 32 := Scalar.extui v1034
  let c0_i32_751 : BitVec 32 := 0#32
  let v1036 : BitVec 1 := Scalar.cmpi .ne v1035 c0_i32_751
  v1036

def k0_off305 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond304 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_752 : BitVec 32 := 15#32
  let v1037 : BitVec 1 := Scalar.cmpi .ne v2 c15_i32_752
  let v1038 : BitVec 32 := Scalar.extui v1037
  let c0_i32_753 : BitVec 32 := 0#32
  let v1039 : BitVec 1 := Scalar.cmpi .ne v1038 c0_i32_753
  v1039

def k0_off306 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond305 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_754 : BitVec 32 := 16#32
  let v1040 : BitVec 1 := Scalar.cmpi .ne v2 c16_i32_754
  let v1041 : BitVec 32 := Scalar.extui v1040
  let c0_i32_755 : BitVec 32 := 0#32
  let v1042 : BitVec 1 := Scalar.cmpi .ne v1041 c0_i32_755
  v1042

def k0_off307 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond306 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_756 : BitVec 32 := 17#32
  let v1043 : BitVec 1 := Scalar.cmpi .ne v2 c17_i32_756
  let v1044 : BitVec 32 := Scalar.extui v1043
  let c0_i32_757 : BitVec 32 := 0#32
  let v1045 : BitVec 1 := Scalar.cmpi .ne v1044 c0_i32_757
  v1045

def k0_off308 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond307 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_758 : BitVec 32 := 18#32
  let v1046 : BitVec 1 := Scalar.cmpi .ne v2 c18_i32_758
  let v1047 : BitVec 32 := Scalar.extui v1046
  let c0_i32_759 : BitVec 32 := 0#32
  let v1048 : BitVec 1 := Scalar.cmpi .ne v1047 c0_i32_759
  v1048

def k0_off309 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond308 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_760 : BitVec 32 := 19#32
  let v1049 : BitVec 1 := Scalar.cmpi .ne v2 c19_i32_760
  let v1050 : BitVec 32 := Scalar.extui v1049
  let c0_i32_761 : BitVec 32 := 0#32
  let v1051 : BitVec 1 := Scalar.cmpi .ne v1050 c0_i32_761
  v1051

def k0_off310 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond309 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_762 : BitVec 32 := 20#32
  let v1052 : BitVec 1 := Scalar.cmpi .ne v2 c20_i32_762
  let v1053 : BitVec 32 := Scalar.extui v1052
  let c0_i32_763 : BitVec 32 := 0#32
  let v1054 : BitVec 1 := Scalar.cmpi .ne v1053 c0_i32_763
  v1054

def k0_off311 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond310 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_764 : BitVec 32 := 21#32
  let v1055 : BitVec 1 := Scalar.cmpi .ne v2 c21_i32_764
  let v1056 : BitVec 32 := Scalar.extui v1055
  let c0_i32_765 : BitVec 32 := 0#32
  let v1057 : BitVec 1 := Scalar.cmpi .ne v1056 c0_i32_765
  v1057

def k0_off312 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond311 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_766 : BitVec 32 := 22#32
  let v1058 : BitVec 1 := Scalar.cmpi .ne v2 c22_i32_766
  let v1059 : BitVec 32 := Scalar.extui v1058
  let c0_i32_767 : BitVec 32 := 0#32
  let v1060 : BitVec 1 := Scalar.cmpi .ne v1059 c0_i32_767
  v1060

def k0_off313 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond312 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_768 : BitVec 32 := 23#32
  let v1061 : BitVec 1 := Scalar.cmpi .ne v2 c23_i32_768
  let v1062 : BitVec 32 := Scalar.extui v1061
  let c0_i32_769 : BitVec 32 := 0#32
  let v1063 : BitVec 1 := Scalar.cmpi .ne v1062 c0_i32_769
  v1063

def k0_off314 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond313 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_770 : BitVec 32 := 24#32
  let v1064 : BitVec 1 := Scalar.cmpi .ne v2 c24_i32_770
  let v1065 : BitVec 32 := Scalar.extui v1064
  let c0_i32_771 : BitVec 32 := 0#32
  let v1066 : BitVec 1 := Scalar.cmpi .ne v1065 c0_i32_771
  v1066

def k0_off315 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond314 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_772 : BitVec 32 := 25#32
  let v1067 : BitVec 1 := Scalar.cmpi .ne v2 c25_i32_772
  let v1068 : BitVec 32 := Scalar.extui v1067
  let c0_i32_773 : BitVec 32 := 0#32
  let v1069 : BitVec 1 := Scalar.cmpi .ne v1068 c0_i32_773
  v1069

def k0_off316 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond315 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_774 : BitVec 32 := 26#32
  let v1070 : BitVec 1 := Scalar.cmpi .ne v2 c26_i32_774
  let v1071 : BitVec 32 := Scalar.extui v1070
  let c0_i32_775 : BitVec 32 := 0#32
  let v1072 : BitVec 1 := Scalar.cmpi .ne v1071 c0_i32_775
  v1072

def k0_off317 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond316 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_776 : BitVec 32 := 27#32
  let v1073 : BitVec 1 := Scalar.cmpi .ne v2 c27_i32_776
  let v1074 : BitVec 32 := Scalar.extui v1073
  let c0_i32_777 : BitVec 32 := 0#32
  let v1075 : BitVec 1 := Scalar.cmpi .ne v1074 c0_i32_777
  v1075

def k0_off318 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond317 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_778 : BitVec 32 := 28#32
  let v1076 : BitVec 1 := Scalar.cmpi .ne v2 c28_i32_778
  let v1077 : BitVec 32 := Scalar.extui v1076
  let c0_i32_779 : BitVec 32 := 0#32
  let v1078 : BitVec 1 := Scalar.cmpi .ne v1077 c0_i32_779
  v1078

def k0_off319 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond318 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_780 : BitVec 32 := 29#32
  let v1079 : BitVec 1 := Scalar.cmpi .ne v2 c29_i32_780
  let v1080 : BitVec 32 := Scalar.extui v1079
  let c0_i32_781 : BitVec 32 := 0#32
  let v1081 : BitVec 1 := Scalar.cmpi .ne v1080 c0_i32_781
  v1081

def k0_off320 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond319 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_782 : BitVec 32 := 30#32
  let v1082 : BitVec 1 := Scalar.cmpi .ne v2 c30_i32_782
  let v1083 : BitVec 32 := Scalar.extui v1082
  let c0_i32_783 : BitVec 32 := 0#32
  let v1084 : BitVec 1 := Scalar.cmpi .ne v1083 c0_i32_783
  v1084

def k0_off321 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond320 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_784 : BitVec 32 := 31#32
  let v1085 : BitVec 1 := Scalar.cmpi .ne v2 c31_i32_784
  let v1086 : BitVec 32 := Scalar.extui v1085
  let c0_i32_785 : BitVec 32 := 0#32
  let v1087 : BitVec 1 := Scalar.cmpi .ne v1086 c0_i32_785
  v1087

def k0_off322 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond321 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_791 : BitVec 32 := 0#32
  let v1094 : BitVec 1 := Scalar.cmpi .ne v2 c0_i32_791
  let v1095 : BitVec 32 := Scalar.extui v1094
  let c0_i32_792 : BitVec 32 := 0#32
  let v1096 : BitVec 1 := Scalar.cmpi .ne v1095 c0_i32_792
  v1096

def k0_off323 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off324 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev161 : Nat :=
  let c0_i32_1135 : BitVec 32 := 0#32
  let c0_i32_1133 : BitVec 32 := 0#32
  let c1_i32_1134 : BitVec 32 := 1#32
  let v1598 : BitVec 32 := Scalar.muli c0_i32_1133 c1_i32_1134
  let v1599 : BitVec 32 := Scalar.addi c0_i32_1135 v1598
  v1599.toNat
def k0_cond322 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_793 : BitVec 32 := 1#32
  let v1097 : BitVec 1 := Scalar.cmpi .ne v2 c1_i32_793
  let v1098 : BitVec 32 := Scalar.extui v1097
  let c0_i32_794 : BitVec 32 := 0#32
  let v1099 : BitVec 1 := Scalar.cmpi .ne v1098 c0_i32_794
  v1099

def k0_off325 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off326 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev162 : Nat :=
  let c0_i32_1135 : BitVec 32 := 0#32
  let c1_i32_1133 : BitVec 32 := 1#32
  let c1_i32_1134 : BitVec 32 := 1#32
  let v1598 : BitVec 32 := Scalar.muli c1_i32_1133 c1_i32_1134
  let v1599 : BitVec 32 := Scalar.addi c0_i32_1135 v1598
  v1599.toNat
def k0_cond323 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_795 : BitVec 32 := 2#32
  let v1100 : BitVec 1 := Scalar.cmpi .ne v2 c2_i32_795
  let v1101 : BitVec 32 := Scalar.extui v1100
  let c0_i32_796 : BitVec 32 := 0#32
  let v1102 : BitVec 1 := Scalar.cmpi .ne v1101 c0_i32_796
  v1102

def k0_off327 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off328 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev163 : Nat :=
  let c0_i32_1135 : BitVec 32 := 0#32
  let c2_i32_1133 : BitVec 32 := 2#32
  let c1_i32_1134 : BitVec 32 := 1#32
  let v1598 : BitVec 32 := Scalar.muli c2_i32_1133 c1_i32_1134
  let v1599 : BitVec 32 := Scalar.addi c0_i32_1135 v1598
  v1599.toNat
def k0_cond324 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_797 : BitVec 32 := 3#32
  let v1103 : BitVec 1 := Scalar.cmpi .ne v2 c3_i32_797
  let v1104 : BitVec 32 := Scalar.extui v1103
  let c0_i32_798 : BitVec 32 := 0#32
  let v1105 : BitVec 1 := Scalar.cmpi .ne v1104 c0_i32_798
  v1105

def k0_off329 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off330 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev164 : Nat :=
  let c0_i32_1135 : BitVec 32 := 0#32
  let c3_i32_1133 : BitVec 32 := 3#32
  let c1_i32_1134 : BitVec 32 := 1#32
  let v1598 : BitVec 32 := Scalar.muli c3_i32_1133 c1_i32_1134
  let v1599 : BitVec 32 := Scalar.addi c0_i32_1135 v1598
  v1599.toNat
def k0_cond325 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_799 : BitVec 32 := 4#32
  let v1106 : BitVec 1 := Scalar.cmpi .ne v2 c4_i32_799
  let v1107 : BitVec 32 := Scalar.extui v1106
  let c0_i32_800 : BitVec 32 := 0#32
  let v1108 : BitVec 1 := Scalar.cmpi .ne v1107 c0_i32_800
  v1108

def k0_off331 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off332 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev165 : Nat :=
  let c0_i32_1135 : BitVec 32 := 0#32
  let c4_i32_1133 : BitVec 32 := 4#32
  let c1_i32_1134 : BitVec 32 := 1#32
  let v1598 : BitVec 32 := Scalar.muli c4_i32_1133 c1_i32_1134
  let v1599 : BitVec 32 := Scalar.addi c0_i32_1135 v1598
  v1599.toNat
def k0_cond326 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_801 : BitVec 32 := 5#32
  let v1109 : BitVec 1 := Scalar.cmpi .ne v2 c5_i32_801
  let v1110 : BitVec 32 := Scalar.extui v1109
  let c0_i32_802 : BitVec 32 := 0#32
  let v1111 : BitVec 1 := Scalar.cmpi .ne v1110 c0_i32_802
  v1111

def k0_off333 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off334 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev166 : Nat :=
  let c0_i32_1135 : BitVec 32 := 0#32
  let c5_i32_1133 : BitVec 32 := 5#32
  let c1_i32_1134 : BitVec 32 := 1#32
  let v1598 : BitVec 32 := Scalar.muli c5_i32_1133 c1_i32_1134
  let v1599 : BitVec 32 := Scalar.addi c0_i32_1135 v1598
  v1599.toNat
def k0_cond327 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_803 : BitVec 32 := 6#32
  let v1112 : BitVec 1 := Scalar.cmpi .ne v2 c6_i32_803
  let v1113 : BitVec 32 := Scalar.extui v1112
  let c0_i32_804 : BitVec 32 := 0#32
  let v1114 : BitVec 1 := Scalar.cmpi .ne v1113 c0_i32_804
  v1114

def k0_off335 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off336 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev167 : Nat :=
  let c0_i32_1135 : BitVec 32 := 0#32
  let c6_i32_1133 : BitVec 32 := 6#32
  let c1_i32_1134 : BitVec 32 := 1#32
  let v1598 : BitVec 32 := Scalar.muli c6_i32_1133 c1_i32_1134
  let v1599 : BitVec 32 := Scalar.addi c0_i32_1135 v1598
  v1599.toNat
def k0_cond328 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_805 : BitVec 32 := 7#32
  let v1115 : BitVec 1 := Scalar.cmpi .ne v2 c7_i32_805
  let v1116 : BitVec 32 := Scalar.extui v1115
  let c0_i32_806 : BitVec 32 := 0#32
  let v1117 : BitVec 1 := Scalar.cmpi .ne v1116 c0_i32_806
  v1117

def k0_off337 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off338 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev168 : Nat :=
  let c0_i32_1135 : BitVec 32 := 0#32
  let c7_i32_1133 : BitVec 32 := 7#32
  let c1_i32_1134 : BitVec 32 := 1#32
  let v1598 : BitVec 32 := Scalar.muli c7_i32_1133 c1_i32_1134
  let v1599 : BitVec 32 := Scalar.addi c0_i32_1135 v1598
  v1599.toNat
def k0_cond329 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_807 : BitVec 32 := 8#32
  let v1118 : BitVec 1 := Scalar.cmpi .ne v2 c8_i32_807
  let v1119 : BitVec 32 := Scalar.extui v1118
  let c0_i32_808 : BitVec 32 := 0#32
  let v1120 : BitVec 1 := Scalar.cmpi .ne v1119 c0_i32_808
  v1120

def k0_off339 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off340 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev169 : Nat :=
  let c0_i32_1135 : BitVec 32 := 0#32
  let c8_i32_1133 : BitVec 32 := 8#32
  let c1_i32_1134 : BitVec 32 := 1#32
  let v1598 : BitVec 32 := Scalar.muli c8_i32_1133 c1_i32_1134
  let v1599 : BitVec 32 := Scalar.addi c0_i32_1135 v1598
  v1599.toNat
def k0_cond330 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_809 : BitVec 32 := 9#32
  let v1121 : BitVec 1 := Scalar.cmpi .ne v2 c9_i32_809
  let v1122 : BitVec 32 := Scalar.extui v1121
  let c0_i32_810 : BitVec 32 := 0#32
  let v1123 : BitVec 1 := Scalar.cmpi .ne v1122 c0_i32_810
  v1123

def k0_off341 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off342 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev170 : Nat :=
  let c0_i32_1135 : BitVec 32 := 0#32
  let c9_i32_1133 : BitVec 32 := 9#32
  let c1_i32_1134 : BitVec 32 := 1#32
  let v1598 : BitVec 32 := Scalar.muli c9_i32_1133 c1_i32_1134
  let v1599 : BitVec 32 := Scalar.addi c0_i32_1135 v1598
  v1599.toNat
def k0_cond331 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_811 : BitVec 32 := 10#32
  let v1124 : BitVec 1 := Scalar.cmpi .ne v2 c10_i32_811
  let v1125 : BitVec 32 := Scalar.extui v1124
  let c0_i32_812 : BitVec 32 := 0#32
  let v1126 : BitVec 1 := Scalar.cmpi .ne v1125 c0_i32_812
  v1126

def k0_off343 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off344 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev171 : Nat :=
  let c0_i32_1135 : BitVec 32 := 0#32
  let c10_i32_1133 : BitVec 32 := 10#32
  let c1_i32_1134 : BitVec 32 := 1#32
  let v1598 : BitVec 32 := Scalar.muli c10_i32_1133 c1_i32_1134
  let v1599 : BitVec 32 := Scalar.addi c0_i32_1135 v1598
  v1599.toNat
def k0_cond332 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_813 : BitVec 32 := 11#32
  let v1127 : BitVec 1 := Scalar.cmpi .ne v2 c11_i32_813
  let v1128 : BitVec 32 := Scalar.extui v1127
  let c0_i32_814 : BitVec 32 := 0#32
  let v1129 : BitVec 1 := Scalar.cmpi .ne v1128 c0_i32_814
  v1129

def k0_off345 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off346 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev172 : Nat :=
  let c0_i32_1135 : BitVec 32 := 0#32
  let c11_i32_1133 : BitVec 32 := 11#32
  let c1_i32_1134 : BitVec 32 := 1#32
  let v1598 : BitVec 32 := Scalar.muli c11_i32_1133 c1_i32_1134
  let v1599 : BitVec 32 := Scalar.addi c0_i32_1135 v1598
  v1599.toNat
def k0_cond333 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_815 : BitVec 32 := 12#32
  let v1130 : BitVec 1 := Scalar.cmpi .ne v2 c12_i32_815
  let v1131 : BitVec 32 := Scalar.extui v1130
  let c0_i32_816 : BitVec 32 := 0#32
  let v1132 : BitVec 1 := Scalar.cmpi .ne v1131 c0_i32_816
  v1132

def k0_off347 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off348 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev173 : Nat :=
  let c0_i32_1135 : BitVec 32 := 0#32
  let c12_i32_1133 : BitVec 32 := 12#32
  let c1_i32_1134 : BitVec 32 := 1#32
  let v1598 : BitVec 32 := Scalar.muli c12_i32_1133 c1_i32_1134
  let v1599 : BitVec 32 := Scalar.addi c0_i32_1135 v1598
  v1599.toNat
def k0_cond334 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_817 : BitVec 32 := 13#32
  let v1133 : BitVec 1 := Scalar.cmpi .ne v2 c13_i32_817
  let v1134 : BitVec 32 := Scalar.extui v1133
  let c0_i32_818 : BitVec 32 := 0#32
  let v1135 : BitVec 1 := Scalar.cmpi .ne v1134 c0_i32_818
  v1135

def k0_off349 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off350 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev174 : Nat :=
  let c0_i32_1135 : BitVec 32 := 0#32
  let c13_i32_1133 : BitVec 32 := 13#32
  let c1_i32_1134 : BitVec 32 := 1#32
  let v1598 : BitVec 32 := Scalar.muli c13_i32_1133 c1_i32_1134
  let v1599 : BitVec 32 := Scalar.addi c0_i32_1135 v1598
  v1599.toNat
def k0_cond335 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_819 : BitVec 32 := 14#32
  let v1136 : BitVec 1 := Scalar.cmpi .ne v2 c14_i32_819
  let v1137 : BitVec 32 := Scalar.extui v1136
  let c0_i32_820 : BitVec 32 := 0#32
  let v1138 : BitVec 1 := Scalar.cmpi .ne v1137 c0_i32_820
  v1138

def k0_off351 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off352 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev175 : Nat :=
  let c0_i32_1135 : BitVec 32 := 0#32
  let c14_i32_1133 : BitVec 32 := 14#32
  let c1_i32_1134 : BitVec 32 := 1#32
  let v1598 : BitVec 32 := Scalar.muli c14_i32_1133 c1_i32_1134
  let v1599 : BitVec 32 := Scalar.addi c0_i32_1135 v1598
  v1599.toNat
def k0_cond336 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_821 : BitVec 32 := 15#32
  let v1139 : BitVec 1 := Scalar.cmpi .ne v2 c15_i32_821
  let v1140 : BitVec 32 := Scalar.extui v1139
  let c0_i32_822 : BitVec 32 := 0#32
  let v1141 : BitVec 1 := Scalar.cmpi .ne v1140 c0_i32_822
  v1141

def k0_off353 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off354 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev176 : Nat :=
  let c0_i32_1135 : BitVec 32 := 0#32
  let c15_i32_1133 : BitVec 32 := 15#32
  let c1_i32_1134 : BitVec 32 := 1#32
  let v1598 : BitVec 32 := Scalar.muli c15_i32_1133 c1_i32_1134
  let v1599 : BitVec 32 := Scalar.addi c0_i32_1135 v1598
  v1599.toNat
def k0_cond337 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_823 : BitVec 32 := 16#32
  let v1142 : BitVec 1 := Scalar.cmpi .ne v2 c16_i32_823
  let v1143 : BitVec 32 := Scalar.extui v1142
  let c0_i32_824 : BitVec 32 := 0#32
  let v1144 : BitVec 1 := Scalar.cmpi .ne v1143 c0_i32_824
  v1144

def k0_off355 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off356 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev177 : Nat :=
  let c0_i32_1135 : BitVec 32 := 0#32
  let c16_i32_1133 : BitVec 32 := 16#32
  let c1_i32_1134 : BitVec 32 := 1#32
  let v1598 : BitVec 32 := Scalar.muli c16_i32_1133 c1_i32_1134
  let v1599 : BitVec 32 := Scalar.addi c0_i32_1135 v1598
  v1599.toNat
def k0_cond338 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_825 : BitVec 32 := 17#32
  let v1145 : BitVec 1 := Scalar.cmpi .ne v2 c17_i32_825
  let v1146 : BitVec 32 := Scalar.extui v1145
  let c0_i32_826 : BitVec 32 := 0#32
  let v1147 : BitVec 1 := Scalar.cmpi .ne v1146 c0_i32_826
  v1147

def k0_off357 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off358 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev178 : Nat :=
  let c0_i32_1135 : BitVec 32 := 0#32
  let c17_i32_1133 : BitVec 32 := 17#32
  let c1_i32_1134 : BitVec 32 := 1#32
  let v1598 : BitVec 32 := Scalar.muli c17_i32_1133 c1_i32_1134
  let v1599 : BitVec 32 := Scalar.addi c0_i32_1135 v1598
  v1599.toNat
def k0_cond339 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_827 : BitVec 32 := 18#32
  let v1148 : BitVec 1 := Scalar.cmpi .ne v2 c18_i32_827
  let v1149 : BitVec 32 := Scalar.extui v1148
  let c0_i32_828 : BitVec 32 := 0#32
  let v1150 : BitVec 1 := Scalar.cmpi .ne v1149 c0_i32_828
  v1150

def k0_off359 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off360 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev179 : Nat :=
  let c0_i32_1135 : BitVec 32 := 0#32
  let c18_i32_1133 : BitVec 32 := 18#32
  let c1_i32_1134 : BitVec 32 := 1#32
  let v1598 : BitVec 32 := Scalar.muli c18_i32_1133 c1_i32_1134
  let v1599 : BitVec 32 := Scalar.addi c0_i32_1135 v1598
  v1599.toNat
def k0_cond340 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_829 : BitVec 32 := 19#32
  let v1151 : BitVec 1 := Scalar.cmpi .ne v2 c19_i32_829
  let v1152 : BitVec 32 := Scalar.extui v1151
  let c0_i32_830 : BitVec 32 := 0#32
  let v1153 : BitVec 1 := Scalar.cmpi .ne v1152 c0_i32_830
  v1153

def k0_off361 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off362 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev180 : Nat :=
  let c0_i32_1135 : BitVec 32 := 0#32
  let c19_i32_1133 : BitVec 32 := 19#32
  let c1_i32_1134 : BitVec 32 := 1#32
  let v1598 : BitVec 32 := Scalar.muli c19_i32_1133 c1_i32_1134
  let v1599 : BitVec 32 := Scalar.addi c0_i32_1135 v1598
  v1599.toNat
def k0_cond341 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_831 : BitVec 32 := 20#32
  let v1154 : BitVec 1 := Scalar.cmpi .ne v2 c20_i32_831
  let v1155 : BitVec 32 := Scalar.extui v1154
  let c0_i32_832 : BitVec 32 := 0#32
  let v1156 : BitVec 1 := Scalar.cmpi .ne v1155 c0_i32_832
  v1156

def k0_off363 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off364 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev181 : Nat :=
  let c0_i32_1135 : BitVec 32 := 0#32
  let c20_i32_1133 : BitVec 32 := 20#32
  let c1_i32_1134 : BitVec 32 := 1#32
  let v1598 : BitVec 32 := Scalar.muli c20_i32_1133 c1_i32_1134
  let v1599 : BitVec 32 := Scalar.addi c0_i32_1135 v1598
  v1599.toNat
def k0_cond342 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_833 : BitVec 32 := 21#32
  let v1157 : BitVec 1 := Scalar.cmpi .ne v2 c21_i32_833
  let v1158 : BitVec 32 := Scalar.extui v1157
  let c0_i32_834 : BitVec 32 := 0#32
  let v1159 : BitVec 1 := Scalar.cmpi .ne v1158 c0_i32_834
  v1159

def k0_off365 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off366 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev182 : Nat :=
  let c0_i32_1135 : BitVec 32 := 0#32
  let c21_i32_1133 : BitVec 32 := 21#32
  let c1_i32_1134 : BitVec 32 := 1#32
  let v1598 : BitVec 32 := Scalar.muli c21_i32_1133 c1_i32_1134
  let v1599 : BitVec 32 := Scalar.addi c0_i32_1135 v1598
  v1599.toNat
def k0_cond343 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_835 : BitVec 32 := 22#32
  let v1160 : BitVec 1 := Scalar.cmpi .ne v2 c22_i32_835
  let v1161 : BitVec 32 := Scalar.extui v1160
  let c0_i32_836 : BitVec 32 := 0#32
  let v1162 : BitVec 1 := Scalar.cmpi .ne v1161 c0_i32_836
  v1162

def k0_off367 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off368 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev183 : Nat :=
  let c0_i32_1135 : BitVec 32 := 0#32
  let c22_i32_1133 : BitVec 32 := 22#32
  let c1_i32_1134 : BitVec 32 := 1#32
  let v1598 : BitVec 32 := Scalar.muli c22_i32_1133 c1_i32_1134
  let v1599 : BitVec 32 := Scalar.addi c0_i32_1135 v1598
  v1599.toNat
def k0_cond344 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_837 : BitVec 32 := 23#32
  let v1163 : BitVec 1 := Scalar.cmpi .ne v2 c23_i32_837
  let v1164 : BitVec 32 := Scalar.extui v1163
  let c0_i32_838 : BitVec 32 := 0#32
  let v1165 : BitVec 1 := Scalar.cmpi .ne v1164 c0_i32_838
  v1165

def k0_off369 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off370 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev184 : Nat :=
  let c0_i32_1135 : BitVec 32 := 0#32
  let c23_i32_1133 : BitVec 32 := 23#32
  let c1_i32_1134 : BitVec 32 := 1#32
  let v1598 : BitVec 32 := Scalar.muli c23_i32_1133 c1_i32_1134
  let v1599 : BitVec 32 := Scalar.addi c0_i32_1135 v1598
  v1599.toNat
def k0_cond345 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_839 : BitVec 32 := 24#32
  let v1166 : BitVec 1 := Scalar.cmpi .ne v2 c24_i32_839
  let v1167 : BitVec 32 := Scalar.extui v1166
  let c0_i32_840 : BitVec 32 := 0#32
  let v1168 : BitVec 1 := Scalar.cmpi .ne v1167 c0_i32_840
  v1168

def k0_off371 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off372 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev185 : Nat :=
  let c0_i32_1135 : BitVec 32 := 0#32
  let c24_i32_1133 : BitVec 32 := 24#32
  let c1_i32_1134 : BitVec 32 := 1#32
  let v1598 : BitVec 32 := Scalar.muli c24_i32_1133 c1_i32_1134
  let v1599 : BitVec 32 := Scalar.addi c0_i32_1135 v1598
  v1599.toNat
def k0_cond346 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_841 : BitVec 32 := 25#32
  let v1169 : BitVec 1 := Scalar.cmpi .ne v2 c25_i32_841
  let v1170 : BitVec 32 := Scalar.extui v1169
  let c0_i32_842 : BitVec 32 := 0#32
  let v1171 : BitVec 1 := Scalar.cmpi .ne v1170 c0_i32_842
  v1171

def k0_off373 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off374 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev186 : Nat :=
  let c0_i32_1135 : BitVec 32 := 0#32
  let c25_i32_1133 : BitVec 32 := 25#32
  let c1_i32_1134 : BitVec 32 := 1#32
  let v1598 : BitVec 32 := Scalar.muli c25_i32_1133 c1_i32_1134
  let v1599 : BitVec 32 := Scalar.addi c0_i32_1135 v1598
  v1599.toNat
def k0_cond347 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_843 : BitVec 32 := 26#32
  let v1172 : BitVec 1 := Scalar.cmpi .ne v2 c26_i32_843
  let v1173 : BitVec 32 := Scalar.extui v1172
  let c0_i32_844 : BitVec 32 := 0#32
  let v1174 : BitVec 1 := Scalar.cmpi .ne v1173 c0_i32_844
  v1174

def k0_off375 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off376 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev187 : Nat :=
  let c0_i32_1135 : BitVec 32 := 0#32
  let c26_i32_1133 : BitVec 32 := 26#32
  let c1_i32_1134 : BitVec 32 := 1#32
  let v1598 : BitVec 32 := Scalar.muli c26_i32_1133 c1_i32_1134
  let v1599 : BitVec 32 := Scalar.addi c0_i32_1135 v1598
  v1599.toNat
def k0_cond348 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_845 : BitVec 32 := 27#32
  let v1175 : BitVec 1 := Scalar.cmpi .ne v2 c27_i32_845
  let v1176 : BitVec 32 := Scalar.extui v1175
  let c0_i32_846 : BitVec 32 := 0#32
  let v1177 : BitVec 1 := Scalar.cmpi .ne v1176 c0_i32_846
  v1177

def k0_off377 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off378 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev188 : Nat :=
  let c0_i32_1135 : BitVec 32 := 0#32
  let c27_i32_1133 : BitVec 32 := 27#32
  let c1_i32_1134 : BitVec 32 := 1#32
  let v1598 : BitVec 32 := Scalar.muli c27_i32_1133 c1_i32_1134
  let v1599 : BitVec 32 := Scalar.addi c0_i32_1135 v1598
  v1599.toNat
def k0_cond349 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_847 : BitVec 32 := 28#32
  let v1178 : BitVec 1 := Scalar.cmpi .ne v2 c28_i32_847
  let v1179 : BitVec 32 := Scalar.extui v1178
  let c0_i32_848 : BitVec 32 := 0#32
  let v1180 : BitVec 1 := Scalar.cmpi .ne v1179 c0_i32_848
  v1180

def k0_off379 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off380 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev189 : Nat :=
  let c0_i32_1135 : BitVec 32 := 0#32
  let c28_i32_1133 : BitVec 32 := 28#32
  let c1_i32_1134 : BitVec 32 := 1#32
  let v1598 : BitVec 32 := Scalar.muli c28_i32_1133 c1_i32_1134
  let v1599 : BitVec 32 := Scalar.addi c0_i32_1135 v1598
  v1599.toNat
def k0_cond350 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_849 : BitVec 32 := 29#32
  let v1181 : BitVec 1 := Scalar.cmpi .ne v2 c29_i32_849
  let v1182 : BitVec 32 := Scalar.extui v1181
  let c0_i32_850 : BitVec 32 := 0#32
  let v1183 : BitVec 1 := Scalar.cmpi .ne v1182 c0_i32_850
  v1183

def k0_off381 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off382 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev190 : Nat :=
  let c0_i32_1135 : BitVec 32 := 0#32
  let c29_i32_1133 : BitVec 32 := 29#32
  let c1_i32_1134 : BitVec 32 := 1#32
  let v1598 : BitVec 32 := Scalar.muli c29_i32_1133 c1_i32_1134
  let v1599 : BitVec 32 := Scalar.addi c0_i32_1135 v1598
  v1599.toNat
def k0_cond351 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_851 : BitVec 32 := 30#32
  let v1184 : BitVec 1 := Scalar.cmpi .ne v2 c30_i32_851
  let v1185 : BitVec 32 := Scalar.extui v1184
  let c0_i32_852 : BitVec 32 := 0#32
  let v1186 : BitVec 1 := Scalar.cmpi .ne v1185 c0_i32_852
  v1186

def k0_off383 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off384 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev191 : Nat :=
  let c0_i32_1135 : BitVec 32 := 0#32
  let c30_i32_1133 : BitVec 32 := 30#32
  let c1_i32_1134 : BitVec 32 := 1#32
  let v1598 : BitVec 32 := Scalar.muli c30_i32_1133 c1_i32_1134
  let v1599 : BitVec 32 := Scalar.addi c0_i32_1135 v1598
  v1599.toNat
def k0_cond352 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_853 : BitVec 32 := 31#32
  let v1187 : BitVec 1 := Scalar.cmpi .ne v2 c31_i32_853
  let v1188 : BitVec 32 := Scalar.extui v1187
  let c0_i32_854 : BitVec 32 := 0#32
  let v1189 : BitVec 1 := Scalar.cmpi .ne v1188 c0_i32_854
  v1189

def k0_off385 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off386 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev192 : Nat :=
  let c0_i32_1135 : BitVec 32 := 0#32
  let c31_i32_1133 : BitVec 32 := 31#32
  let c1_i32_1134 : BitVec 32 := 1#32
  let v1598 : BitVec 32 := Scalar.muli c31_i32_1133 c1_i32_1134
  let v1599 : BitVec 32 := Scalar.addi c0_i32_1135 v1598
  v1599.toNat
def k0_cond385 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_930 : BitVec 32 := 0#32
  let v1300 : BitVec 1 := Scalar.cmpi .ne v2 c0_i32_930
  let v1301 : BitVec 32 := Scalar.extui v1300
  let c0_i32_931 : BitVec 32 := 0#32
  let v1302 : BitVec 1 := Scalar.cmpi .ne v1301 c0_i32_931
  v1302

def k0_off387 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off388 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev193 : Nat :=
  let c0_i32_1135 : BitVec 32 := 0#32
  let c0_i32_1133 : BitVec 32 := 0#32
  let c1_i32_1134 : BitVec 32 := 1#32
  let v1598 : BitVec 32 := Scalar.muli c0_i32_1133 c1_i32_1134
  let v1599 : BitVec 32 := Scalar.addi c0_i32_1135 v1598
  v1599.toNat
def k0_cond386 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_932 : BitVec 32 := 1#32
  let v1303 : BitVec 1 := Scalar.cmpi .ne v2 c1_i32_932
  let v1304 : BitVec 32 := Scalar.extui v1303
  let c0_i32_933 : BitVec 32 := 0#32
  let v1305 : BitVec 1 := Scalar.cmpi .ne v1304 c0_i32_933
  v1305

def k0_off389 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off390 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev194 : Nat :=
  let c0_i32_1135 : BitVec 32 := 0#32
  let c1_i32_1133 : BitVec 32 := 1#32
  let c1_i32_1134 : BitVec 32 := 1#32
  let v1598 : BitVec 32 := Scalar.muli c1_i32_1133 c1_i32_1134
  let v1599 : BitVec 32 := Scalar.addi c0_i32_1135 v1598
  v1599.toNat
def k0_cond387 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_934 : BitVec 32 := 2#32
  let v1306 : BitVec 1 := Scalar.cmpi .ne v2 c2_i32_934
  let v1307 : BitVec 32 := Scalar.extui v1306
  let c0_i32_935 : BitVec 32 := 0#32
  let v1308 : BitVec 1 := Scalar.cmpi .ne v1307 c0_i32_935
  v1308

def k0_off391 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off392 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev195 : Nat :=
  let c0_i32_1135 : BitVec 32 := 0#32
  let c2_i32_1133 : BitVec 32 := 2#32
  let c1_i32_1134 : BitVec 32 := 1#32
  let v1598 : BitVec 32 := Scalar.muli c2_i32_1133 c1_i32_1134
  let v1599 : BitVec 32 := Scalar.addi c0_i32_1135 v1598
  v1599.toNat
def k0_cond388 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_936 : BitVec 32 := 3#32
  let v1309 : BitVec 1 := Scalar.cmpi .ne v2 c3_i32_936
  let v1310 : BitVec 32 := Scalar.extui v1309
  let c0_i32_937 : BitVec 32 := 0#32
  let v1311 : BitVec 1 := Scalar.cmpi .ne v1310 c0_i32_937
  v1311

def k0_off393 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off394 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev196 : Nat :=
  let c0_i32_1135 : BitVec 32 := 0#32
  let c3_i32_1133 : BitVec 32 := 3#32
  let c1_i32_1134 : BitVec 32 := 1#32
  let v1598 : BitVec 32 := Scalar.muli c3_i32_1133 c1_i32_1134
  let v1599 : BitVec 32 := Scalar.addi c0_i32_1135 v1598
  v1599.toNat
def k0_cond389 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_938 : BitVec 32 := 4#32
  let v1312 : BitVec 1 := Scalar.cmpi .ne v2 c4_i32_938
  let v1313 : BitVec 32 := Scalar.extui v1312
  let c0_i32_939 : BitVec 32 := 0#32
  let v1314 : BitVec 1 := Scalar.cmpi .ne v1313 c0_i32_939
  v1314

def k0_off395 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off396 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev197 : Nat :=
  let c0_i32_1135 : BitVec 32 := 0#32
  let c4_i32_1133 : BitVec 32 := 4#32
  let c1_i32_1134 : BitVec 32 := 1#32
  let v1598 : BitVec 32 := Scalar.muli c4_i32_1133 c1_i32_1134
  let v1599 : BitVec 32 := Scalar.addi c0_i32_1135 v1598
  v1599.toNat
def k0_cond390 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_940 : BitVec 32 := 5#32
  let v1315 : BitVec 1 := Scalar.cmpi .ne v2 c5_i32_940
  let v1316 : BitVec 32 := Scalar.extui v1315
  let c0_i32_941 : BitVec 32 := 0#32
  let v1317 : BitVec 1 := Scalar.cmpi .ne v1316 c0_i32_941
  v1317

def k0_off397 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off398 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev198 : Nat :=
  let c0_i32_1135 : BitVec 32 := 0#32
  let c5_i32_1133 : BitVec 32 := 5#32
  let c1_i32_1134 : BitVec 32 := 1#32
  let v1598 : BitVec 32 := Scalar.muli c5_i32_1133 c1_i32_1134
  let v1599 : BitVec 32 := Scalar.addi c0_i32_1135 v1598
  v1599.toNat
def k0_cond391 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_942 : BitVec 32 := 6#32
  let v1318 : BitVec 1 := Scalar.cmpi .ne v2 c6_i32_942
  let v1319 : BitVec 32 := Scalar.extui v1318
  let c0_i32_943 : BitVec 32 := 0#32
  let v1320 : BitVec 1 := Scalar.cmpi .ne v1319 c0_i32_943
  v1320

def k0_off399 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off400 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev199 : Nat :=
  let c0_i32_1135 : BitVec 32 := 0#32
  let c6_i32_1133 : BitVec 32 := 6#32
  let c1_i32_1134 : BitVec 32 := 1#32
  let v1598 : BitVec 32 := Scalar.muli c6_i32_1133 c1_i32_1134
  let v1599 : BitVec 32 := Scalar.addi c0_i32_1135 v1598
  v1599.toNat
def k0_cond392 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_944 : BitVec 32 := 7#32
  let v1321 : BitVec 1 := Scalar.cmpi .ne v2 c7_i32_944
  let v1322 : BitVec 32 := Scalar.extui v1321
  let c0_i32_945 : BitVec 32 := 0#32
  let v1323 : BitVec 1 := Scalar.cmpi .ne v1322 c0_i32_945
  v1323

def k0_off401 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off402 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev200 : Nat :=
  let c0_i32_1135 : BitVec 32 := 0#32
  let c7_i32_1133 : BitVec 32 := 7#32
  let c1_i32_1134 : BitVec 32 := 1#32
  let v1598 : BitVec 32 := Scalar.muli c7_i32_1133 c1_i32_1134
  let v1599 : BitVec 32 := Scalar.addi c0_i32_1135 v1598
  v1599.toNat
def k0_cond393 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_946 : BitVec 32 := 8#32
  let v1324 : BitVec 1 := Scalar.cmpi .ne v2 c8_i32_946
  let v1325 : BitVec 32 := Scalar.extui v1324
  let c0_i32_947 : BitVec 32 := 0#32
  let v1326 : BitVec 1 := Scalar.cmpi .ne v1325 c0_i32_947
  v1326

def k0_off403 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off404 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev201 : Nat :=
  let c0_i32_1135 : BitVec 32 := 0#32
  let c8_i32_1133 : BitVec 32 := 8#32
  let c1_i32_1134 : BitVec 32 := 1#32
  let v1598 : BitVec 32 := Scalar.muli c8_i32_1133 c1_i32_1134
  let v1599 : BitVec 32 := Scalar.addi c0_i32_1135 v1598
  v1599.toNat
def k0_cond394 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_948 : BitVec 32 := 9#32
  let v1327 : BitVec 1 := Scalar.cmpi .ne v2 c9_i32_948
  let v1328 : BitVec 32 := Scalar.extui v1327
  let c0_i32_949 : BitVec 32 := 0#32
  let v1329 : BitVec 1 := Scalar.cmpi .ne v1328 c0_i32_949
  v1329

def k0_off405 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off406 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev202 : Nat :=
  let c0_i32_1135 : BitVec 32 := 0#32
  let c9_i32_1133 : BitVec 32 := 9#32
  let c1_i32_1134 : BitVec 32 := 1#32
  let v1598 : BitVec 32 := Scalar.muli c9_i32_1133 c1_i32_1134
  let v1599 : BitVec 32 := Scalar.addi c0_i32_1135 v1598
  v1599.toNat
def k0_cond395 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_950 : BitVec 32 := 10#32
  let v1330 : BitVec 1 := Scalar.cmpi .ne v2 c10_i32_950
  let v1331 : BitVec 32 := Scalar.extui v1330
  let c0_i32_951 : BitVec 32 := 0#32
  let v1332 : BitVec 1 := Scalar.cmpi .ne v1331 c0_i32_951
  v1332

def k0_off407 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off408 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev203 : Nat :=
  let c0_i32_1135 : BitVec 32 := 0#32
  let c10_i32_1133 : BitVec 32 := 10#32
  let c1_i32_1134 : BitVec 32 := 1#32
  let v1598 : BitVec 32 := Scalar.muli c10_i32_1133 c1_i32_1134
  let v1599 : BitVec 32 := Scalar.addi c0_i32_1135 v1598
  v1599.toNat
def k0_cond396 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_952 : BitVec 32 := 11#32
  let v1333 : BitVec 1 := Scalar.cmpi .ne v2 c11_i32_952
  let v1334 : BitVec 32 := Scalar.extui v1333
  let c0_i32_953 : BitVec 32 := 0#32
  let v1335 : BitVec 1 := Scalar.cmpi .ne v1334 c0_i32_953
  v1335

def k0_off409 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off410 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev204 : Nat :=
  let c0_i32_1135 : BitVec 32 := 0#32
  let c11_i32_1133 : BitVec 32 := 11#32
  let c1_i32_1134 : BitVec 32 := 1#32
  let v1598 : BitVec 32 := Scalar.muli c11_i32_1133 c1_i32_1134
  let v1599 : BitVec 32 := Scalar.addi c0_i32_1135 v1598
  v1599.toNat
def k0_cond397 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_954 : BitVec 32 := 12#32
  let v1336 : BitVec 1 := Scalar.cmpi .ne v2 c12_i32_954
  let v1337 : BitVec 32 := Scalar.extui v1336
  let c0_i32_955 : BitVec 32 := 0#32
  let v1338 : BitVec 1 := Scalar.cmpi .ne v1337 c0_i32_955
  v1338

def k0_off411 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off412 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev205 : Nat :=
  let c0_i32_1135 : BitVec 32 := 0#32
  let c12_i32_1133 : BitVec 32 := 12#32
  let c1_i32_1134 : BitVec 32 := 1#32
  let v1598 : BitVec 32 := Scalar.muli c12_i32_1133 c1_i32_1134
  let v1599 : BitVec 32 := Scalar.addi c0_i32_1135 v1598
  v1599.toNat
def k0_cond398 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_956 : BitVec 32 := 13#32
  let v1339 : BitVec 1 := Scalar.cmpi .ne v2 c13_i32_956
  let v1340 : BitVec 32 := Scalar.extui v1339
  let c0_i32_957 : BitVec 32 := 0#32
  let v1341 : BitVec 1 := Scalar.cmpi .ne v1340 c0_i32_957
  v1341

def k0_off413 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off414 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev206 : Nat :=
  let c0_i32_1135 : BitVec 32 := 0#32
  let c13_i32_1133 : BitVec 32 := 13#32
  let c1_i32_1134 : BitVec 32 := 1#32
  let v1598 : BitVec 32 := Scalar.muli c13_i32_1133 c1_i32_1134
  let v1599 : BitVec 32 := Scalar.addi c0_i32_1135 v1598
  v1599.toNat
def k0_cond399 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_958 : BitVec 32 := 14#32
  let v1342 : BitVec 1 := Scalar.cmpi .ne v2 c14_i32_958
  let v1343 : BitVec 32 := Scalar.extui v1342
  let c0_i32_959 : BitVec 32 := 0#32
  let v1344 : BitVec 1 := Scalar.cmpi .ne v1343 c0_i32_959
  v1344

def k0_off415 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off416 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev207 : Nat :=
  let c0_i32_1135 : BitVec 32 := 0#32
  let c14_i32_1133 : BitVec 32 := 14#32
  let c1_i32_1134 : BitVec 32 := 1#32
  let v1598 : BitVec 32 := Scalar.muli c14_i32_1133 c1_i32_1134
  let v1599 : BitVec 32 := Scalar.addi c0_i32_1135 v1598
  v1599.toNat
def k0_cond400 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_960 : BitVec 32 := 15#32
  let v1345 : BitVec 1 := Scalar.cmpi .ne v2 c15_i32_960
  let v1346 : BitVec 32 := Scalar.extui v1345
  let c0_i32_961 : BitVec 32 := 0#32
  let v1347 : BitVec 1 := Scalar.cmpi .ne v1346 c0_i32_961
  v1347

def k0_off417 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off418 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev208 : Nat :=
  let c0_i32_1135 : BitVec 32 := 0#32
  let c15_i32_1133 : BitVec 32 := 15#32
  let c1_i32_1134 : BitVec 32 := 1#32
  let v1598 : BitVec 32 := Scalar.muli c15_i32_1133 c1_i32_1134
  let v1599 : BitVec 32 := Scalar.addi c0_i32_1135 v1598
  v1599.toNat
def k0_cond401 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_962 : BitVec 32 := 16#32
  let v1348 : BitVec 1 := Scalar.cmpi .ne v2 c16_i32_962
  let v1349 : BitVec 32 := Scalar.extui v1348
  let c0_i32_963 : BitVec 32 := 0#32
  let v1350 : BitVec 1 := Scalar.cmpi .ne v1349 c0_i32_963
  v1350

def k0_off419 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off420 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev209 : Nat :=
  let c0_i32_1135 : BitVec 32 := 0#32
  let c16_i32_1133 : BitVec 32 := 16#32
  let c1_i32_1134 : BitVec 32 := 1#32
  let v1598 : BitVec 32 := Scalar.muli c16_i32_1133 c1_i32_1134
  let v1599 : BitVec 32 := Scalar.addi c0_i32_1135 v1598
  v1599.toNat
def k0_cond402 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_964 : BitVec 32 := 17#32
  let v1351 : BitVec 1 := Scalar.cmpi .ne v2 c17_i32_964
  let v1352 : BitVec 32 := Scalar.extui v1351
  let c0_i32_965 : BitVec 32 := 0#32
  let v1353 : BitVec 1 := Scalar.cmpi .ne v1352 c0_i32_965
  v1353

def k0_off421 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off422 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev210 : Nat :=
  let c0_i32_1135 : BitVec 32 := 0#32
  let c17_i32_1133 : BitVec 32 := 17#32
  let c1_i32_1134 : BitVec 32 := 1#32
  let v1598 : BitVec 32 := Scalar.muli c17_i32_1133 c1_i32_1134
  let v1599 : BitVec 32 := Scalar.addi c0_i32_1135 v1598
  v1599.toNat
def k0_cond403 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_966 : BitVec 32 := 18#32
  let v1354 : BitVec 1 := Scalar.cmpi .ne v2 c18_i32_966
  let v1355 : BitVec 32 := Scalar.extui v1354
  let c0_i32_967 : BitVec 32 := 0#32
  let v1356 : BitVec 1 := Scalar.cmpi .ne v1355 c0_i32_967
  v1356

def k0_off423 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off424 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev211 : Nat :=
  let c0_i32_1135 : BitVec 32 := 0#32
  let c18_i32_1133 : BitVec 32 := 18#32
  let c1_i32_1134 : BitVec 32 := 1#32
  let v1598 : BitVec 32 := Scalar.muli c18_i32_1133 c1_i32_1134
  let v1599 : BitVec 32 := Scalar.addi c0_i32_1135 v1598
  v1599.toNat
def k0_cond404 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_968 : BitVec 32 := 19#32
  let v1357 : BitVec 1 := Scalar.cmpi .ne v2 c19_i32_968
  let v1358 : BitVec 32 := Scalar.extui v1357
  let c0_i32_969 : BitVec 32 := 0#32
  let v1359 : BitVec 1 := Scalar.cmpi .ne v1358 c0_i32_969
  v1359

def k0_off425 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off426 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev212 : Nat :=
  let c0_i32_1135 : BitVec 32 := 0#32
  let c19_i32_1133 : BitVec 32 := 19#32
  let c1_i32_1134 : BitVec 32 := 1#32
  let v1598 : BitVec 32 := Scalar.muli c19_i32_1133 c1_i32_1134
  let v1599 : BitVec 32 := Scalar.addi c0_i32_1135 v1598
  v1599.toNat
def k0_cond405 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_970 : BitVec 32 := 20#32
  let v1360 : BitVec 1 := Scalar.cmpi .ne v2 c20_i32_970
  let v1361 : BitVec 32 := Scalar.extui v1360
  let c0_i32_971 : BitVec 32 := 0#32
  let v1362 : BitVec 1 := Scalar.cmpi .ne v1361 c0_i32_971
  v1362

def k0_off427 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off428 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev213 : Nat :=
  let c0_i32_1135 : BitVec 32 := 0#32
  let c20_i32_1133 : BitVec 32 := 20#32
  let c1_i32_1134 : BitVec 32 := 1#32
  let v1598 : BitVec 32 := Scalar.muli c20_i32_1133 c1_i32_1134
  let v1599 : BitVec 32 := Scalar.addi c0_i32_1135 v1598
  v1599.toNat
def k0_cond406 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_972 : BitVec 32 := 21#32
  let v1363 : BitVec 1 := Scalar.cmpi .ne v2 c21_i32_972
  let v1364 : BitVec 32 := Scalar.extui v1363
  let c0_i32_973 : BitVec 32 := 0#32
  let v1365 : BitVec 1 := Scalar.cmpi .ne v1364 c0_i32_973
  v1365

def k0_off429 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off430 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev214 : Nat :=
  let c0_i32_1135 : BitVec 32 := 0#32
  let c21_i32_1133 : BitVec 32 := 21#32
  let c1_i32_1134 : BitVec 32 := 1#32
  let v1598 : BitVec 32 := Scalar.muli c21_i32_1133 c1_i32_1134
  let v1599 : BitVec 32 := Scalar.addi c0_i32_1135 v1598
  v1599.toNat
def k0_cond407 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_974 : BitVec 32 := 22#32
  let v1366 : BitVec 1 := Scalar.cmpi .ne v2 c22_i32_974
  let v1367 : BitVec 32 := Scalar.extui v1366
  let c0_i32_975 : BitVec 32 := 0#32
  let v1368 : BitVec 1 := Scalar.cmpi .ne v1367 c0_i32_975
  v1368

def k0_off431 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off432 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev215 : Nat :=
  let c0_i32_1135 : BitVec 32 := 0#32
  let c22_i32_1133 : BitVec 32 := 22#32
  let c1_i32_1134 : BitVec 32 := 1#32
  let v1598 : BitVec 32 := Scalar.muli c22_i32_1133 c1_i32_1134
  let v1599 : BitVec 32 := Scalar.addi c0_i32_1135 v1598
  v1599.toNat
def k0_cond408 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_976 : BitVec 32 := 23#32
  let v1369 : BitVec 1 := Scalar.cmpi .ne v2 c23_i32_976
  let v1370 : BitVec 32 := Scalar.extui v1369
  let c0_i32_977 : BitVec 32 := 0#32
  let v1371 : BitVec 1 := Scalar.cmpi .ne v1370 c0_i32_977
  v1371

def k0_off433 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off434 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev216 : Nat :=
  let c0_i32_1135 : BitVec 32 := 0#32
  let c23_i32_1133 : BitVec 32 := 23#32
  let c1_i32_1134 : BitVec 32 := 1#32
  let v1598 : BitVec 32 := Scalar.muli c23_i32_1133 c1_i32_1134
  let v1599 : BitVec 32 := Scalar.addi c0_i32_1135 v1598
  v1599.toNat
def k0_cond409 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_978 : BitVec 32 := 24#32
  let v1372 : BitVec 1 := Scalar.cmpi .ne v2 c24_i32_978
  let v1373 : BitVec 32 := Scalar.extui v1372
  let c0_i32_979 : BitVec 32 := 0#32
  let v1374 : BitVec 1 := Scalar.cmpi .ne v1373 c0_i32_979
  v1374

def k0_off435 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off436 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev217 : Nat :=
  let c0_i32_1135 : BitVec 32 := 0#32
  let c24_i32_1133 : BitVec 32 := 24#32
  let c1_i32_1134 : BitVec 32 := 1#32
  let v1598 : BitVec 32 := Scalar.muli c24_i32_1133 c1_i32_1134
  let v1599 : BitVec 32 := Scalar.addi c0_i32_1135 v1598
  v1599.toNat
def k0_cond410 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_980 : BitVec 32 := 25#32
  let v1375 : BitVec 1 := Scalar.cmpi .ne v2 c25_i32_980
  let v1376 : BitVec 32 := Scalar.extui v1375
  let c0_i32_981 : BitVec 32 := 0#32
  let v1377 : BitVec 1 := Scalar.cmpi .ne v1376 c0_i32_981
  v1377

def k0_off437 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off438 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev218 : Nat :=
  let c0_i32_1135 : BitVec 32 := 0#32
  let c25_i32_1133 : BitVec 32 := 25#32
  let c1_i32_1134 : BitVec 32 := 1#32
  let v1598 : BitVec 32 := Scalar.muli c25_i32_1133 c1_i32_1134
  let v1599 : BitVec 32 := Scalar.addi c0_i32_1135 v1598
  v1599.toNat
def k0_cond411 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_982 : BitVec 32 := 26#32
  let v1378 : BitVec 1 := Scalar.cmpi .ne v2 c26_i32_982
  let v1379 : BitVec 32 := Scalar.extui v1378
  let c0_i32_983 : BitVec 32 := 0#32
  let v1380 : BitVec 1 := Scalar.cmpi .ne v1379 c0_i32_983
  v1380

def k0_off439 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off440 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev219 : Nat :=
  let c0_i32_1135 : BitVec 32 := 0#32
  let c26_i32_1133 : BitVec 32 := 26#32
  let c1_i32_1134 : BitVec 32 := 1#32
  let v1598 : BitVec 32 := Scalar.muli c26_i32_1133 c1_i32_1134
  let v1599 : BitVec 32 := Scalar.addi c0_i32_1135 v1598
  v1599.toNat
def k0_cond412 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_984 : BitVec 32 := 27#32
  let v1381 : BitVec 1 := Scalar.cmpi .ne v2 c27_i32_984
  let v1382 : BitVec 32 := Scalar.extui v1381
  let c0_i32_985 : BitVec 32 := 0#32
  let v1383 : BitVec 1 := Scalar.cmpi .ne v1382 c0_i32_985
  v1383

def k0_off441 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off442 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev220 : Nat :=
  let c0_i32_1135 : BitVec 32 := 0#32
  let c27_i32_1133 : BitVec 32 := 27#32
  let c1_i32_1134 : BitVec 32 := 1#32
  let v1598 : BitVec 32 := Scalar.muli c27_i32_1133 c1_i32_1134
  let v1599 : BitVec 32 := Scalar.addi c0_i32_1135 v1598
  v1599.toNat
def k0_cond413 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_986 : BitVec 32 := 28#32
  let v1384 : BitVec 1 := Scalar.cmpi .ne v2 c28_i32_986
  let v1385 : BitVec 32 := Scalar.extui v1384
  let c0_i32_987 : BitVec 32 := 0#32
  let v1386 : BitVec 1 := Scalar.cmpi .ne v1385 c0_i32_987
  v1386

def k0_off443 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off444 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev221 : Nat :=
  let c0_i32_1135 : BitVec 32 := 0#32
  let c28_i32_1133 : BitVec 32 := 28#32
  let c1_i32_1134 : BitVec 32 := 1#32
  let v1598 : BitVec 32 := Scalar.muli c28_i32_1133 c1_i32_1134
  let v1599 : BitVec 32 := Scalar.addi c0_i32_1135 v1598
  v1599.toNat
def k0_cond414 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_988 : BitVec 32 := 29#32
  let v1387 : BitVec 1 := Scalar.cmpi .ne v2 c29_i32_988
  let v1388 : BitVec 32 := Scalar.extui v1387
  let c0_i32_989 : BitVec 32 := 0#32
  let v1389 : BitVec 1 := Scalar.cmpi .ne v1388 c0_i32_989
  v1389

def k0_off445 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off446 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev222 : Nat :=
  let c0_i32_1135 : BitVec 32 := 0#32
  let c29_i32_1133 : BitVec 32 := 29#32
  let c1_i32_1134 : BitVec 32 := 1#32
  let v1598 : BitVec 32 := Scalar.muli c29_i32_1133 c1_i32_1134
  let v1599 : BitVec 32 := Scalar.addi c0_i32_1135 v1598
  v1599.toNat
def k0_cond415 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_990 : BitVec 32 := 30#32
  let v1390 : BitVec 1 := Scalar.cmpi .ne v2 c30_i32_990
  let v1391 : BitVec 32 := Scalar.extui v1390
  let c0_i32_991 : BitVec 32 := 0#32
  let v1392 : BitVec 1 := Scalar.cmpi .ne v1391 c0_i32_991
  v1392

def k0_off447 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off448 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev223 : Nat :=
  let c0_i32_1135 : BitVec 32 := 0#32
  let c30_i32_1133 : BitVec 32 := 30#32
  let c1_i32_1134 : BitVec 32 := 1#32
  let v1598 : BitVec 32 := Scalar.muli c30_i32_1133 c1_i32_1134
  let v1599 : BitVec 32 := Scalar.addi c0_i32_1135 v1598
  v1599.toNat
def k0_cond416 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_992 : BitVec 32 := 31#32
  let v1393 : BitVec 1 := Scalar.cmpi .ne v2 c31_i32_992
  let v1394 : BitVec 32 := Scalar.extui v1393
  let c0_i32_993 : BitVec 32 := 0#32
  let v1395 : BitVec 1 := Scalar.cmpi .ne v1394 c0_i32_993
  v1395

def k0_off449 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off450 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_dev224 : Nat :=
  let c0_i32_1135 : BitVec 32 := 0#32
  let c31_i32_1133 : BitVec 32 := 31#32
  let c1_i32_1134 : BitVec 32 := 1#32
  let v1598 : BitVec 32 := Scalar.muli c31_i32_1133 c1_i32_1134
  let v1599 : BitVec 32 := Scalar.addi c0_i32_1135 v1598
  v1599.toNat
def k0_cond449 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1066 : BitVec 32 := 0#32
  let v1501 : BitVec 1 := Scalar.cmpi .ne v2 c0_i32_1066
  let v1502 : BitVec 32 := Scalar.extui v1501
  let c0_i32_1067 : BitVec 32 := 0#32
  let v1503 : BitVec 1 := Scalar.cmpi .ne v1502 c0_i32_1067
  v1503

def k0_off451 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1137 : BitVec 32 := 0#32
  let c0_i32_1138 : BitVec 32 := 0#32
  ![v2.toNat, 0, 0]
def k0_cond450 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1068 : BitVec 32 := 1#32
  let v1504 : BitVec 1 := Scalar.cmpi .ne v2 c1_i32_1068
  let v1505 : BitVec 32 := Scalar.extui v1504
  let c0_i32_1069 : BitVec 32 := 0#32
  let v1506 : BitVec 1 := Scalar.cmpi .ne v1505 c0_i32_1069
  v1506

def k0_off452 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1137 : BitVec 32 := 0#32
  let c0_i32_1138 : BitVec 32 := 0#32
  ![v2.toNat, 0, 0]
def k0_cond451 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1070 : BitVec 32 := 2#32
  let v1507 : BitVec 1 := Scalar.cmpi .ne v2 c2_i32_1070
  let v1508 : BitVec 32 := Scalar.extui v1507
  let c0_i32_1071 : BitVec 32 := 0#32
  let v1509 : BitVec 1 := Scalar.cmpi .ne v1508 c0_i32_1071
  v1509

def k0_off453 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1137 : BitVec 32 := 0#32
  let c0_i32_1138 : BitVec 32 := 0#32
  ![v2.toNat, 0, 0]
def k0_cond452 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1072 : BitVec 32 := 3#32
  let v1510 : BitVec 1 := Scalar.cmpi .ne v2 c3_i32_1072
  let v1511 : BitVec 32 := Scalar.extui v1510
  let c0_i32_1073 : BitVec 32 := 0#32
  let v1512 : BitVec 1 := Scalar.cmpi .ne v1511 c0_i32_1073
  v1512

def k0_off454 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1137 : BitVec 32 := 0#32
  let c0_i32_1138 : BitVec 32 := 0#32
  ![v2.toNat, 0, 0]
def k0_cond453 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1074 : BitVec 32 := 4#32
  let v1513 : BitVec 1 := Scalar.cmpi .ne v2 c4_i32_1074
  let v1514 : BitVec 32 := Scalar.extui v1513
  let c0_i32_1075 : BitVec 32 := 0#32
  let v1515 : BitVec 1 := Scalar.cmpi .ne v1514 c0_i32_1075
  v1515

def k0_off455 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1137 : BitVec 32 := 0#32
  let c0_i32_1138 : BitVec 32 := 0#32
  ![v2.toNat, 0, 0]
def k0_cond454 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1076 : BitVec 32 := 5#32
  let v1516 : BitVec 1 := Scalar.cmpi .ne v2 c5_i32_1076
  let v1517 : BitVec 32 := Scalar.extui v1516
  let c0_i32_1077 : BitVec 32 := 0#32
  let v1518 : BitVec 1 := Scalar.cmpi .ne v1517 c0_i32_1077
  v1518

def k0_off456 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond455 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1078 : BitVec 32 := 6#32
  let v1519 : BitVec 1 := Scalar.cmpi .ne v2 c6_i32_1078
  let v1520 : BitVec 32 := Scalar.extui v1519
  let c0_i32_1079 : BitVec 32 := 0#32
  let v1521 : BitVec 1 := Scalar.cmpi .ne v1520 c0_i32_1079
  v1521

def k0_off457 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond456 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1080 : BitVec 32 := 7#32
  let v1522 : BitVec 1 := Scalar.cmpi .ne v2 c7_i32_1080
  let v1523 : BitVec 32 := Scalar.extui v1522
  let c0_i32_1081 : BitVec 32 := 0#32
  let v1524 : BitVec 1 := Scalar.cmpi .ne v1523 c0_i32_1081
  v1524

def k0_off458 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond457 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1082 : BitVec 32 := 8#32
  let v1525 : BitVec 1 := Scalar.cmpi .ne v2 c8_i32_1082
  let v1526 : BitVec 32 := Scalar.extui v1525
  let c0_i32_1083 : BitVec 32 := 0#32
  let v1527 : BitVec 1 := Scalar.cmpi .ne v1526 c0_i32_1083
  v1527

def k0_off459 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond458 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1084 : BitVec 32 := 9#32
  let v1528 : BitVec 1 := Scalar.cmpi .ne v2 c9_i32_1084
  let v1529 : BitVec 32 := Scalar.extui v1528
  let c0_i32_1085 : BitVec 32 := 0#32
  let v1530 : BitVec 1 := Scalar.cmpi .ne v1529 c0_i32_1085
  v1530

def k0_off460 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond459 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1086 : BitVec 32 := 10#32
  let v1531 : BitVec 1 := Scalar.cmpi .ne v2 c10_i32_1086
  let v1532 : BitVec 32 := Scalar.extui v1531
  let c0_i32_1087 : BitVec 32 := 0#32
  let v1533 : BitVec 1 := Scalar.cmpi .ne v1532 c0_i32_1087
  v1533

def k0_off461 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond460 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1088 : BitVec 32 := 11#32
  let v1534 : BitVec 1 := Scalar.cmpi .ne v2 c11_i32_1088
  let v1535 : BitVec 32 := Scalar.extui v1534
  let c0_i32_1089 : BitVec 32 := 0#32
  let v1536 : BitVec 1 := Scalar.cmpi .ne v1535 c0_i32_1089
  v1536

def k0_off462 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond461 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1090 : BitVec 32 := 12#32
  let v1537 : BitVec 1 := Scalar.cmpi .ne v2 c12_i32_1090
  let v1538 : BitVec 32 := Scalar.extui v1537
  let c0_i32_1091 : BitVec 32 := 0#32
  let v1539 : BitVec 1 := Scalar.cmpi .ne v1538 c0_i32_1091
  v1539

def k0_off463 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond462 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1092 : BitVec 32 := 13#32
  let v1540 : BitVec 1 := Scalar.cmpi .ne v2 c13_i32_1092
  let v1541 : BitVec 32 := Scalar.extui v1540
  let c0_i32_1093 : BitVec 32 := 0#32
  let v1542 : BitVec 1 := Scalar.cmpi .ne v1541 c0_i32_1093
  v1542

def k0_off464 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond463 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1094 : BitVec 32 := 14#32
  let v1543 : BitVec 1 := Scalar.cmpi .ne v2 c14_i32_1094
  let v1544 : BitVec 32 := Scalar.extui v1543
  let c0_i32_1095 : BitVec 32 := 0#32
  let v1545 : BitVec 1 := Scalar.cmpi .ne v1544 c0_i32_1095
  v1545

def k0_off465 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond464 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1096 : BitVec 32 := 15#32
  let v1546 : BitVec 1 := Scalar.cmpi .ne v2 c15_i32_1096
  let v1547 : BitVec 32 := Scalar.extui v1546
  let c0_i32_1097 : BitVec 32 := 0#32
  let v1548 : BitVec 1 := Scalar.cmpi .ne v1547 c0_i32_1097
  v1548

def k0_off466 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond465 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1098 : BitVec 32 := 16#32
  let v1549 : BitVec 1 := Scalar.cmpi .ne v2 c16_i32_1098
  let v1550 : BitVec 32 := Scalar.extui v1549
  let c0_i32_1099 : BitVec 32 := 0#32
  let v1551 : BitVec 1 := Scalar.cmpi .ne v1550 c0_i32_1099
  v1551

def k0_off467 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond466 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1100 : BitVec 32 := 17#32
  let v1552 : BitVec 1 := Scalar.cmpi .ne v2 c17_i32_1100
  let v1553 : BitVec 32 := Scalar.extui v1552
  let c0_i32_1101 : BitVec 32 := 0#32
  let v1554 : BitVec 1 := Scalar.cmpi .ne v1553 c0_i32_1101
  v1554

def k0_off468 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond467 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1102 : BitVec 32 := 18#32
  let v1555 : BitVec 1 := Scalar.cmpi .ne v2 c18_i32_1102
  let v1556 : BitVec 32 := Scalar.extui v1555
  let c0_i32_1103 : BitVec 32 := 0#32
  let v1557 : BitVec 1 := Scalar.cmpi .ne v1556 c0_i32_1103
  v1557

def k0_off469 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond468 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1104 : BitVec 32 := 19#32
  let v1558 : BitVec 1 := Scalar.cmpi .ne v2 c19_i32_1104
  let v1559 : BitVec 32 := Scalar.extui v1558
  let c0_i32_1105 : BitVec 32 := 0#32
  let v1560 : BitVec 1 := Scalar.cmpi .ne v1559 c0_i32_1105
  v1560

def k0_off470 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond469 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1106 : BitVec 32 := 20#32
  let v1561 : BitVec 1 := Scalar.cmpi .ne v2 c20_i32_1106
  let v1562 : BitVec 32 := Scalar.extui v1561
  let c0_i32_1107 : BitVec 32 := 0#32
  let v1563 : BitVec 1 := Scalar.cmpi .ne v1562 c0_i32_1107
  v1563

def k0_off471 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond470 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1108 : BitVec 32 := 21#32
  let v1564 : BitVec 1 := Scalar.cmpi .ne v2 c21_i32_1108
  let v1565 : BitVec 32 := Scalar.extui v1564
  let c0_i32_1109 : BitVec 32 := 0#32
  let v1566 : BitVec 1 := Scalar.cmpi .ne v1565 c0_i32_1109
  v1566

def k0_off472 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond471 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1110 : BitVec 32 := 22#32
  let v1567 : BitVec 1 := Scalar.cmpi .ne v2 c22_i32_1110
  let v1568 : BitVec 32 := Scalar.extui v1567
  let c0_i32_1111 : BitVec 32 := 0#32
  let v1569 : BitVec 1 := Scalar.cmpi .ne v1568 c0_i32_1111
  v1569

def k0_off473 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond472 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1112 : BitVec 32 := 23#32
  let v1570 : BitVec 1 := Scalar.cmpi .ne v2 c23_i32_1112
  let v1571 : BitVec 32 := Scalar.extui v1570
  let c0_i32_1113 : BitVec 32 := 0#32
  let v1572 : BitVec 1 := Scalar.cmpi .ne v1571 c0_i32_1113
  v1572

def k0_off474 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond473 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1114 : BitVec 32 := 24#32
  let v1573 : BitVec 1 := Scalar.cmpi .ne v2 c24_i32_1114
  let v1574 : BitVec 32 := Scalar.extui v1573
  let c0_i32_1115 : BitVec 32 := 0#32
  let v1575 : BitVec 1 := Scalar.cmpi .ne v1574 c0_i32_1115
  v1575

def k0_off475 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond474 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1116 : BitVec 32 := 25#32
  let v1576 : BitVec 1 := Scalar.cmpi .ne v2 c25_i32_1116
  let v1577 : BitVec 32 := Scalar.extui v1576
  let c0_i32_1117 : BitVec 32 := 0#32
  let v1578 : BitVec 1 := Scalar.cmpi .ne v1577 c0_i32_1117
  v1578

def k0_off476 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond475 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1118 : BitVec 32 := 26#32
  let v1579 : BitVec 1 := Scalar.cmpi .ne v2 c26_i32_1118
  let v1580 : BitVec 32 := Scalar.extui v1579
  let c0_i32_1119 : BitVec 32 := 0#32
  let v1581 : BitVec 1 := Scalar.cmpi .ne v1580 c0_i32_1119
  v1581

def k0_off477 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond476 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1120 : BitVec 32 := 27#32
  let v1582 : BitVec 1 := Scalar.cmpi .ne v2 c27_i32_1120
  let v1583 : BitVec 32 := Scalar.extui v1582
  let c0_i32_1121 : BitVec 32 := 0#32
  let v1584 : BitVec 1 := Scalar.cmpi .ne v1583 c0_i32_1121
  v1584

def k0_off478 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond477 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1122 : BitVec 32 := 28#32
  let v1585 : BitVec 1 := Scalar.cmpi .ne v2 c28_i32_1122
  let v1586 : BitVec 32 := Scalar.extui v1585
  let c0_i32_1123 : BitVec 32 := 0#32
  let v1587 : BitVec 1 := Scalar.cmpi .ne v1586 c0_i32_1123
  v1587

def k0_off479 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond478 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1124 : BitVec 32 := 29#32
  let v1588 : BitVec 1 := Scalar.cmpi .ne v2 c29_i32_1124
  let v1589 : BitVec 32 := Scalar.extui v1588
  let c0_i32_1125 : BitVec 32 := 0#32
  let v1590 : BitVec 1 := Scalar.cmpi .ne v1589 c0_i32_1125
  v1590

def k0_off480 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond479 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1126 : BitVec 32 := 30#32
  let v1591 : BitVec 1 := Scalar.cmpi .ne v2 c30_i32_1126
  let v1592 : BitVec 32 := Scalar.extui v1591
  let c0_i32_1127 : BitVec 32 := 0#32
  let v1593 : BitVec 1 := Scalar.cmpi .ne v1592 c0_i32_1127
  v1593

def k0_off481 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
def k0_cond480 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1128 : BitVec 32 := 31#32
  let v1594 : BitVec 1 := Scalar.cmpi .ne v2 c31_i32_1128
  let v1595 : BitVec 32 := Scalar.extui v1594
  let c0_i32_1129 : BitVec 32 := 0#32
  let v1596 : BitVec 1 := Scalar.cmpi .ne v1595 c0_i32_1129
  v1596

def k0_off482 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1136 : BitVec 32 := 0#32
  let c0_i32_1137 : BitVec 32 := 0#32
  ![v2.toNat, 0, 0]
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S256x8192 : Shape := ⟨2, ![256, 8192]⟩
abbrev S8192x512 : Shape := ⟨2, ![8192, 512]⟩
abbrev S512x8192 : Shape := ⟨2, ![512, 8192]⟩
abbrev S256x512 : Shape := ⟨2, ![256, 512]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S256x8192, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S512x8192, .f32⟩
  | .hbm, ⟨5, _⟩ => ⟨S512x8192, .f32⟩
  | .hbm, ⟨6, _⟩ => ⟨S512x8192, .f32⟩
  | .hbm, ⟨7, _⟩ => ⟨S256x512, .f32⟩
  | .hbm, ⟨8, _⟩ => ⟨S_, .f32⟩
  | .hbm, ⟨9, _⟩ => ⟨S256x512, .f32⟩
  | .hbm, ⟨10, _⟩ => ⟨S256x512, .f32⟩
  | .hbm, ⟨11, _⟩ => ⟨S256x8192, .f32⟩
  | .hbm, ⟨12, _⟩ => ⟨S256x512, .f32⟩
  | .hbm, ⟨13, _⟩ => ⟨S_, .f32⟩
  | .hbm, ⟨14, _⟩ => ⟨S256x512, .f32⟩
  | .hbm, ⟨15, _⟩ => ⟨S256x512, .f32⟩
  | .hbm, ⟨16, _⟩ => ⟨S256x8192, .f32⟩
  | .hbm, ⟨17, _⟩ => ⟨S256x512, .f32⟩
  | .hbm, ⟨18, _⟩ => ⟨S_, .f32⟩
  | .hbm, ⟨19, _⟩ => ⟨S256x512, .f32⟩
  | .hbm, ⟨20, _⟩ => ⟨S256x512, .f32⟩
  | .hbm, ⟨21, _⟩ => ⟨S256x8192, .f32⟩
  | _, _ => ⟨S256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Pieces.lean ====
/-
# The kernel's body as repeated pieces

The printed body unrolls every loop over the 32 devices of the mesh. Here each repeated piece is written once, over the
device `p` it concerns, and the body is written once as three equal layers of runs of these pieces (`bodyR`).
`Proof/PiecesEq.lean` shows that the printed body is `bodyR`.
-/
module

public import proofs.«01_k».proof.Proof.Gen.KernelIdeal
public import proofs.«01_k».proof.Proof.Gen.KernelIdeal.Skeleton

@[expose] public section

noncomputable section

namespace Cert.Mlp

open Cert.KernelIdeal Cert.KernelIdeal.Gen
open Idealize.ShloMosaic Idealize.SL.Sem

variable {F : FTy → Type} [FloatOps F]

/-- Programs of the kernel's body. -/
abbrev Pg (F : FTy → Type) (α : Type) : Type 1 := Prog (TpuEff nD τ sig (Elt F) Λ₀ .tc) α

/-! ## Buffers and semaphores -/

abbrev a0 : Memref sig .tc .vmem S256x256 .f32 := Memref.whole cc0_stg0_0
abbrev a1 : Memref sig .tc .vmem S256x512 .f32 := Memref.whole cc0_stg1_0
abbrev a2 : Memref sig .tc .vmem S512x256 .f32 := Memref.whole cc0_stg2_0
abbrev a3 : Memref sig .tc .vmem S256x512 .f32 := Memref.whole cc0_stg3_0
abbrev a4 : Memref sig .tc .vmem S512x256 .f32 := Memref.whole cc0_stg4_0
abbrev a5 : Memref sig .tc .vmem S256x512 .f32 := Memref.whole cc0_stg5_0
abbrev a6 : Memref sig .tc .vmem S512x256 .f32 := Memref.whole cc0_stg6_0
abbrev a7 : Memref sig .tc .vmem S256x256 .f32 := Memref.whole cc0_stg7_0
/-- The device's partial product. -/
abbrev partM : Memref sig .tc .vmem S256x512 .f32 := Memref.whole cc0_scratch0
/-- The device's 8 rows of the hidden layer. -/
abbrev hmeM : Memref sig .tc .vmem S8x512 .f32 := Memref.whole cc0_scratch1
/-- The landing slots: of the reduce-scatter (`false`) and of the all-gather (`true`). -/
abbrev landM : Bool → Memref sig .tc .vmem S32x8x512 .f32
  | false => Memref.whole cc0_scratch2
  | true => Memref.whole cc0_scratch3

theorem inb1 (p : Fin 32) : ∀ a, (![p.val] : Fin 1 → Nat) a + S1.size a ≤ S32.size a := by
  intro a; fin_cases a; show p.val + 1 ≤ 32; omega
theorem inb2 (p : Fin 32) : ∀ a, (![8 * p.val, 0] : Fin 2 → Nat) a + S8x512.size a ≤ S256x512.size a := by
  intro a; fin_cases a
  · show 8 * p.val + 8 ≤ 256; omega
  · show 0 + 512 ≤ 512; omega
theorem inb3 (p : Fin 32) : ∀ a, (![p.val, 0, 0] : Fin 3 → Nat) a + S1x8x512.size a ≤ S32x8x512.size a := by
  intro a; fin_cases a
  · show p.val + 1 ≤ 32; omega
  · show 0 + 8 ≤ 8; omega
  · show 0 + 512 ≤ 512; omega

/-- Slot `p` of a landing buffer. -/
abbrev slotM (b : Bool) (p : Fin 32) : Memref sig .tc .vmem S8x512 .f32 :=
  ((landM b).slice (Rect.unit (s := S32x8x512) ![p.val, 0, 0] S1x8x512.size (inb3 p)) (fun _ => rfl)).squeeze S8x512 squeezes_S1x8x512_S8x512
/-- Rows `8 p … 8 p + 7` of the partial product. -/
abbrev rowsM (p : Fin 32) : Memref sig .tc .vmem S8x512 .f32 :=
  partM.slice (Rect.unit (s := S256x512) ![8 * p.val, 0] S8x512.size (inb2 p)) (fun _ => rfl)

/-- Semaphore `p` of an array of 32. -/
abbrev semAt (a : DmaSems sig S32) (p : Fin 32) : DmaSem sig :=
  ((a.slice (Rect.unit (s := S32) ![p.val] S1.size (inb1 p))).squeeze S_ squeezes_S1_S_).sem
/-- The send semaphore of the copy to device `p`. -/
abbrev sendS (b : Bool) (p : Fin 32) : DmaSem sig := match b with
  | false => semAt cc0_scratch4 p
  | true => semAt cc0_scratch6 p
/-- The receive semaphore of the copy from device `p`. -/
abbrev recvS (b : Bool) (p : Fin 32) : DmaSem sig := match b with
  | false => semAt cc0_scratch5 p
  | true => semAt cc0_scratch7 p
/-- The barrier semaphore. -/
abbrev barS : Sem sig := (SemArray.scalar (sig.barrier 0 rfl) : Sems sig S_).sem

/-! ## The device's own number -/

/-- Device `d`'s number as the kernel computes it. -/
abbrev vw (d : Dev nD) : BitVec 32 := Scalar.remsi (Scalar.divsi (Dev.word d) 1#32) 32#32
/-- The guard "the device's number is not `p`". -/
abbrev gd (d : Dev nD) (p : Fin 32) : BitVec 1 := Scalar.cmpi .ne (Scalar.extui (Scalar.cmpi .ne (vw d) (BitVec.ofNat 32 p.val)) : BitVec 32) 0#32

theorem vw_val (d : Dev nD) : (vw d).toNat = d.val := by revert d; decide
set_option maxRecDepth 100000 in
theorem gd_iff (d : Dev nD) (p : Fin 32) : gd d p = 1#1 ↔ d ≠ p := by revert d p; decide

theorem inbv1 (d : Dev nD) : ∀ a, (![(vw d).toNat] : Fin 1 → Nat) a + S1.size a ≤ S32.size a := by rw [vw_val]; exact inb1 d
theorem inbv3 (d : Dev nD) : ∀ a, (![(vw d).toNat, 0, 0] : Fin 3 → Nat) a + S1x8x512.size a ≤ S32x8x512.size a := by rw [vw_val]; exact inb3 d

/-- Slot of the device's own number, at the offset the kernel computes. -/
abbrev slotV (b : Bool) (d : Dev nD) : Memref sig .tc .vmem S8x512 .f32 :=
  ((landM b).slice (Rect.unit (s := S32x8x512) ![(vw d).toNat, 0, 0] S1x8x512.size (inbv3 d)) (fun _ => rfl)).squeeze S8x512 squeezes_S1x8x512_S8x512
abbrev semV (a : DmaSems sig S32) (d : Dev nD) : DmaSem sig :=
  ((a.slice (Rect.unit (s := S32) ![(vw d).toNat] S1.size (inbv1 d))).squeeze S_ squeezes_S1_S_).sem

/-! ## The pieces: what the body does about one device `p`, where `p` is not the device itself -/

/-- One unit to device `p`'s barrier semaphore. -/
abbrev pBar (p : Fin 32) : Pg F PUnit := semSignalWord (p : Dev nD) barS 1#32
/-- The copy of rows `8 p …` of the partial product into slot `d` of device `p`. -/
def pSend0 (d : Dev nD) (p : Fin 32) : Pg F PUnit := do
  Prog.lift (.enqueueDma (rowsM p) (.remote (Dev.tc (p : Dev nD)) (slotV false d) (.dma (semAt cc0_scratch4 p))) (.dma (semV cc0_scratch5 d)) (View.wordExact_bits rfl) ((View.wordExact_bits rfl).reshape _ _) ⟨⟨rfl, Or.inl rfl⟩, trivial⟩)
/-- The wait for device `p`'s copy into the device's reduce-scatter slot `p`. -/
def pRecv0 (d : Dev nD) (p : Fin 32) : Pg F PUnit := do
  Prog.lift (.waitDma2 (semAt cc0_scratch5 p) (rowsM p) (slotM false p) (View.wordExact_bits rfl) ((View.wordExact_bits rfl).reshape _ _))
/-- The copy of the device's rows of the hidden layer into slot `d` of device `p`. -/
def pSend1 (d : Dev nD) (p : Fin 32) : Pg F PUnit := do
  Prog.lift (.enqueueDma hmeM (.remote (Dev.tc (p : Dev nD)) (slotV true d) (.dma (semAt cc0_scratch6 p))) (.dma (semV cc0_scratch7 d)) (Memref.isWhole_whole _).wordExact ((View.wordExact_bits rfl).reshape _ _) ⟨⟨rfl, Or.inl rfl⟩, trivial⟩)
/-- The wait for device `p`'s copy into the device's all-gather slot `p`. -/
def pRecv1 (d : Dev nD) (p : Fin 32) : Pg F PUnit := do
  Prog.lift (.waitDma2 (semAt cc0_scratch7 p) hmeM (slotM true p) (Memref.isWhole_whole _).wordExact ((View.wordExact_bits rfl).reshape _ _))
/-- The waits for the device's own two copies to device `p` to have left. -/
def pSwait (d : Dev nD) (p : Fin 32) : Pg F PUnit := do
  Prog.lift (.waitDma2 (semAt cc0_scratch4 p) (slotV false d) (rowsM p) ((View.wordExact_bits rfl).reshape _ _) (View.wordExact_bits rfl))
  Prog.lift (.waitDma2 (semAt cc0_scratch6 p) (slotV true d) hmeM ((View.wordExact_bits rfl).reshape _ _) (Memref.isWhole_whole _).wordExact)

/-! ## Loads and stores -/

abbrev ldX : Pg F (Vec F S256x256 .f32) := Prog.lift (.load a0 (Rect.unit (s := S256x256) ![0, 0] S256x256.size inb_S256x256_S256x256_0_0).toLoadRect (View.loadsAt_vmem h_S256x256))
abbrev ldWin (m : Memref sig .tc .vmem S256x512 .f32) : Pg F (Vec F S256x512 .f32) := Prog.lift (.load m (Rect.unit (s := S256x512) ![0, 0] S256x512.size inb_S256x512_S256x512_0_0).toLoadRect (View.loadsAt_vmem h_S256x512))
abbrev ldWout (m : Memref sig .tc .vmem S512x256 .f32) : Pg F (Vec F S512x256 .f32) := Prog.lift (.load m (Rect.unit (s := S512x256) ![0, 0] S512x256.size inb_S512x256_S512x256_0_0).toLoadRect (View.loadsAt_vmem h_S512x256))
abbrev stPart (x : FVec F S256x512 .f32) : Pg F PUnit := Prog.lift (.store partM (Rect.unit (s := S256x512) ![0, 0] S256x512.size inb_S256x512_S256x512_0_0) x Finset.univ (View.stores_vmem_bits_univ h_S256x512 rfl) (.inl rfl))
abbrev ldRows (d : Dev nD) : Pg F (Vec F S8x512 .f32) := Prog.lift (.load partM (Rect.unit (s := S256x512) (k0_off65 d) S8x512.size (k0_off65_inb d)).toLoadRect (View.loadsAt_vmem h_S8x512))
abbrev ldSlot (b : Bool) (d : Dev nD) : Pg F (Vec F S1x8x512 .f32) := match b with
  | false => Prog.lift (.load (landM false) (Rect.unit (s := S32x8x512) (k0_off66 d) S1x8x512.size (k0_off66_inb d)).toLoadRect (View.loadsAt_vmem h_S1x8x512))
  | true => Prog.lift (.load (landM true) (Rect.unit (s := S32x8x512) (k0_off66 d) S1x8x512.size (k0_off66_inb d)).toLoadRect (View.loadsAt_vmem h_S1x8x512))
abbrev stSlot (b : Bool) (d : Dev nD) (x : FVec F S1x8x512 .f32) : Pg F PUnit := match b with
  | false => Prog.lift (.store (landM false) (Rect.unit (s := S32x8x512) (k0_off66 d) S1x8x512.size (k0_off66_inb d)) x Finset.univ (View.stores_vmem_bits_univ h_S1x8x512 rfl) (.inl rfl))
  | true => Prog.lift (.store (landM true) (Rect.unit (s := S32x8x512) (k0_off66 d) S1x8x512.size (k0_off66_inb d)) x Finset.univ (View.stores_vmem_bits_univ h_S1x8x512 rfl) (.inl rfl))
abbrev ldSlots (b : Bool) : Pg F (Vec F S32x8x512 .f32) := match b with
  | false => Prog.lift (.load (landM false) (Rect.unit (s := S32x8x512) ![0, 0, 0] S32x8x512.size inb_S32x8x512_S32x8x512_0_0_0).toLoadRect (View.loadsAt_vmem h_S32x8x512))
  | true => Prog.lift (.load (landM true) (Rect.unit (s := S32x8x512) ![0, 0, 0] S32x8x512.size inb_S32x8x512_S32x8x512_0_0_0).toLoadRect (View.loadsAt_vmem h_S32x8x512))
abbrev ldH : Pg F (Vec F S8x512 .f32) := Prog.lift (.load hmeM (Rect.unit (s := S8x512) ![0, 0] S8x512.size inb_S8x512_S8x512_0_0).toLoadRect (View.loadsAt_vmem h_S8x512))
abbrev stH (x : FVec F S8x512 .f32) : Pg F PUnit := Prog.lift (.store hmeM (Rect.unit (s := S8x512) ![0, 0] S8x512.size inb_S8x512_S8x512_0_0) x Finset.univ (View.stores_vmem_bits_univ h_S8x512 rfl) (.inl rfl))
abbrev ldOut : Pg F (Vec F S256x256 .f32) := Prog.lift (.load a7 (Rect.unit (s := S256x256) ![0, 0] S256x256.size inb_S256x256_S256x256_0_0).toLoadRect (View.loadsAt_vmem h_S256x256))
abbrev stOut (x : FVec F S256x256 .f32) : Pg F PUnit := Prog.lift (.store a7 (Rect.unit (s := S256x256) ![0, 0] S256x256.size inb_S256x256_S256x256_0_0) x Finset.univ (View.stores_vmem_bits_univ h_S256x256 rfl) (.inl rfl))

/-! ## Runs of a piece, the layer and the body -/

/-- The pieces `a, …, a + n - 1` in order, then `k`. -/
def chainR {α : Type} (pc : Fin 32 → Pg F PUnit) : (a n : Nat) → Pg F α → Pg F α
  | _, 0, k => k
  | a, n + 1, k => pc (Fin.ofNat 32 a) >>= fun _ => chainR pc (a + 1) n k

/-- The same for pieces that the device's own number skips. -/
def gchainR {α : Type} (d : Dev nD) (pc : Fin 32 → Pg F PUnit) : (a n : Nat) → Pg F α → Pg F α
  | _, 0, k => k
  | a, n + 1, k => if h : gd d (Fin.ofNat 32 a) = 1#1 then pc (Fin.ofNat 32 a) >>= fun _ => gchainR d pc (a + 1) n k
      else gchainR d pc (a + 1) n k

/-- What follows a run's end may be bound inside. -/
theorem chainR_bind {α β : Type} (pc : Fin 32 → Pg F PUnit) (n : Nat) : ∀ (a : Nat) (k : Pg F α) (f : α → Pg F β),
    (chainR pc a n k >>= f) = chainR pc a n (k >>= f) := by
  induction n with
  | zero => intro a k f; rfl
  | succ n ih =>
    intro a k f
    show ((pc (Fin.ofNat 32 a) >>= fun _ => chainR pc (a + 1) n k) >>= f) = (pc (Fin.ofNat 32 a) >>= fun _ => chainR pc (a + 1) n (k >>= f))
    rw [bind_assoc]
    exact congrArg _ (funext fun _ => ih (a + 1) k f)

/-- Two runs of a piece in a row are one. -/
theorem chainR_chainR {α : Type} (pc : Fin 32 → Pg F PUnit) (n : Nat) : ∀ (a b m : Nat) (k : Pg F α), a + n = b →
    chainR pc a n (chainR pc b m k) = chainR pc a (n + m) k := by
  induction n with
  | zero => intro a b m k h; rw [Nat.add_zero] at h; subst h; rw [Nat.zero_add]; rfl
  | succ n ih =>
    intro a b m k h
    rw [show n + 1 + m = (n + m) + 1 by omega]
    show (pc (Fin.ofNat 32 a) >>= fun _ => chainR pc (a + 1) n (chainR pc b m k)) = (pc (Fin.ofNat 32 a) >>= fun _ => chainR pc (a + 1) (n + m) k)
    exact congrArg _ (funext fun _ => ih (a + 1) b m k (by omega))

/-- What follows a guarded run's end may be bound inside. -/
theorem gchainR_bind {α β : Type} (d : Dev nD) (pc : Fin 32 → Pg F PUnit) (n : Nat) : ∀ (a : Nat) (k : Pg F α) (f : α → Pg F β),
    (gchainR d pc a n k >>= f) = gchainR d pc a n (k >>= f) := by
  induction n with
  | zero => intro a k f; rfl
  | succ n ih =>
    intro a k f
    rw [gchainR, gchainR]
    split
    · rw [bind_assoc]; exact congrArg _ (funext fun _ => ih (a + 1) k f)
    · exact ih (a + 1) k f

/-- Two guarded runs of a piece in a row are one. -/
theorem gchainR_gchainR {α : Type} (d : Dev nD) (pc : Fin 32 → Pg F PUnit) (n : Nat) : ∀ (a b m : Nat) (k : Pg F α), a + n = b →
    gchainR d pc a n (gchainR d pc b m k) = gchainR d pc a (n + m) k := by
  induction n with
  | zero => intro a b m k h; rw [Nat.add_zero] at h; subst h; rw [Nat.zero_add]; rfl
  | succ n ih =>
    intro a b m k h
    rw [show n + 1 + m = (n + m) + 1 by omega, gchainR, gchainR, ih (a + 1) b m k (by omega)]

/-- One layer: from the device's block `x` of the layer's input to its block of the layer's output, handed to `k`. -/
def layerR {α : Type} (d : Dev nD) (mi : Memref sig .tc .vmem S256x512 .f32) (mo : Memref sig .tc .vmem S512x256 .f32)
    (x : FVec F S256x256 .f32) (k : FVec F S256x256 .f32 → Pg F α) : Pg F α :=
  ldWin mi >>= fun w => ldWin partM >>= fun _ => stPart (k0_pay2 x w) >>= fun _ =>
  gchainR d (pSend0 d) 0 32 (ldRows d >>= fun r => ldSlot false d >>= fun _ => stSlot false d (k0_pay3 r) >>= fun _ =>
  gchainR d (pRecv0 d) 0 32 (ldSlots false >>= fun v => ldH >>= fun _ => stH (k0_pay5 v) >>= fun _ =>
  gchainR d (pSend1 d) 0 32 (ldSlot true d >>= fun _ => stSlot true d (k0_pay6 (k0_pay4 v)) >>= fun _ =>
  gchainR d (pRecv1 d) 0 32 (ldSlots true >>= fun g => ldWout mo >>= fun wo =>
  gchainR d (pSwait d) 0 32 (k (k0_pay7 g wo))))))

/-- The body: the barrier, the three layers, the result's store. -/
def bodyR : Pg F PUnit :=
  (Prog.lift .deviceId : Pg F (Dev nD)) >>= fun d =>
  chainR pBar 0 32 (semWaitWord barS 32#32 >>= fun _ => ldX >>= fun x =>
  layerR d a1 a2 (k0_pay1 x) fun x₁ => layerR d a3 a4 x₁ fun x₂ => layerR d a5 a6 x₂ fun x₃ =>
  ldOut >>= fun _ => stOut x₃ >>= fun _ => pure ⟨⟩)

end Cert.Mlp

end
-- ==== Proof.Own.lean ====
/-
# Owning the kernel's buffers: whole, by rows, by slots, by shares

The contents of a buffer cut into the pieces that the copies move, and the ownership statements for them.
-/
module

public import proofs.«01_k».proof.Proof.Pieces
public import proofs.«01_k».proof.Proof.Gen.KernelIdeal.Launch
public import Idealize.ShloMosaic.Lib.Pipeline.Launch
public import Idealize.ShloMosaic.Lib.Pipeline.Kit
public import Idealize.ShloMosaic.Lib.ValueLayout
public import Idealize.ShloMosaic.Lib.Tactic

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-- The rounds of the kernel's own semaphores, with duties named by a device. -/
abbrev UB : Type := URounds (GSem nD τ sig) (Fin 32)
/-- The pipeline's rounds and the kernel's own. -/
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

instance elt_nonempty (e : EltTy) : Nonempty (Elt F e) := by
  cases e <;> first | exact ⟨FloatOps.ofBits _ 0⟩ | exact ⟨default⟩

/-! ## Contents cut into pieces -/

/-- Rows `8 p … 8 p + 7` of a 256 × 512 array. -/
def rowsOf (P : FVec F S256x512 .f32) (p : Fin 32) : FVec F S8x512 .f32 := fun j =>
  P ((Rect.unit (s := S256x512) ![8 * p.val, 0] S8x512.size (inb2 p)).emb j)
/-- The 32 × 8 × 512 array of 32 given blocks. -/
def stack (f : Fin 32 → FVec F S8x512 .f32) : FVec F S32x8x512 .f32 := fun i => f (i 0) (ix2 (i 1) (i 2))
/-- Block `p` of a 32 × 8 × 512 array. -/
def slotOf (V : FVec F S32x8x512 .f32) (p : Fin 32) : FVec F S8x512 .f32 := fun j => V (ix3 p (j 0) (j 1))

/-- The rectangle of block `p`. -/
abbrev rectS (p : Fin 32) : Rect S32x8x512 := Rect.unit (s := S32x8x512) ![p.val, 0, 0] S1x8x512.size (inb3 p)
/-- The rectangle of rows `8 p …`. -/
abbrev rectR (p : Fin 32) : Rect S256x512 := Rect.unit (s := S256x512) ![8 * p.val, 0] S8x512.size (inb2 p)

theorem slotOf_eq (V : FVec F S32x8x512 .f32) (p : Fin 32) (h : S8x512.numel = S1x8x512.numel) (j : S8x512.Idx) :
    slotOf V p j = V ((rectS p).emb (Shape.reshapeEquiv h j)) := by
  have hj : Shape.reshapeEquiv h j = ix3 (⟨0, Nat.one_pos⟩ : Fin 1) (j 0) (j 1) := by
    conv_lhs => rw [eq_ix2 j]
    exact reshapeEquiv_ix2_1ab h (j 0) (j 1)
  rw [hj]
  unfold slotOf
  refine congrArg V (funext fun a => Fin.ext ?_)
  fin_cases a
  · show p.val = p.val + 1 * 0; omega
  · show (j 0).val = 0 + 1 * (j 0).val; omega
  · show (j 1).val = 0 + 1 * (j 1).val; omega

theorem slotOf_stack (f : Fin 32 → FVec F S8x512 .f32) (p : Fin 32) : slotOf (stack f) p = f p := by
  exact funext fun j => congrArg (f p) (eq_ix2 j).symm

theorem stack_slotOf (V : FVec F S32x8x512 .f32) : stack (slotOf V) = V := by
  exact funext fun i => congrArg V (eq_ix3 i).symm

theorem rectS_disjoint (p q : Fin 32) (h : p ≠ q) : Disjoint (rectS p).set (rectS q).set := by
  rw [Finset.disjoint_left]
  intro i hp hq
  have h1 := Rect.mem_set_unit.mp hp 0
  have h2 := Rect.mem_set_unit.mp hq 0
  refine h (Fin.ext ?_)
  have h3 : p.val ≤ (i 0).val ∧ (i 0).val < p.val + 1 := h1
  have h4 : q.val ≤ (i 0).val ∧ (i 0).val < q.val + 1 := h2
  omega
theorem rectS_cover : (Finset.univ : Finset (Fin 32)).biUnion (fun p => (rectS p).set) = Finset.univ := by
  refine Finset.eq_univ_of_forall fun i => Finset.mem_biUnion.mpr ⟨(i 0 : Fin 32), Finset.mem_univ _, Rect.mem_set_unit.mpr fun a => ?_⟩
  fin_cases a
  · show (i 0).val ≤ (i 0).val ∧ (i 0).val < (i 0).val + 1; omega
  · have h : (i 1).val < 8 := (i 1).isLt
    show 0 ≤ (i 1).val ∧ (i 1).val < 0 + 8; omega
  · have h : (i 2).val < 512 := (i 2).isLt
    show 0 ≤ (i 2).val ∧ (i 2).val < 0 + 512; omega
theorem rectR_disjoint (p q : Fin 32) (h : p ≠ q) : Disjoint (rectR p).set (rectR q).set := by
  rw [Finset.disjoint_left]
  intro i hp hq
  have h1 := Rect.mem_set_unit.mp hp 0
  have h2 := Rect.mem_set_unit.mp hq 0
  refine h (Fin.ext ?_)
  have h3 : 8 * p.val ≤ (i 0).val ∧ (i 0).val < 8 * p.val + 8 := h1
  have h4 : 8 * q.val ≤ (i 0).val ∧ (i 0).val < 8 * q.val + 8 := h2
  omega
theorem rectR_cover : (Finset.univ : Finset (Fin 32)).biUnion (fun p => (rectR p).set) = Finset.univ := by
  refine Finset.eq_univ_of_forall fun i => ?_
  have h0 : (i 0).val < 256 := (i 0).isLt
  refine Finset.mem_biUnion.mpr ⟨(⟨(i 0).val / 8, by omega⟩ : Fin 32), Finset.mem_univ _, Rect.mem_set_unit.mpr fun a => ?_⟩
  fin_cases a
  · show 8 * ((i 0).val / 8) ≤ (i 0).val ∧ (i 0).val < 8 * ((i 0).val / 8) + 8; omega
  · have h : (i 1).val < 512 := (i 1).isLt
    show 0 ≤ (i 1).val ∧ (i 1).val < 0 + 512; omega

/-! ## Ownership -/

/-- Device `c` owns a memref outright at the contents `X`. -/
def own (c : Dev nD) {sp : Space} {sh : Shape} {e : EltTy} (m : Memref sig .tc sp sh e) (X : sh.Idx → Elt F e) : sProp 𝕄 :=
  owns (c : Thread nD τ) m fullShare X
/-- Device `c` owns a memref outright at some contents. -/
def ownAny (c : Dev nD) {sp : Space} {sh : Shape} {e : EltTy} (m : Memref sig .tc sp sh e) : sProp 𝕄 := iprop(∃ X, own c m X)

instance own_storable (c : Dev nD) {sp : Space} {sh : Shape} {e : EltTy} (m : Memref sig .tc sp sh e) (X : sh.Idx → Elt F e) :
    BI.Storable (upEmb : UEmb _ 𝕄) (own c m X) := by unfold own; infer_instance
instance ownAny_storable (c : Dev nD) {sp : Space} {sh : Shape} {e : EltTy} (m : Memref sig .tc sp sh e) :
    BI.Storable (upEmb : UEmb _ 𝕄) (ownAny c m) := by unfold ownAny; infer_instance

/-- Owned at given contents is owned at some. -/
theorem own_any (c : Dev nD) {sp : Space} {sh : Shape} {e : EltTy} (m : Memref sig .tc sp sh e) (X : sh.Idx → Elt F e) :
    (own c m X : sProp 𝕄) ⊢ ownAny c m := by
  unfold ownAny; iintro H; iexists X; iexact H

/-- Owning a squeezed memref is owning the memref at the same elements. -/
theorem own_squeeze (c : Dev nD) {sp : Space} {sh sh' : Shape} {e : EltTy} (m : Memref sig .tc sp sh e) (h : sh.Squeezes sh')
    (X : sh.Idx → Elt F e) :
    (own c m X : sProp 𝕄) = own c (m.squeeze sh' h) (fun j => X (Shape.reshapeEquiv h.numel_eq j)) := by
  have e1 : (own c m X : sProp 𝕄) ⊢ own c (m.squeeze sh' h) (fun j => X (Shape.reshapeEquiv h.numel_eq j)) := by
    unfold own owns
    rw [Memref.view_squeeze, View.set_reshape]
    iintro ⟨%f, %hf, H⟩
    iexists f
    isplitr; · ipureintro; rw [← hf]; rfl
    iexact H
  have e2 : (own c (m.squeeze sh' h) (fun j => X (Shape.reshapeEquiv h.numel_eq j)) : sProp 𝕄) ⊢ own c m X := by
    unfold own owns
    rw [Memref.view_squeeze, View.set_reshape]
    iintro ⟨%f, %hf, H⟩
    iexists f
    isplitr
    · ipureintro
      funext x
      have := congrFun hf ((Shape.reshapeEquiv h.numel_eq).symm x)
      simp only [Equiv.apply_symm_apply] at this
      rw [← this]
      show m.view.read (Elt F) f x = m.view.read (Elt F) f (Shape.reshapeEquiv h.numel_eq ((Shape.reshapeEquiv h.numel_eq).symm x))
      rw [Equiv.apply_symm_apply]
    iexact H
  exact BI.equiv_iff.mp ⟨e1, e2⟩

/-- The partial product, by the rows that each copy sends. -/
theorem own_rows (c : Dev nD) (P : FVec F S256x512 .f32) :
    (own c partM P : sProp 𝕄) = bigSep Finset.univ fun p : Fin 32 => own c (rowsM p) (rowsOf P p) :=
  by
  unfold own
  have h1 := owns_rects (Ix := ℕ) (Name := ℕ) (U := UU) (Lvl := ℕ) (Val := Elt F) (c : Thread nD τ) partM fullShare rectR (fun _ _ => rfl) rectR_disjoint rectR_cover P
  have h2 := owns_of_rects (Ix := ℕ) (Name := ℕ) (U := UU) (Lvl := ℕ) (Val := Elt F) (c : Thread nD τ) partM fullShare rectR (fun _ _ => rfl) rectR_disjoint rectR_cover P
  exact BI.equiv_iff.mp ⟨h1, h2⟩

/-- A landing buffer, by its slots. -/
theorem own_slots (c : Dev nD) (b : Bool) (V : FVec F S32x8x512 .f32) :
    (own c (landM b) V : sProp 𝕄) = bigSep Finset.univ fun p : Fin 32 => own c (slotM b p) (slotOf V p) := by
  have h : (own c (landM b) V : sProp 𝕄) = bigSep Finset.univ fun p : Fin 32 => own c ((landM b).slice (rectS p) (fun _ => rfl)) (fun j => V ((rectS p).emb j)) := by
    unfold own
    have h1 := owns_rects (Ix := ℕ) (Name := ℕ) (U := UU) (Lvl := ℕ) (Val := Elt F) (c : Thread nD τ) (landM b) fullShare rectS (fun _ _ => rfl) rectS_disjoint rectS_cover V
    have h2 := owns_of_rects (Ix := ℕ) (Name := ℕ) (U := UU) (Lvl := ℕ) (Val := Elt F) (c : Thread nD τ) (landM b) fullShare rectS (fun _ _ => rfl) rectS_disjoint rectS_cover V
    exact BI.equiv_iff.mp ⟨h1, h2⟩
  rw [h]
  refine BI.bigSep_congr fun p _ => ?_
  rw [own_squeeze c _ squeezes_S1x8x512_S8x512]
  exact congrArg (own c (slotM b p)) (funext fun j => (slotOf_eq V p _ j).symm)

/-- Slots owned at given blocks are the landing buffer at the stack of the blocks. -/
theorem own_stack (c : Dev nD) (b : Bool) (f : Fin 32 → FVec F S8x512 .f32) :
    (own c (landM b) (stack f) : sProp 𝕄) = bigSep Finset.univ fun p : Fin 32 => own c (slotM b p) (f p) := by
  rw [own_slots]; exact BI.bigSep_congr fun p _ => by rw [slotOf_stack]

/-- A landing buffer at any contents, by its slots at any contents. -/
theorem ownAny_slots (c : Dev nD) (b : Bool) :
    (ownAny c (landM b) : sProp 𝕄) ⊢ bigSep Finset.univ fun p : Fin 32 => ownAny c (slotM b p) := by
  have h (V : FVec F S32x8x512 .f32) : (own c (landM b) V : sProp 𝕄) ⊢ bigSep Finset.univ fun p : Fin 32 => ownAny c (slotM b p) := by
    rw [own_slots]; exact bigSep_mono fun p _ => own_any c (slotM b p) (slotOf V p)
  iintro H
  ihave H' := (show (ownAny c (landM b) : sProp 𝕄) ⊢ iprop(∃ V, own c (landM b) V) from .rfl) $$ H
  icases H' with ⟨%V, H⟩
  iapply (h V); iexact H
/-- and back. -/
theorem slots_ownAny (c : Dev nD) (b : Bool) :
    (bigSep Finset.univ fun p : Fin 32 => ownAny c (slotM b p)) ⊢ (ownAny c (landM b) : sProp 𝕄) := by
  have : Nonempty (FVec F S8x512 .f32) := ⟨fun _ => FloatOps.ofBits _ 0⟩
  unfold ownAny
  iintro H
  ihave H' := (BI.bigSep_exists_pi Finset.univ (fun (p : Fin 32) (X : FVec F S8x512 .f32) => (own c (slotM b p) X : sProp 𝕄))) $$ H
  icases H' with ⟨%f, H⟩
  iexists (stack f)
  rw [own_stack]
  iexact H

/-! ## The hidden rows, by shares -/

/-- The share of the hidden rows that the copy to device `p` holds. -/
def shr (p : Fin 32) : PosShare TreeShare := Transfers.dealOf fullShare (Finset.univ : Finset (Fin 32)) p

/-- Device `c`'s rows of the hidden layer at the share of the copy to `p`. -/
def ownH (c : Dev nD) (p : Fin 32) (X : FVec F S8x512 .f32) : sProp 𝕄 := owns (c : Thread nD τ) hmeM (shr p) X
instance ownH_storable (c : Dev nD) (p : Fin 32) (X : FVec F S8x512 .f32) : BI.Storable (upEmb : UEmb _ 𝕄) (ownH c p X) := by
  unfold ownH; infer_instance

/-- The hidden rows, dealt to the copies. -/
theorem own_deal (c : Dev nD) (X : FVec F S8x512 .f32) : (own c hmeM X : sProp 𝕄) = bigSep Finset.univ fun p : Fin 32 => ownH c p X := by
  unfold own ownH
  have h (q : PosShare TreeShare) : (owns (c : Thread nD τ) hmeM q X : sProp 𝕄) = ((c : Thread nD τ).loc cc0_scratch1 ↦{q} X) :=
    owns_whole (Ix := ℕ) (Name := ℕ) (U := UU) (Lvl := ℕ) (Val := Elt F) (c : Thread nD τ) cc0_scratch1 q X
  simp only [h]
  exact Transfers.pointsTo_deal Finset.univ Finset.univ_nonempty fullShare

end Cert.Mlp
end
-- ==== Proof.Sched.lean ====
/-
# What is computed, and the schedule of the copies

The contents of every buffer at every layer as functions of the initial memory, over any float values; the duties of
every semaphore, round by round, with what each hands over; what each device owes, in the order in which it pays.
-/
module

public import proofs.«01_k».proof.Proof.Own

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## Contents -/

/-- Device `c`'s block of the input. -/
def inX (c : Dev nD) : FVec F S256x256 .f32 := (win0_0.blk (0 : Fin 1)).view.read (Elt F) (m ((c : Thread nD τ).loc main_arg0))
/-- Device `c`'s block of layer `l`'s first weights. -/
def inWin (l : ℕ) (c : Dev nD) : FVec F S256x512 .f32 := match l with
  | 0 => (win0_1.blk (0 : Fin 1)).view.read (Elt F) (m ((c : Thread nD τ).loc main_arg1))
  | 1 => (win0_3.blk (0 : Fin 1)).view.read (Elt F) (m ((c : Thread nD τ).loc main_arg2))
  | _ => (win0_5.blk (0 : Fin 1)).view.read (Elt F) (m ((c : Thread nD τ).loc main_arg3))
/-- Device `c`'s block of layer `l`'s second weights. -/
def inWout (l : ℕ) (c : Dev nD) : FVec F S512x256 .f32 := match l with
  | 0 => (win0_2.blk (0 : Fin 1)).view.read (Elt F) (m ((c : Thread nD τ).loc main_arg4))
  | 1 => (win0_4.blk (0 : Fin 1)).view.read (Elt F) (m ((c : Thread nD τ).loc main_arg5))
  | _ => (win0_6.blk (0 : Fin 1)).view.read (Elt F) (m ((c : Thread nD τ).loc main_arg6))

/-- The partial products of a layer with input blocks `x`. -/
def partAt (l : ℕ) (x : Dev nD → FVec F S256x256 .f32) (c : Dev nD) : FVec F S256x512 .f32 := k0_pay2 (x c) (inWin m l c)
/-- Rows `8 q …` of the hidden layer with input blocks `x`. -/
def hidAt (l : ℕ) (x : Dev nD → FVec F S256x256 .f32) (q : Dev nD) : FVec F S8x512 .f32 :=
  k0_pay5 (stack fun p : Fin 32 => rowsOf (partAt m l x p) q)
/-- The input blocks of layer `l`; at `l = 3` the result. -/
def xAt : ℕ → Dev nD → FVec F S256x256 .f32
  | 0 => fun c => k0_pay1 (inX m c)
  | l + 1 => fun c => k0_pay7 (stack fun p : Fin 32 => hidAt m l (xAt l) p) (inWout m l c)
/-- Device `c`'s partial product at layer `l`. -/
def partV (l : ℕ) (c : Dev nD) : FVec F S256x512 .f32 := partAt m l (xAt m l) c
/-- Device `q`'s rows of the hidden layer at layer `l`. -/
def hidV (l : ℕ) (q : Dev nD) : FVec F S8x512 .f32 := hidAt m l (xAt m l) q
/-- What device `q` gets from device `p` at layer `l`: rows of the partial product, then rows of the hidden layer. -/
def gotV (b : Bool) (l : ℕ) (q p : Dev nD) : FVec F S8x512 .f32 := match b with
  | false => rowsOf (partV m l p) q
  | true => hidV m l p

/-! ## The semaphores -/

/-- The kernel's own semaphores by what they are for. -/
inductive Kd where
  | bar
  | send (b : Bool) (p : Fin 32)
  | recv (b : Bool) (p : Fin 32)
  | other

/-- A DMA semaphore's purpose, by its number. -/
def dmaKd (n : ℕ) : Kd :=
  if n < 8 then .other else if n < 40 then .send false (Fin.ofNat 32 (n - 8)) else if n < 72 then .recv false (Fin.ofNat 32 (n - 40))
  else if n < 104 then .send true (Fin.ofNat 32 (n - 72)) else .recv true (Fin.ofNat 32 (n - 104))
/-- A semaphore's purpose. -/
def kd : SemLoc sig → Kd
  | .reg s => if s = barS then .bar else .other
  | .dma q => dmaKd q.val

abbrev barCell (c : Dev nD) : GSem nD τ sig := ((c : Thread nD τ), .reg barS)
/-- On device `c`: its copy to `p` has left. -/
abbrev sendCell (b : Bool) (p c : Dev nD) : GSem nD τ sig := ((c : Thread nD τ), .dma (sendS b p))
/-- On device `c`: the copy from `p` has landed. -/
abbrev recvCell (b : Bool) (p c : Dev nD) : GSem nD τ sig := ((c : Thread nD τ), .dma (recvS b p))

theorem kd_bar : kd (.reg barS) = .bar := by unfold kd; exact if_pos rfl
theorem send_val (b : Bool) (p : Fin 32) : (sendS b p).val = (if b then 72 else 8) + p.val := by revert b p; decide
theorem recv_val (b : Bool) (p : Fin 32) : (recvS b p).val = (if b then 104 else 40) + p.val := by revert b p; decide
theorem kd_send (b : Bool) (p : Fin 32) : kd (.dma (sendS b p)) = .send b p := by
  have h := p.isLt
  have e (n : ℕ) (hn : n = p.val) : Fin.ofNat 32 n = p := by subst hn; exact Fin.ext (Nat.mod_eq_of_lt h)
  show dmaKd (sendS b p).val = _
  rw [send_val]
  cases b
  · show dmaKd (8 + p.val) = _
    unfold dmaKd
    rw [if_neg (show ¬ (8 + p.val < 8) by omega), if_pos (show 8 + p.val < 40 by omega)]
    exact congrArg _ (e _ (by show 8 + p.val - 8 = p.val; omega))
  · show dmaKd (72 + p.val) = _
    unfold dmaKd
    rw [if_neg (show ¬ (72 + p.val < 8) by omega), if_neg (show ¬ (72 + p.val < 40) by omega), if_neg (show ¬ (72 + p.val < 72) by omega),
      if_pos (show 72 + p.val < 104 by omega)]
    exact congrArg _ (e _ (by show 72 + p.val - 72 = p.val; omega))
theorem kd_recv (b : Bool) (p : Fin 32) : kd (.dma (recvS b p)) = .recv b p := by
  have h := p.isLt
  have e (n : ℕ) (hn : n = p.val) : Fin.ofNat 32 n = p := by subst hn; exact Fin.ext (Nat.mod_eq_of_lt h)
  show dmaKd (recvS b p).val = _
  rw [recv_val]
  cases b
  · show dmaKd (40 + p.val) = _
    unfold dmaKd
    rw [if_neg (show ¬ (40 + p.val < 8) by omega), if_neg (show ¬ (40 + p.val < 40) by omega), if_pos (show 40 + p.val < 72 by omega)]
    exact congrArg _ (e _ (by show 40 + p.val - 40 = p.val; omega))
  · show dmaKd (104 + p.val) = _
    unfold dmaKd
    rw [if_neg (show ¬ (104 + p.val < 8) by omega), if_neg (show ¬ (104 + p.val < 40) by omega), if_neg (show ¬ (104 + p.val < 72) by omega),
      if_neg (show ¬ (104 + p.val < 104) by omega)]
    exact congrArg _ (e _ (by show 104 + p.val - 104 = p.val; omega))

/-- One copy's credit. -/
abbrev N : ℕ := (hmeM : Memref sig .tc .vmem S8x512 .f32).view.dmaCredit
theorem N_pos : 0 < N := View.dmaCredit_pos _ (by decide)

/-! ## The schedule -/

/-- The source of device `c`'s copy to device `p`. -/
def srcR (b : Bool) (l : ℕ) (c p : Dev nD) : sProp 𝕄 := match b with
  | false => own c (rowsM p) (rowsOf (partV m l c) p)
  | true => ownH c p (hidV m l c)
/-- That device `c` may copy into its slot on device `p`: the slot, at any contents, and that its semaphore there is at round `l`. -/
def perm (b : Bool) (l : ℕ) (c p : Dev nD) : sProp 𝕄 :=
  iprop(ownAny p (slotM b c) ∗ reached ER (recvCell b c p) l)
/-- What a copy of device `c` to device `p` hands over beside the slot filled: that `p` may copy into `c`'s other landing buffer next. -/
def give (b : Bool) (l : ℕ) (c p : Dev nD) : sProp 𝕄 := match b with
  | false => perm true l p c
  | true => if l < 2 then perm false (l + 1) p c else iprop(emp)
/-- A slot filled. -/
def slotF (b : Bool) (l : ℕ) (q p : Dev nD) : sProp 𝕄 := own q (slotM b p) (gotV m b l q p)

instance srcR_storable (b : Bool) (l : ℕ) (c p : Dev nD) : BI.Storable (upEmb : UEmb _ 𝕄) (srcR m b l c p) := by
  unfold srcR; cases b <;> infer_instance
instance perm_storable (b : Bool) (l : ℕ) (c p : Dev nD) : BI.Storable (upEmb : UEmb _ 𝕄) (perm (F := F) b l c p) := by
  unfold perm; infer_instance
instance give_storable (b : Bool) (l : ℕ) (c p : Dev nD) : BI.Storable (upEmb : UEmb _ 𝕄) (give (F := F) b l c p) := by
  unfold give; cases b
  · infer_instance
  · show BI.Storable upEmb (if l < 2 then perm false (l + 1) p c else iprop(emp)); split <;> infer_instance
instance slotF_storable (b : Bool) (l : ℕ) (q p : Dev nD) : BI.Storable (upEmb : UEmb _ 𝕄) (slotF m b l q p) := by
  unfold slotF; infer_instance

/-- A semaphore's duties: a barrier has one of every device, at round 0; a copy's semaphore one in each of three rounds,
    unless the two devices are the same. -/
def dutiesK (c : Dev nD) (r : ℕ) : Kd → Finset (Fin 32)
  | .bar => if r = 0 then Finset.univ else ∅
  | .send _ p => if p ≠ c ∧ r < 3 then {0} else ∅
  | .recv _ p => if p ≠ c ∧ r < 3 then {0} else ∅
  | .other => ∅
/-- What a duty hands over. -/
def payK (c : Dev nD) (r : ℕ) (d : Fin 32) : Kd → sProp 𝕄
  | .bar => perm false 0 c d
  | .send b p => srcR m b r c p
  | .recv b p => iprop(slotF m b r c p ∗ give b r p c)
  | .other => iprop(emp)

def Rd : Rounds.Schedule (GSem nD τ sig) (Fin 32) 𝕄 where
  duties g r := dutiesK g.1.1 r (kd g.2)
  unitless _ := False
  amount g _ _ := match kd g.2 with | .bar => 1 | _ => N
  payload g r d := payK m g.1.1 r d (kd g.2)
  amount_pos g _ _ _ := by
    cases kd g.2 <;> first | exact Nat.one_pos | exact N_pos

instance Rd_storable (g : GSem nD τ sig) (r : ℕ) (d : Fin 32) : BI.Storable (upEmb : UEmb _ 𝕄) ((Rd (F := F) m).payload g r d) := by
  show BI.Storable upEmb (payK m g.1.1 r d (kd g.2))
  unfold payK
  cases kd g.2 <;> infer_instance

section Sched
variable (b : Bool) (c p : Dev nD) (r : ℕ) (d : Fin 32)

theorem duties_bar : (Rd m).duties (barCell c) 0 = Finset.univ := by
  show dutiesK c 0 (kd (.reg barS)) = _; rw [kd_bar]; show (if (0 : ℕ) = 0 then (Finset.univ : Finset (Fin 32)) else ∅) = _; rw [if_pos rfl]
theorem duties_bar_later (hr : 1 ≤ r) : (Rd m).duties (barCell c) r = ∅ := by
  show dutiesK c r (kd (.reg barS)) = _; rw [kd_bar]; exact if_neg (by omega)
theorem duties_send (h : p ≠ c) (hr : r < 3) : (Rd m).duties (sendCell b p c) r = {0} := by
  show dutiesK c r (kd (.dma (sendS b p))) = _; rw [kd_send]; exact if_pos ⟨h, hr⟩
theorem duties_recv (h : p ≠ c) (hr : r < 3) : (Rd m).duties (recvCell b p c) r = {0} := by
  show dutiesK c r (kd (.dma (recvS b p))) = _; rw [kd_recv]; exact if_pos ⟨h, hr⟩
theorem duties_send_later (h : p = c ∨ 3 ≤ r) : (Rd m).duties (sendCell b p c) r = ∅ := by
  show dutiesK c r (kd (.dma (sendS b p))) = _; rw [kd_send]; exact if_neg (fun h' => h.elim h'.1 (fun h => by omega))
theorem duties_recv_later (h : p = c ∨ 3 ≤ r) : (Rd m).duties (recvCell b p c) r = ∅ := by
  show dutiesK c r (kd (.dma (recvS b p))) = _; rw [kd_recv]; exact if_neg (fun h' => h.elim h'.1 (fun h => by omega))

theorem amount_bar : (Rd m).amount (barCell c) r d = 1 := by
  show (match kd (.reg barS) with | .bar => 1 | _ => N) = 1; rw [kd_bar]
theorem amount_send : (Rd m).amount (sendCell b p c) r d = N := by
  show (match kd (.dma (sendS b p)) with | .bar => 1 | _ => N) = N; rw [kd_send]
theorem amount_recv : (Rd m).amount (recvCell b p c) r d = N := by
  show (match kd (.dma (recvS b p)) with | .bar => 1 | _ => N) = N; rw [kd_recv]

theorem payload_bar : (Rd m).payload (barCell c) r d = perm false 0 c d := by
  show payK m c r d (kd (.reg barS)) = _; rw [kd_bar]; rfl
theorem payload_send : (Rd m).payload (sendCell b p c) r d = srcR m b r c p := by
  show payK m c r d (kd (.dma (sendS b p))) = _; rw [kd_send]; rfl
theorem payload_recv : (Rd m).payload (recvCell b p c) r d = iprop(slotF m b r c p ∗ give b r p c) := by
  show payK m c r d (kd (.dma (recvS b p))) = _; rw [kd_recv]; rfl

theorem expect_bar : (Rd m).expect (barCell c) 0 = 32 := by
  unfold Schedule.expect Schedule.amountOf
  rw [duties_bar, Finset.sum_congr rfl fun d _ => amount_bar m c 0 d, Finset.sum_const, Finset.card_univ, Fintype.card_fin, smul_eq_mul]
theorem expect_send (h : p ≠ c) (hr : r < 3) : (Rd m).expect (sendCell b p c) r = N := by
  unfold Schedule.expect Schedule.amountOf; rw [duties_send m b c p r h hr, Finset.sum_singleton, amount_send]
theorem expect_recv (h : p ≠ c) (hr : r < 3) : (Rd m).expect (recvCell b p c) r = N := by
  unfold Schedule.expect Schedule.amountOf; rw [duties_recv m b c p r h hr, Finset.sum_singleton, amount_recv]

/-- The whole of the barrier's round: every device's permission. -/
theorem rest_bar : bigSep ((Rd m).duties (barCell c) 0 \ ∅) (fun d => (Rd m).payload (barCell c) 0 d) = bigSep Finset.univ fun d : Fin 32 => perm (F := F) false 0 c d := by
  rw [Finset.sdiff_empty, duties_bar]; exact BI.bigSep_congr fun d _ => payload_bar m c 0 d
theorem rest_send (h : p ≠ c) (hr : r < 3) : bigSep ((Rd m).duties (sendCell b p c) r \ ∅) (fun d => (Rd m).payload (sendCell b p c) r d) = srcR m b r c p := by
  rw [Finset.sdiff_empty, duties_send m b c p r h hr, bigSep_singleton, payload_send]
theorem rest_recv (h : p ≠ c) (hr : r < 3) : bigSep ((Rd m).duties (recvCell b p c) r \ ∅) (fun d => (Rd m).payload (recvCell b p c) r d)
    = iprop(slotF m b r c p ∗ give b r p c) := by
  rw [Finset.sdiff_empty, duties_recv m b c p r h hr, bigSep_singleton, payload_recv]

end Sched

/-! ## What a device owes, in order, and the levels -/

/-- What device `c` pays at its step `t`: first a unit to every barrier, then layer by layer the credit of its copies to every
    other device, of the partial product and of the hidden rows. -/
def owe (c : Dev nD) (t : ℕ) : CellTallies nD τ sig ℕ :=
  if t < 32 then tallyAt (barCell (Fin.ofNat 32 t)) 0 1
  else if (Fin.ofNat 32 t : Fin 32) = c then 0
  else tallyAt (recvCell (decide ((t - 32) / 32 % 2 = 1)) c (Fin.ofNat 32 t)) ((t - 32) / 64) N
/-- What device `c` owes from its step `t` on. -/
def Ow (c : Dev nD) (t : ℕ) : CellTallies nD τ sig ℕ := ∑ s ∈ Finset.Ico t 224, owe c s

theorem ico_insert (a n : ℕ) (h : a < n) : Finset.Ico a n = insert a (Finset.Ico (a + 1) n) := by
  ext x; simp only [Finset.mem_insert, Finset.mem_Ico]; omega
theorem ico_notMem (a n : ℕ) : a ∉ Finset.Ico (a + 1) n := by
  rw [Finset.mem_Ico]; omega

theorem Ow_step (c : Dev nD) (t : ℕ) (h : t < 224) : Ow c t = Ow c (t + 1) + owe c t := by
  unfold Ow; rw [ico_insert t 224 h, Finset.sum_insert (ico_notMem t 224), add_comm]
theorem Ow_end (c : Dev nD) : Ow c 224 = 0 := by unfold Ow; rw [Finset.Ico_self, Finset.sum_empty]

theorem owe_bar (c p : Dev nD) : owe c p.val = tallyAt (barCell p) 0 1 := by
  unfold owe; rw [if_pos p.isLt]
  have : Fin.ofNat 32 p.val = p := Fin.ext (Nat.mod_eq_of_lt p.isLt)
  rw [this]
/-- The step of the copy `b` of layer `l` to device `p`. -/
abbrev stepAt (b : Bool) (l : ℕ) (p : ℕ) : ℕ := 32 + 64 * l + (if b then 32 else 0) + p
theorem stepAt_fin (b : Bool) (l : ℕ) (p : Dev nD) : (Fin.ofNat 32 (stepAt b l p.val) : Fin 32) = p := by
  have h : p.val < 32 := p.isLt
  refine Fin.ext ?_
  show stepAt b l p.val % 32 = p.val
  cases b
  · show (32 + 64 * l + 0 + p.val) % 32 = p.val; omega
  · show (32 + 64 * l + 32 + p.val) % 32 = p.val; omega
theorem owe_self (b : Bool) (l : ℕ) (c : Dev nD) : owe c (stepAt b l c.val) = 0 := by
  unfold owe
  rw [if_neg (show ¬ stepAt b l c.val < 32 by unfold stepAt; omega), stepAt_fin, if_pos rfl]
theorem owe_copy (b : Bool) (l : ℕ) (c p : Dev nD) (h : p ≠ c) : owe c (stepAt b l p.val) = tallyAt (recvCell b c p) l N := by
  have hp : p.val < 32 := p.isLt
  unfold owe
  rw [if_neg (show ¬ stepAt b l p.val < 32 by unfold stepAt; omega), stepAt_fin, if_neg h]
  have h1 : decide ((stepAt b l p.val - 32) / 32 % 2 = 1) = b := by
    cases b
    · rw [decide_eq_false_iff_not]; show ¬ ((32 + 64 * l + 0 + p.val - 32) / 32 % 2 = 1); omega
    · rw [decide_eq_true_iff]; show (32 + 64 * l + 32 + p.val - 32) / 32 % 2 = 1; omega
  have h2 : (stepAt b l p.val - 32) / 64 = l := by
    cases b
    · show (32 + 64 * l + 0 + p.val - 32) / 64 = l; omega
    · show (32 + 64 * l + 32 + p.val - 32) / 64 = l; omega
  rw [h1, h2]

/-- The indices of the cells: the layers. -/
def L (g : GSem nD τ sig) : Finset ℕ := if g.1.2 = .tc then Finset.range 3 else ∅
def lvK (l : ℕ) : Kd → ℕ
  | .bar => 1
  | .recv b _ => 2 + 2 * l + (if b then 1 else 0)
  | _ => 0
/-- The levels: sends and staging lowest, the barrier, then the arrivals in the order of the layers. -/
def lv (g : GSem nD τ sig) (l : ℕ) : ℕ := lvK l (kd g.2)

theorem L_of_ne (g : GSem nD τ sig) (h : g.1.2 ≠ .tc) : L g = ∅ := if_neg h
theorem L_tc (c : Dev nD) (sm : SemLoc sig) : L ((c : Thread nD τ), sm) = Finset.range 3 := if_pos rfl

/-- What a device owes from step `t` on is owed at a layer's index, at a level that the step bounds. -/
theorem Ow_pos {c : Dev nD} {t : ℕ} {g : GSem nD τ sig} {u : ℕ} (h : 0 < Ow c t g u) :
    u ∈ L g ∧ (if t < 32 then 0 else 1 + (t - 32) / 32) < lv g u := by
  have h' : ∃ s ∈ Finset.Ico t 224, 0 < owe c s g u := by
    by_contra hn
    push Not at hn
    unfold Ow at h
    rw [Finset.sum_apply, Finsupp.finset_sum_apply, Finset.sum_eq_zero fun s hs => Nat.le_zero.mp (hn s hs)] at h
    exact Nat.lt_irrefl 0 h
  obtain ⟨s, hs, hpos⟩ := h'
  rw [Finset.mem_Ico] at hs
  unfold owe at hpos
  split at hpos
  · rename_i h32
    rw [tallyAt_apply] at hpos
    split at hpos
    · rename_i hg
      obtain ⟨rfl, rfl⟩ := hg
      refine ⟨by rw [L_tc]; decide, ?_⟩
      show _ < lvK 0 (kd (.reg barS))
      rw [kd_bar, if_pos (by omega)]; exact Nat.one_pos
    · exact absurd hpos (Nat.lt_irrefl 0)
  · rename_i h32
    split at hpos
    · exact absurd hpos (Nat.lt_irrefl 0)
    · rw [tallyAt_apply] at hpos
      split at hpos
      · rename_i hg
        obtain ⟨rfl, rfl⟩ := hg
        refine ⟨by rw [L_tc, Finset.mem_range]; omega, ?_⟩
        show _ < lvK _ (kd (.dma (recvS _ _)))
        rw [kd_recv]
        unfold lvK
        simp only [decide_eq_true_eq]
        split <;> split <;> omega
      · exact absurd hpos (Nat.lt_irrefl 0)

/-- A device may wait at a level below all that it owes. -/
theorem mayWait (c : Dev nD) (sm : SemLoc sig) (l t : ℕ) (hl : l < 3)
    (h : lvK l (kd sm) ≤ if t < 32 then 0 else 1 + (t - 32) / 32) :
    (levAts L lv : sProp 𝕄) ⊢ MayWait (c : Thread nD τ) sm l (Ow c t) :=
  MayOwe.of_cut (L := L) (lev := lv) (if t < 32 then 0 else 1 + (t - 32) / 32)
    (fun p hp => by rw [Finset.mem_singleton.mp hp, L_tc]; exact Finset.mem_range.mpr hl)
    (fun g u hg => (Ow_pos hg).1)
    (fun p hp => by rw [Finset.mem_singleton.mp hp]; exact h)
    (fun g u hg => (Ow_pos hg).2)

end Cert.Mlp
end
-- ==== Proof.Steps.lean ====
/-
# One step of each run of copies and waits

What a device holds about each other device between the runs, and the rule of each repeated piece of the body.
-/
module

public import proofs.«01_k».proof.Proof.Sched

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

abbrev 𝒱₀ : Variants := Variants.none

/-- The kernel's semaphores on a device: the barrier, and each copy's send (`false`) and receive (`true`). -/
abbrev CK : Type := Option (Bool × Bool × Fin 32)
abbrev csem : CK → SemLoc sig
  | none => .reg barS
  | some (false, b, p) => .dma (sendS b p)
  | some (true, b, p) => .dma (recvS b p)
abbrev kcell (ck : Dev nD × CK) : GSem nD τ sig := ((ck.1 : Thread nD τ), csem ck.2)

/-- Every semaphore's invariant, and the levels. -/
def env (K : Dev nD × CK → ℕ) : sProp 𝕄 :=
  iprop((bigSep Finset.univ fun ck : Dev nD × CK => cellInv ER (Rd m) (K ck) (kcell ck)) ∗ levAts L lv)

instance env_persistent (K : Dev nD × CK → ℕ) : BI.Persistent (env m K) := by unfold env; infer_instance

theorem env_inv (K : Dev nD × CK → ℕ) (ck : Dev nD × CK) : (env m K : sProp 𝕄) ⊢ cellInv ER (Rd m) (K ck) (kcell ck) := by
  unfold env
  exact sep_elim_left.trans (bigSep_elim (Finset.mem_univ ck))
theorem env_bar (K : Dev nD × CK → ℕ) (c : Dev nD) : (env m K : sProp 𝕄) ⊢ cellInv ER (Rd m) (K (c, none)) (barCell c) := env_inv m K (c, none)
theorem env_send (K : Dev nD × CK → ℕ) (b : Bool) (p c : Dev nD) : (env m K : sProp 𝕄) ⊢ cellInv ER (Rd m) (K (c, some (false, b, p))) (sendCell b p c) :=
  env_inv m K (c, some (false, b, p))
theorem env_recv (K : Dev nD × CK → ℕ) (b : Bool) (p c : Dev nD) : (env m K : sProp 𝕄) ⊢ cellInv ER (Rd m) (K (c, some (true, b, p))) (recvCell b p c) :=
  env_inv m K (c, some (true, b, p))
theorem env_mayWait (K : Dev nD × CK → ℕ) (c : Dev nD) (sm : SemLoc sig) (l t : ℕ) (hl : l < 3)
    (h : lvK l (kd sm) ≤ if t < 32 then 0 else 1 + (t - 32) / 32) : (env m K : sProp 𝕄) ⊢ MayWait (c : Thread nD τ) sm l (Ow c t) := by
  unfold env
  exact sep_elim_right.trans (mayWait (F := F) c sm l t hl h)

/-- The environment, and what device `c` owes from its step `t` on. -/
def owesAt (K : Dev nD × CK → ℕ) (c : Dev nD) (t : ℕ) : sProp 𝕄 :=
  iprop(env m K ∗ ∃ W, owes (c : Thread nD τ) (Ow c t) W)

/-- Device `c`'s position at the semaphore of its copy to `p`: round `l`. -/
def sendSt (b : Bool) (c p : Dev nD) (l : ℕ) : sProp 𝕄 :=
  iprop(atPos ER (sendCell b p c) l ∅ 0 ∗ reached ER (sendCell b p c) l)
/-- Device `c`'s position at the semaphore of the copy from `p`: round `l`, with the credit of the rounds to come. -/
def recvSt (b : Bool) (c p : Dev nD) (l : ℕ) : sProp 𝕄 :=
  iprop(atPos ER (recvCell b p c) l ∅ 0 ∗ reached ER (recvCell b p c) l ∗ bigSep (Finset.Ico l 3) fun r => cred (tallyAt (recvCell b p c) r N))
/-- The tokens with which device `c`'s copies to `p` pay, from layer `l` on. -/
def tokSt (b : Bool) (c p : Dev nD) (l : ℕ) : sProp 𝕄 :=
  bigSep (Finset.Ico l 3) fun r => iprop(dutyTok ER (sendCell b p c) r 0 ∗ dutyTok ER (recvCell b c p) r 0)

theorem peel (Φ : ℕ → sProp 𝕄) (l : ℕ) (h : l < 3) : bigSep (Finset.Ico l 3) Φ = iprop(Φ l ∗ bigSep (Finset.Ico (l + 1) 3) Φ) := by
  rw [ico_insert l 3 h, BI.bigSep_insert (ico_notMem l 3)]; rfl

/-- Before and after a copy: what device `c` holds about device `p`. -/
def sendPre (b : Bool) (l : ℕ) (c p : Dev nD) : sProp 𝕄 :=
  iprop(srcR m b l c p ∗ perm b l c p ∗ give b l c p ∗ tokSt b c p l ∗ sendSt b c p l)
def sendPost (b : Bool) (l : ℕ) (c p : Dev nD) : sProp 𝕄 :=
  iprop(cred (tallyAt (sendCell b p c) l N) ∗ tokSt b c p (l + 1) ∗ sendSt b c p l)
/-- After a wait for an arrival. -/
def recvPost (b : Bool) (l : ℕ) (c p : Dev nD) : sProp 𝕄 :=
  iprop(slotF m b l c p ∗ give b l p c ∗ recvSt b c p (l + 1))
/-- Before and after a wait for a departure. -/
def leavePre (b : Bool) (l : ℕ) (c p : Dev nD) : sProp 𝕄 :=
  iprop(cred (tallyAt (sendCell b p c) l N) ∗ sendSt b c p l)
def leavePost (b : Bool) (l : ℕ) (c p : Dev nD) : sProp 𝕄 :=
  iprop(srcR m b l c p ∗ sendSt b c p (l + 1))

theorem slotV_eq (b : Bool) (d : Dev nD) : slotV b d = slotM b d := by
  have key : ∀ (n : ℕ) (h : ∀ a, (![n, 0, 0] : Fin 3 → Nat) a + S1x8x512.size a ≤ S32x8x512.size a), n = d.val →
      ((landM b).slice (Rect.unit (s := S32x8x512) ![n, 0, 0] S1x8x512.size h) (fun _ => rfl)).squeeze S8x512 squeezes_S1x8x512_S8x512 = slotM b d := by
    rintro _ _ rfl; rfl
  exact key _ _ (vw_val d)
theorem semV_eq (a : DmaSems sig S32) (d : Dev nD) : semV a d = semAt a d := by
  have key : ∀ (n : ℕ) (h : ∀ x, (![n] : Fin 1 → Nat) x + S1.size x ≤ S32.size x), n = d.val →
      ((a.slice (Rect.unit (s := S32) ![n] S1.size h)).squeeze S_ squeezes_S1_S_).sem = semAt a d := by
    rintro _ _ rfl; rfl
  exact key _ _ (vw_val d)

theorem recv_level (b : Bool) (p : Fin 32) (l t : ℕ) (hl : l < 3) (ht : t = stepAt b l 32) :
    lvK l (kd (.dma (recvS b p))) ≤ if t < 32 then 0 else 1 + (t - 32) / 32 := by
  rw [kd_recv, ht]; unfold lvK stepAt
  cases b
  · simp only [Bool.false_eq_true, if_false]; rw [if_neg (by omega)]; omega
  · simp only [if_true]; rw [if_neg (by omega)]; omega
theorem slot_credit (b : Bool) (c : Fin 32) : (slotM b c).view.dmaCredit = N := rfl
theorem rows_credit (c : Fin 32) : (rowsM c).view.dmaCredit = N := rfl

section
variable (K : Dev nD × CK → ℕ) (c p : Dev nD)

local notation "wpc " => wp frame (wpE (defs₀ (F := F)) 𝒱₀ (c : Thread nD τ) none) Set.univ

/-- A copy to another device, from a source of the right contents. -/
theorem wp_copyG {α : Type} {Q : α → sProp 𝕄} (b : Bool) (l : ℕ) (hl : l < 3) (h : p ≠ c) {src : Memref sig .tc .vmem S8x512 .f32} {q : PosShare TreeShare}
    (hs : (owns (c : Thread nD τ) src q (gotV m b l p c) : sProp 𝕄) = srcR m b l c p)
    {dst : Memref sig .tc .vmem S8x512 .f32} (hd : dst = slotM b c) {sS sR : DmaSem sig} (hS : sS = sendS b p) (hR : sR = recvS b c)
    {hsc : dst.view.ref.isScScratch = false} {hsrc : src.view.WordExact} {hdst : dst.view.WordExact}
    {hsem : DmaTarget.Typed .vmem (.dma sR) (.remote (Dev.tc p : Thread nD τ) dst (.dma sS) hsc)}
    {k : PUnit → Pg F α} :
    iprop(sendPre m b l c p ∗ owesAt m K c (stepAt b l p.val))
      ⊢ iprop(((sendPost b l c p ∗ owesAt m K c (stepAt b l p.val + 1)) -∗ wpc (k ⟨⟩) Q)
          -∗ wpc (.op (.enqueueDma src (.remote (Dev.tc p : Thread nD τ) dst (.dma sS) hsc) (.dma sR) hsrc hdst hsem) k) Q) := by
  subst hd hS hR
  unfold sendPre owesAt perm ownAny own tokSt
  rw [← hs, peel _ l hl]
  unfold sendSt owns
  iintro ⟨⟨⟨%fs, %hfs, Hsrc⟩, ⟨⟨%X, %fd, %hfd, Hdst⟩, #HrR⟩, Hg, ⟨⟨Ht1, Ht2⟩, Ht⟩, Hat, #HrS⟩, #He, %W, HO⟩ Hk
  have hp : p.val < 32 := p.isLt
  iapply (Rounds.wp_send_pointsTo_with 𝒱₀ ER (Rd m) (c : Thread nD τ) none (κ₁ := K (c, some (false, b, p))) (κ₂ := K (p, some (true, b, c)))
    (r₁ := l) (r₂ := l) (d₁ := 0) (d₂ := 0) (fs := fs) (fd := fd) (F := give b l c p) (q := q) (O₀ := Ow c (stepAt b l p.val))
    (by rw [duties_send m b c p l h hl]; exact Finset.mem_singleton_self _) (by rw [duties_recv m b p c l h.symm hl]; exact Finset.mem_singleton_self _)
    l l N (show (slotM b c).view.amount (SemLoc.dma (recvS b c)) = N from slot_credit b c) (amount_send m b c p l 0) (amount_recv m b p c l 0) (Ow c (stepAt b l p.val + 1))
    (by rw [Ow_step c (stepAt b l p.val) (by cases b <;> simp only [stepAt] <;> split <;> omega), owe_copy b l c p h]) (W := W)
    (by rw [payload_send, ← hs]; exact (owns_intro (c : Thread nD τ) src q fs).trans (Entails.of_eq (by rw [hfs])))
    (by
      rw [payload_recv]
      refine sep_mono_left ?_
      unfold slotF own
      refine (owns_intro (p : Thread nD τ) (slotM b c) fullShare _).trans (Entails.of_eq ?_)
      rw [View.read_write_univ, hfs])) $$ [Hsrc Hdst Hg Ht1 Ht2 HO]
  · isplitr; · iapply (env_send m K b p c); iexact He
    isplitr; · iapply (env_recv m K b c p); iexact He
    isplitl [Hsrc]; · iexact Hsrc
    isplitl [Hdst Hg]
    · isplitl [Hdst]; · iexact Hdst
      iexact Hg
    isplitl [HO]; · iexact HO
    isplitl [Ht1]; · iexact Ht1
    isplitr; · iexact HrS
    isplitl [Ht2]; · iexact Ht2
    iexact HrR
  iintro ⟨Hc, HO⟩
  iapply Hk
  unfold sendPost sendSt tokSt
  isplitl [Hc Ht Hat]
  · isplitl [Hc]; · iexact Hc
    isplitl [Ht]; · iexact Ht
    isplitl [Hat]; · iexact Hat
    iexact HrS
  isplitr; · iexact He
  iexists W; iexact HO

/-- A wait for another device's copy to land. -/
theorem wp_recvG {α : Type} {Q : α → sProp 𝕄} (b : Bool) (l t : ℕ) (hl : l < 3) (h : p ≠ c) (ht : t = stepAt b l 32) {sR : DmaSem sig} (hR : sR = recvS b p)
    {src dst : Memref sig .tc .vmem S8x512 .f32} {hsrc : src.view.WordExact} {hdst : dst.view.WordExact} (hN : dst.view.dmaCredit = N)
    {k : PUnit → Pg F α} :
    iprop(recvSt b c p l ∗ owesAt m K c t)
      ⊢ iprop(((recvPost m b l c p ∗ owesAt m K c t) -∗ wpc (k ⟨⟩) Q)
          -∗ wpc (.op (.waitDma2 sR src dst hsrc hdst) k) Q) := by
  subst hR
  unfold recvSt owesAt
  rw [peel _ l hl]
  iintro ⟨⟨Hat, #HrR, Hc, Hcs⟩, #He, %W, HO⟩ Hk
  iapply (Rounds.wp_wait_rest_token 𝒱₀ ER (Rd m) (c : Thread nD τ) none (κ := K (c, some (true, b, p)))
      (wpE_waitDma2_eq 𝒱₀ (c : Thread nD τ) none Set.univ) (Set.mem_univ _) l (O := Ow c t) (W := W) (R := l) (m := 0) (T := ∅)
      (by rw [Nat.zero_add, expect_recv m b c p l h hl, hN])) $$ [Hc HO Hat]
  · isplitr; · iapply (env_recv m K b p c); iexact He
    isplitl [Hc]; · rw [hN]; iexact Hc
    isplitl [HO]; · iexact HO
    isplitr
    · iapply (env_mayWait m K c (.dma (recvS b p)) l t hl (recv_level b p l t hl ht)); iexact He
    iexact Hat
  iintro ⟨HO, Hat, #Hr, Hpay⟩
  ihave Hp := (Entails.of_eq (rest_recv m b c p l h hl)) $$ Hpay
  icases Hp with ⟨Hf, Hg⟩
  iapply Hk
  unfold recvPost recvSt
  isplitl [Hf Hg Hat Hcs]
  · isplitl [Hf]; · iexact Hf
    isplitl [Hg]; · iexact Hg
    isplitl [Hat]; · iexact Hat
    isplitr; · iexact Hr
    iexact Hcs
  isplitr; · iexact He
  iexists _; iexact HO

/-- A wait for a copy of the device's own to have left. -/
theorem wp_leaveG {α : Type} {Q : α → sProp 𝕄} (b : Bool) (l t : ℕ) (hl : l < 3) (h : p ≠ c) {sS : DmaSem sig} (hS : sS = sendS b p)
    {src dst : Memref sig .tc .vmem S8x512 .f32} {hsrc : src.view.WordExact} {hdst : dst.view.WordExact} (hN : dst.view.dmaCredit = N)
    {k : PUnit → Pg F α} :
    iprop(leavePre b l c p ∗ owesAt m K c t)
      ⊢ iprop(((leavePost m b l c p ∗ owesAt m K c t) -∗ wpc (k ⟨⟩) Q)
          -∗ wpc (.op (.waitDma2 sS src dst hsrc hdst) k) Q) := by
  subst hS
  unfold leavePre sendSt owesAt
  iintro ⟨⟨Hc, Hat, #HrS⟩, #He, %W, HO⟩ Hk
  iapply (Rounds.wp_wait_rest_token 𝒱₀ ER (Rd m) (c : Thread nD τ) none (κ := K (c, some (false, b, p)))
      (wpE_waitDma2_eq 𝒱₀ (c : Thread nD τ) none Set.univ) (Set.mem_univ _) l (O := Ow c t) (W := W) (R := l) (m := 0) (T := ∅)
      (by rw [Nat.zero_add, expect_send m b c p l h hl, hN])) $$ [Hc HO Hat]
  · isplitr; · iapply (env_send m K b p c); iexact He
    isplitl [Hc]; · rw [hN]; iexact Hc
    isplitl [HO]; · iexact HO
    isplitr
    · iapply (env_mayWait m K c (.dma (sendS b p)) l t hl (by rw [kd_send]; exact Nat.zero_le _)); iexact He
    iexact Hat
  iintro ⟨HO, Hat, #Hr, Hpay⟩
  ihave Hp := (Entails.of_eq (rest_send m b c p l h hl)) $$ Hpay
  iapply Hk
  unfold leavePost sendSt
  isplitl [Hp Hat]
  · isplitl [Hp]; · iexact Hp
    isplitl [Hat]; · iexact Hat
    iexact Hr
  isplitr; · iexact He
  iexists _; iexact HO

/-! ## The pieces -/

theorem wp_pSend0 {α : Type} {Q : α → sProp 𝕄} (l : ℕ) (hl : l < 3) (h : p ≠ c) (k : Pg F α) :
    iprop(sendPre m false l c p ∗ owesAt m K c (stepAt false l p.val))
      ⊢ iprop(((sendPost false l c p ∗ owesAt m K c (stepAt false l p.val + 1)) -∗ wpc k Q) -∗ wpc (pSend0 c p >>= fun _ => k) Q) := by
  unfold pSend0
  simp only [Prog.lift, Prog.bind_op, Prog.bind_ret, Prog.pure_eq_ret]
  exact wp_copyG m K c p false l hl h rfl (slotV_eq false c) rfl (semV_eq cc0_scratch5 c) (k := fun _ => k)

theorem wp_pSend1 {α : Type} {Q : α → sProp 𝕄} (l : ℕ) (hl : l < 3) (h : p ≠ c) (k : Pg F α) :
    iprop(sendPre m true l c p ∗ owesAt m K c (stepAt true l p.val))
      ⊢ iprop(((sendPost true l c p ∗ owesAt m K c (stepAt true l p.val + 1)) -∗ wpc k Q) -∗ wpc (pSend1 c p >>= fun _ => k) Q) := by
  unfold pSend1
  simp only [Prog.lift, Prog.bind_op, Prog.bind_ret, Prog.pure_eq_ret]
  exact wp_copyG m K c p true l hl h rfl (slotV_eq true c) rfl (semV_eq cc0_scratch7 c) (k := fun _ => k)

theorem wp_pRecv0 {α : Type} {Q : α → sProp 𝕄} (l : ℕ) (hl : l < 3) (h : p ≠ c) (k : Pg F α) :
    iprop(recvSt false c p l ∗ owesAt m K c (stepAt false l 32))
      ⊢ iprop(((recvPost m false l c p ∗ owesAt m K c (stepAt false l 32)) -∗ wpc k Q) -∗ wpc (pRecv0 c p >>= fun _ => k) Q) := by
  unfold pRecv0
  simp only [Prog.lift, Prog.bind_op, Prog.bind_ret, Prog.pure_eq_ret]
  exact wp_recvG m K c p false l _ hl h rfl rfl (slot_credit false p) (k := fun _ => k)

theorem wp_pRecv1 {α : Type} {Q : α → sProp 𝕄} (l : ℕ) (hl : l < 3) (h : p ≠ c) (k : Pg F α) :
    iprop(recvSt true c p l ∗ owesAt m K c (stepAt true l 32))
      ⊢ iprop(((recvPost m true l c p ∗ owesAt m K c (stepAt true l 32)) -∗ wpc k Q) -∗ wpc (pRecv1 c p >>= fun _ => k) Q) := by
  unfold pRecv1
  simp only [Prog.lift, Prog.bind_op, Prog.bind_ret, Prog.pure_eq_ret]
  exact wp_recvG m K c p true l _ hl h rfl rfl (slot_credit true p) (k := fun _ => k)

theorem wp_pSwait {α : Type} {Q : α → sProp 𝕄} (l t : ℕ) (hl : l < 3) (h : p ≠ c) (k : Pg F α) :
    iprop((leavePre false l c p ∗ leavePre true l c p) ∗ owesAt m K c t)
      ⊢ iprop((((leavePost m false l c p ∗ leavePost m true l c p) ∗ owesAt m K c t) -∗ wpc k Q) -∗ wpc (pSwait c p >>= fun _ => k) Q) := by
  unfold pSwait
  simp only [Prog.lift, Prog.bind_op, Prog.bind_ret, Prog.pure_eq_ret]
  iintro ⟨⟨H0, H1⟩, HO⟩ Hk
  iapply (wp_leaveG m K c p false l t hl h (sS := semAt cc0_scratch4 p) rfl (rows_credit p)) $$ [H0 HO]
  · isplitl [H0] <;> iassumption
  iintro ⟨H0, HO⟩
  iapply (wp_leaveG m K c p true l t hl h (sS := semAt cc0_scratch6 p) rfl (show hmeM.view.dmaCredit = N from rfl)) $$ [H1 HO]
  · isplitl [H1] <;> iassumption
  iintro ⟨H1, HO⟩
  iapply Hk
  isplitl [H0 H1]
  · isplitl [H0] <;> iassumption
  iexact HO

/-- One unit to a device's barrier, handing over the device's own slot there. -/
theorem wp_pBar {α : Type} {Q : α → sProp 𝕄} (k : Pg F α) :
    iprop((perm (F := F) false 0 p c ∗ dutyTok ER (barCell p) 0 c ∗ reached ER (barCell p) 0) ∗ owesAt m K c p.val)
      ⊢ iprop((owesAt m K c (p.val + 1) -∗ wpc k Q) -∗ wpc (pBar p >>= fun _ => k) Q) := by
  unfold pBar
  simp only [semSignalWord, Prog.lift, Prog.bind_op, Prog.bind_ret, Prog.pure_eq_ret]
  unfold owesAt
  have hp : p.val < 32 := p.isLt
  iintro ⟨⟨Hp, Ht, Hr⟩, #He, %W, HO⟩ Hk
  iapply (Rounds.wp_signal 𝒱₀ ER (Rd m) (c : Thread nD τ) none (dst := (p : Thread nD τ)) (κ := K (p, none))
      (d := c) (O₀ := Ow c p.val) (by rw [duties_bar]; exact Finset.mem_univ _) ((amount_bar m p 0 c).trans (by decide)) 0 (Ow c (p.val + 1))
      (by rw [Ow_step c p.val (by omega), owe_bar]; rfl) (W := W)) $$ [Hp Ht Hr HO]
  · isplitr; · iapply (env_bar m K p); iexact He
    isplitl [HO]; · iexact HO
    isplitl [Ht]; · iexact Ht
    isplitl [Hp]; · rw [payload_bar]; iexact Hp
    iexact Hr
  iintro HO
  iapply Hk
  isplitr; · iexact He
  iexists W; iexact HO

/-- The wait for every device's unit: every device's slot for this one. -/
theorem wp_barWait {α : Type} {Q : α → sProp 𝕄} (k : Pg F α) :
    iprop((atPos ER (barCell c) 0 ∅ 0 ∗ cred (tallyAt (barCell c) 0 32)) ∗ owesAt m K c 32)
      ⊢ iprop((((bigSep Finset.univ fun d : Fin 32 => perm (F := F) false 0 c d) ∗ atPos ER (barCell c) 1 ∅ 0 ∗ owesAt m K c 32) -∗ wpc k Q)
        -∗ wpc (semWaitWord barS 32#32 >>= fun _ => k) Q) := by
  simp only [semWaitWord, Prog.lift, Prog.bind_op, Prog.bind_ret, Prog.pure_eq_ret]
  unfold owesAt
  iintro ⟨⟨Hat, Hc⟩, #He, %W, HO⟩ Hk
  iapply (Rounds.wp_wait_rest_token 𝒱₀ ER (Rd m) (c : Thread nD τ) none (κ := K (c, none))
      (wpE_semWait_eq 𝒱₀ (c : Thread nD τ) none Set.univ) (Set.mem_univ _) 0 (O := Ow c 32) (W := W) (R := 0) (m := 0) (T := ∅)
      (by rw [expect_bar]; decide)) $$ [Hc HO Hat]
  · isplitr; · iapply (env_bar m K c); iexact He
    isplitl [Hc]; · iexact Hc
    isplitl [HO]; · iexact HO
    isplitr
    · iapply (env_mayWait m K c (.reg barS) 0 32 (by decide) (by rw [kd_bar]; decide)); iexact He
    iexact Hat
  iintro ⟨HO, Hat, -, Hpay⟩
  ihave Hp := (Entails.of_eq (rest_bar m c)) $$ Hpay
  iapply Hk
  isplitl [Hp]; · iexact Hp
  isplitl [Hat]; · iexact Hat
  isplitr; · iexact He
  iexists _; iexact HO

/-! ## Runs of a piece -/

/-- The devices from number `a` on. -/
abbrev from_ (a : ℕ) : Finset (Fin 32) := Finset.univ.filter fun p => a ≤ p.val
theorem from_zero : from_ 0 = Finset.univ := Finset.filter_true_of_mem fun p _ => Nat.zero_le _
theorem from_last : from_ 32 = ∅ := Finset.filter_false_of_mem fun p _ => by omega
theorem from_step (a : ℕ) (h : a < 32) : from_ a = insert (Fin.ofNat 32 a) (from_ (a + 1)) := by
  have h1 : (Fin.ofNat 32 a).val = a := Nat.mod_eq_of_lt h
  ext x
  rw [Finset.mem_insert, Finset.mem_filter, Finset.mem_filter, Fin.ext_iff, h1]
  simp only [Finset.mem_univ, true_and]
  omega
theorem from_notMem (a : ℕ) (h : a < 32) : (Fin.ofNat 32 a) ∉ from_ (a + 1) := by
  have h1 : (Fin.ofNat 32 a).val = a := Nat.mod_eq_of_lt h
  rw [Finset.mem_filter, h1]; omega

/-- A run of a piece, from its rule for each device. -/
theorem wp_chain_from {α : Type} (pc : Fin 32 → Pg F PUnit) (Pre Post : Fin 32 → sProp 𝕄) (T : ℕ → sProp 𝕄) (Q : α → sProp 𝕄) (k : Pg F α)
    (step : ∀ (p : Fin 32) (k : Pg F α), iprop(Pre p ∗ T p.val) ⊢ iprop(((Post p ∗ T (p.val + 1)) -∗ wpc k Q) -∗ wpc (pc p >>= fun _ => k) Q)) :
    ∀ (n a : ℕ), a + n = 32 → iprop(bigSep (from_ a) Pre ∗ T a) ⊢ iprop(((bigSep (from_ a) Post ∗ T 32) -∗ wpc k Q) -∗ wpc (chainR pc a n k) Q) := by
  intro n
  induction n with
  | zero =>
    intro a ha
    rw [Nat.add_zero] at ha; subst ha
    rw [from_last, BI.bigSep_empty, BI.bigSep_empty]
    show _ ⊢ iprop(((_ ∗ T 32) -∗ wpc k Q) -∗ wpc k Q)
    iintro ⟨-, HT⟩ Hk
    iapply Hk
    isplitr; · iempintro
    iexact HT
  | succ n ih =>
    intro a ha
    have h1 : (Fin.ofNat 32 a).val = a := Nat.mod_eq_of_lt (by omega)
    have hs := step (Fin.ofNat 32 a) (chainR pc (a + 1) n k)
    rw [h1] at hs
    rw [from_step a (by omega), BI.bigSep_insert (from_notMem a (by omega)), BI.bigSep_insert (from_notMem a (by omega))]
    show iprop((Pre (Fin.ofNat 32 a) ∗ bigSep (from_ (a + 1)) Pre) ∗ T a) ⊢ iprop((((Post (Fin.ofNat 32 a) ∗ bigSep (from_ (a + 1)) Post) ∗ T 32) -∗ wpc k Q)
      -∗ wpc (pc (Fin.ofNat 32 a) >>= fun _ => chainR pc (a + 1) n k) Q)
    iintro ⟨⟨Hp, Hr⟩, HT⟩ Hk
    iapply hs $$ [Hp HT]
    · isplitl [Hp] <;> iassumption
    iintro ⟨Hp, HT⟩
    iapply (ih (a + 1) (by omega)) $$ [Hr HT]
    · isplitl [Hr] <;> iassumption
    iintro ⟨Hr, HT⟩
    iapply Hk
    isplitl [Hp Hr]
    · isplitl [Hp] <;> iassumption
    iexact HT

/-- A run of a piece that skips the device's own number, from its rule for each other device. -/
theorem wp_gchain_from {α : Type} (pc : Fin 32 → Pg F PUnit) (Pre Post : Fin 32 → sProp 𝕄) (T : ℕ → sProp 𝕄) (Q : α → sProp 𝕄) (k : Pg F α)
    (step : ∀ (p : Fin 32) (_ : p ≠ c) (k : Pg F α), iprop(Pre p ∗ T p.val) ⊢ iprop(((Post p ∗ T (p.val + 1)) -∗ wpc k Q) -∗ wpc (pc p >>= fun _ => k) Q))
    (diag : iprop(Pre c ∗ T c.val) ⊢ iprop(Post c ∗ T (c.val + 1))) :
    ∀ (n a : ℕ), a + n = 32 → iprop(bigSep (from_ a) Pre ∗ T a) ⊢ iprop(((bigSep (from_ a) Post ∗ T 32) -∗ wpc k Q) -∗ wpc (gchainR c pc a n k) Q) := by
  intro n
  induction n with
  | zero =>
    intro a ha
    rw [Nat.add_zero] at ha; subst ha
    rw [from_last, BI.bigSep_empty, BI.bigSep_empty]
    show _ ⊢ iprop(((_ ∗ T 32) -∗ wpc k Q) -∗ wpc k Q)
    iintro ⟨-, HT⟩ Hk
    iapply Hk
    isplitr; · iempintro
    iexact HT
  | succ n ih =>
    intro a ha
    have h1 : (Fin.ofNat 32 a).val = a := Nat.mod_eq_of_lt (by omega)
    rw [from_step a (by omega), BI.bigSep_insert (from_notMem a (by omega)), BI.bigSep_insert (from_notMem a (by omega)), gchainR]
    by_cases hc : Fin.ofNat 32 a = c
    · rw [dif_neg (fun h => ((gd_iff c _).mp h) hc.symm)]
      have h2 : c.val = a := by rw [← hc]; exact h1
      rw [h2] at diag
      rw [hc]
      show iprop((Pre c ∗ bigSep (from_ (a + 1)) Pre) ∗ T a) ⊢ iprop((((Post c ∗ bigSep (from_ (a + 1)) Post) ∗ T 32) -∗ wpc k Q)
        -∗ wpc (gchainR c pc (a + 1) n k) Q)
      iintro ⟨⟨Hp, Hr⟩, HT⟩ Hk
      ihave H := diag $$ [Hp HT]
      · isplitl [Hp] <;> iassumption
      icases H with ⟨Hp, HT⟩
      iapply (ih (a + 1) (by omega)) $$ [Hr HT]
      · isplitl [Hr] <;> iassumption
      iintro ⟨Hr, HT⟩
      iapply Hk
      isplitl [Hp Hr]
      · isplitl [Hp] <;> iassumption
      iexact HT
    · rw [dif_pos ((gd_iff c _).mpr fun h => hc h.symm)]
      have hs := step (Fin.ofNat 32 a) hc (gchainR c pc (a + 1) n k)
      rw [h1] at hs
      show iprop((Pre (Fin.ofNat 32 a) ∗ bigSep (from_ (a + 1)) Pre) ∗ T a) ⊢ iprop((((Post (Fin.ofNat 32 a) ∗ bigSep (from_ (a + 1)) Post) ∗ T 32) -∗ wpc k Q)
        -∗ wpc (pc (Fin.ofNat 32 a) >>= fun _ => gchainR c pc (a + 1) n k) Q)
      iintro ⟨⟨Hp, Hr⟩, HT⟩ Hk
      iapply hs $$ [Hp HT]
      · isplitl [Hp] <;> iassumption
      iintro ⟨Hp, HT⟩
      iapply (ih (a + 1) (by omega)) $$ [Hr HT]
      · isplitl [Hr] <;> iassumption
      iintro ⟨Hr, HT⟩
      iapply Hk
      isplitl [Hp Hr]
      · isplitl [Hp] <;> iassumption
      iexact HT

end

end Cert.Mlp
end
-- ==== Proof.Access.lean ====
/-
# Loads and stores of the body

The rule of each load and each store, for buffers that the device owns.
-/
module

public import proofs.«01_k».proof.Proof.Steps

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- The rectangle of a whole shape is the identity. -/
theorem emb_full {s : Shape} {off : Fin s.rank → Nat} (h0 : off = fun _ => 0) (inb : ∀ a, off a + s.size a ≤ s.size a) (j : s.Idx) :
    (Rect.unit (s := s) off s.size inb).emb j = j := by
  subst h0
  funext a
  refine Fin.ext ?_
  show 0 + 1 * (j a).val = (j a).val
  omega
theorem read_full {cs : CoreSpace} {s : Shape} {e : EltTy} (M : Memref sig .tc cs s e) {off : Fin s.rank → Nat} (h0 : off = fun _ => 0)
    (inb : ∀ a, off a + s.size a ≤ s.size a) (f : M.view.ty.Contents (Elt F)) :
    (M.access (Rect.unit (s := s) off s.size inb)).read (Elt F) f = M.view.read (Elt F) f := by
  funext j
  show M.view.read (Elt F) f ((Rect.unit (s := s) off s.size inb).emb j) = _
  rw [emb_full h0]

section
variable (c : Dev nD)

local notation "wpc " => wp frame (wpE (defs₀ (F := F)) 𝒱₀ (c : Thread nD τ) none) Set.univ

/-- A load of a whole memref. -/
theorem wp_ldF {α : Type} {Q : α → sProp 𝕄} {cs : CoreSpace} {s : Shape} {e : EltTy} (M : Memref sig .tc cs s e) (X : s.Idx → Elt F e)
    {off : Fin s.rank → Nat} (h0 : off = fun _ => 0) {inb : ∀ a, off a + s.size a ≤ s.size a}
    {hl : M.view.LoadsAt (Rect.unit (s := s) off s.size inb).toLoadRect} {k : (s.Idx → Elt F e) → Pg F α} :
    (own c M X : sProp 𝕄)
      ⊢ iprop((own c M X -∗ wpc (k X) Q) -∗ wpc (.op (.load M (Rect.unit (s := s) off s.size inb).toLoadRect hl) k) Q) := by
  unfold own owns
  iintro ⟨%f, %hf, H⟩ Hk
  iapply (wp_load 𝒱₀ (c : Thread nD τ) none Set.univ (m := M) (S := M.view.set) (View.setOn_subset_set _ _)) $$ H
  iintro H
  have e : M.view.readAt (Elt F) (Rect.unit (s := s) off s.size inb).toLoadRect f = X := (read_full M h0 inb f).trans hf
  rw [e]
  iapply Hk
  iexists f
  isplitr; · ipureintro; exact hf
  iexact H

/-- A load of a slice. -/
theorem wp_ldS {α : Type} {Q : α → sProp 𝕄} {cs : CoreSpace} {s : Shape} {e : EltTy} (M : Memref sig .tc cs s e) (r : Rect s) (hs : ∀ a, r.stride a = 1)
    (X : r.shape.Idx → Elt F e) {hl : M.view.LoadsAt r.toLoadRect} {k : (r.shape.Idx → Elt F e) → Pg F α} :
    (own c (M.slice r hs) X : sProp 𝕄)
      ⊢ iprop((own c (M.slice r hs) X -∗ wpc (k X) Q) -∗ wpc (.op (.load M r.toLoadRect hl) k) Q) := by
  unfold own owns
  iintro ⟨%f, %hf, H⟩ Hk
  iapply (wp_load_rect 𝒱₀ (c : Thread nD τ) none Set.univ (m := M) (r := r) (S := (M.slice r hs).view.set) (Finset.Subset.refl _)) $$ H
  iintro H
  have e : (M.access r).read (Elt F) f = X := hf
  rw [e]
  iapply Hk
  iexists f
  isplitr; · ipureintro; exact hf
  iexact H

/-- A store into a whole memref. -/
theorem wp_stF {α : Type} {Q : α → sProp 𝕄} {cs : CoreSpace} {s : Shape} {e : EltTy} (M : Memref sig .tc cs s e) (w : s.Idx → Elt F e)
    {off : Fin s.rank → Nat} (h0 : off = fun _ => 0) {inb : ∀ a, off a + s.size a ≤ s.size a}
    {hx : (M.access (Rect.unit (s := s) off s.size inb)).Stores Finset.univ}
    {hm : (Finset.univ : Finset s.Idx) = Finset.univ ∨ ∀ a, (Rect.unit (s := s) off s.size inb).stride a = 1} {k : PUnit → Pg F α} :
    (ownAny c M : sProp 𝕄)
      ⊢ iprop((own c M w -∗ wpc (k ⟨⟩) Q) -∗ wpc (.op (.store M (Rect.unit (s := s) off s.size inb) w Finset.univ hx hm) k) Q) := by
  unfold ownAny own owns
  iintro ⟨%X, %f, %hf, H⟩ Hk
  iapply (wp_store 𝒱₀ (c : Thread nD τ) none Set.univ (m := M) (r := Rect.unit (s := s) off s.size inb) (Mk := Finset.univ) (S := M.view.set)
    (f := f) (w := w) ((View.setOn_subset_set _ _).trans (by
      show (M.view.slice (Rect.unit (s := s) off s.size inb)).set ⊆ _
      rw [View.set_slice]; exact View.setOn_subset_set _ _))) $$ H
  iintro H
  iapply Hk
  iexists _
  isplitr; rotate_left; · iexact H
  ipureintro
  rw [← read_full M h0 inb, View.read_write_univ]

/-- A store into a slice. -/
theorem wp_stS {α : Type} {Q : α → sProp 𝕄} {cs : CoreSpace} {s : Shape} {e : EltTy} (M : Memref sig .tc cs s e) (r : Rect s) (hs : ∀ a, r.stride a = 1)
    (w : r.shape.Idx → Elt F e) {hx : (M.access r).Stores Finset.univ} {hm : (Finset.univ : Finset r.shape.Idx) = Finset.univ ∨ ∀ a, r.stride a = 1}
    {k : PUnit → Pg F α} :
    (ownAny c (M.slice r hs) : sProp 𝕄)
      ⊢ iprop((own c (M.slice r hs) w -∗ wpc (k ⟨⟩) Q) -∗ wpc (.op (.store M r w Finset.univ hx hm) k) Q) := by
  unfold ownAny own owns
  iintro ⟨%X, %f, %hf, H⟩ Hk
  iapply (wp_store 𝒱₀ (c : Thread nD τ) none Set.univ (m := M) (r := r) (Mk := Finset.univ) (S := (M.slice r hs).view.set)
    (f := f) (w := w) (View.setOn_subset_set _ _)) $$ H
  iintro H
  iapply Hk
  iexists _
  isplitr; rotate_left; · iexact H
  ipureintro
  exact View.read_write_univ _ _

/-! ## The body's own loads and stores -/

theorem zero2 : (![0, 0] : Fin 2 → ℕ) = fun _ => 0 := by funext a; fin_cases a <;> rfl
theorem zero3 : (![0, 0, 0] : Fin 3 → ℕ) = fun _ => 0 := by funext a; fin_cases a <;> rfl

theorem slice_congr {cs : CoreSpace} {s : Shape} {e : EltTy} (M : Memref sig .tc cs s e) {off off' size : Fin s.rank → ℕ} (h : off = off')
    (i : ∀ a, off a + size a ≤ s.size a) (i' : ∀ a, off' a + size a ≤ s.size a) :
    M.slice (Rect.unit (s := s) off size i) (fun _ => rfl) = M.slice (Rect.unit (s := s) off' size i') (fun _ => rfl) := by
  subst h; rfl

/-- The load of the device's own rows of the partial product. -/
theorem wp_ldRows {α : Type} {Q : α → sProp 𝕄} (X : FVec F S8x512 .f32) (k : Vec F S8x512 .f32 → Pg F α) :
    (own c (rowsM c) X : sProp 𝕄) ⊢ iprop((own c (rowsM c) X -∗ wpc (k X) Q) -∗ wpc (ldRows c >>= k) Q) := by
  simp only [ldRows, Prog.lift, Prog.bind_op, Prog.bind_ret, Prog.pure_eq_ret]
  have e : rowsM c = partM.slice (Rect.unit (s := S256x512) (k0_off65 c) S8x512.size (k0_off65_inb c)) (fun _ => rfl) :=
    slice_congr partM (k0_off65_eq c).symm _ _
  rw [e]
  exact wp_ldS c partM (Rect.unit (s := S256x512) (k0_off65 c) S8x512.size (k0_off65_inb c)) (fun _ => rfl) X

/-- The load and the store of a landing buffer's slot for the device itself. -/
theorem wp_putSlotG {α : Type} {Q : α → sProp 𝕄} {M : Memref sig .tc .vmem S32x8x512 .f32} (x : FVec F S1x8x512 .f32) (Y : FVec F S8x512 .f32)
    (hY : ∀ h : S8x512.numel = S1x8x512.numel, (fun j => x (Shape.reshapeEquiv h j)) = Y)
    {hl : M.view.LoadsAt (Rect.unit (s := S32x8x512) (k0_off66 c) S1x8x512.size (k0_off66_inb c)).toLoadRect}
    {hx : (M.access (Rect.unit (s := S32x8x512) (k0_off66 c) S1x8x512.size (k0_off66_inb c))).Stores Finset.univ}
    {hm : (Finset.univ : Finset S1x8x512.Idx) = Finset.univ ∨ ∀ a, (Rect.unit (s := S32x8x512) (k0_off66 c) S1x8x512.size (k0_off66_inb c)).stride a = 1}
    {k : Pg F α} :
    (ownAny c ((M.slice (rectS c) (fun _ => rfl)).squeeze S8x512 squeezes_S1x8x512_S8x512) : sProp 𝕄)
      ⊢ iprop((own c ((M.slice (rectS c) (fun _ => rfl)).squeeze S8x512 squeezes_S1x8x512_S8x512) Y -∗ wpc k Q)
        -∗ wpc (.op (.load M (Rect.unit (s := S32x8x512) (k0_off66 c) S1x8x512.size (k0_off66_inb c)).toLoadRect hl) fun _ =>
            .op (.store M (Rect.unit (s := S32x8x512) (k0_off66 c) S1x8x512.size (k0_off66_inb c)) x Finset.univ hx hm) fun _ => k) Q) := by
  have e : M.slice (rectS c) (fun _ => rfl) = M.slice (Rect.unit (s := S32x8x512) (k0_off66 c) S1x8x512.size (k0_off66_inb c)) (fun _ => rfl) :=
    slice_congr M (k0_off66_eq c).symm _ _
  have e1 : (ownAny c ((M.slice (rectS c) (fun _ => rfl)).squeeze S8x512 squeezes_S1x8x512_S8x512) : sProp 𝕄)
      ⊢ ownAny c (M.slice (rectS c) (fun _ => rfl)) := by
    unfold ownAny
    iintro ⟨%X, H⟩
    iexists (fun i => X ((Shape.reshapeEquiv squeezes_S1x8x512_S8x512.numel_eq).symm i))
    rw [own_squeeze c _ squeezes_S1x8x512_S8x512]
    simp only [Equiv.symm_apply_apply]
    iexact H
  refine e1.trans ?_
  have e2 : (own c (M.slice (rectS c) (fun _ => rfl)) x : sProp 𝕄) = own c ((M.slice (rectS c) (fun _ => rfl)).squeeze S8x512 squeezes_S1x8x512_S8x512) Y :=
    (own_squeeze c (M.slice (rectS c) (fun _ => rfl)) squeezes_S1x8x512_S8x512 x).trans (congrArg _ (hY squeezes_S1x8x512_S8x512.numel_eq))
  rw [← e2, e]
  unfold ownAny
  iintro ⟨%X, H⟩ Hk
  iapply (wp_ldS c M (Rect.unit (s := S32x8x512) (k0_off66 c) S1x8x512.size (k0_off66_inb c)) (fun _ => rfl) X) $$ H
  iintro H
  iapply (wp_stS c M (Rect.unit (s := S32x8x512) (k0_off66 c) S1x8x512.size (k0_off66_inb c)) (fun _ => rfl) x) $$ [H]
  · iapply (own_any c); iexact H
  iexact Hk

theorem wp_putSlot {α : Type} {Q : α → sProp 𝕄} (b : Bool) (x : FVec F S1x8x512 .f32) (Y : FVec F S8x512 .f32)
    (hY : ∀ h : S8x512.numel = S1x8x512.numel, (fun j => x (Shape.reshapeEquiv h j)) = Y) (k : Pg F α) :
    (ownAny c (slotM b c) : sProp 𝕄)
      ⊢ iprop((own c (slotM b c) Y -∗ wpc k Q) -∗ wpc (ldSlot b c >>= fun _ => stSlot b c x >>= fun _ => k) Q) := by
  cases b
  · simp only [ldSlot, stSlot, Prog.lift, Prog.bind_op, Prog.bind_ret, Prog.pure_eq_ret]
    exact wp_putSlotG c (M := landM false) x Y hY
  · simp only [ldSlot, stSlot, Prog.lift, Prog.bind_op, Prog.bind_ret, Prog.pure_eq_ret]
    exact wp_putSlotG c (M := landM true) x Y hY

theorem wp_ldSlots {α : Type} {Q : α → sProp 𝕄} (b : Bool) (X : FVec F S32x8x512 .f32) (k : Vec F S32x8x512 .f32 → Pg F α) :
    (own c (landM b) X : sProp 𝕄) ⊢ iprop((own c (landM b) X -∗ wpc (k X) Q) -∗ wpc (ldSlots b >>= k) Q) := by
  cases b
  · simp only [ldSlots, Prog.lift, Prog.bind_op, Prog.bind_ret, Prog.pure_eq_ret]
    exact wp_ldF c (landM false) X zero3
  · simp only [ldSlots, Prog.lift, Prog.bind_op, Prog.bind_ret, Prog.pure_eq_ret]
    exact wp_ldF c (landM true) X zero3

theorem wp_ldX {α : Type} {Q : α → sProp 𝕄} (X : FVec F S256x256 .f32) (k : Vec F S256x256 .f32 → Pg F α) :
    (own c a0 X : sProp 𝕄) ⊢ iprop((own c a0 X -∗ wpc (k X) Q) -∗ wpc (ldX >>= k) Q) := by
  simp only [ldX, Prog.lift, Prog.bind_op, Prog.bind_ret, Prog.pure_eq_ret]
  exact wp_ldF c a0 X zero2
theorem wp_ldWin {α : Type} {Q : α → sProp 𝕄} (M : Memref sig .tc .vmem S256x512 .f32) (X : FVec F S256x512 .f32) (k : Vec F S256x512 .f32 → Pg F α) :
    (own c M X : sProp 𝕄) ⊢ iprop((own c M X -∗ wpc (k X) Q) -∗ wpc (ldWin M >>= k) Q) := by
  simp only [ldWin, Prog.lift, Prog.bind_op, Prog.bind_ret, Prog.pure_eq_ret]
  exact wp_ldF c M X zero2
theorem wp_ldWout {α : Type} {Q : α → sProp 𝕄} (M : Memref sig .tc .vmem S512x256 .f32) (X : FVec F S512x256 .f32) (k : Vec F S512x256 .f32 → Pg F α) :
    (own c M X : sProp 𝕄) ⊢ iprop((own c M X -∗ wpc (k X) Q) -∗ wpc (ldWout M >>= k) Q) := by
  simp only [ldWout, Prog.lift, Prog.bind_op, Prog.bind_ret, Prog.pure_eq_ret]
  exact wp_ldF c M X zero2

/-- The load and the store of the whole partial product. -/
theorem wp_putPart {α : Type} {Q : α → sProp 𝕄} (x : FVec F S256x512 .f32) (k : Pg F α) :
    (ownAny c partM : sProp 𝕄) ⊢ iprop((own c partM x -∗ wpc k Q) -∗ wpc (ldWin partM >>= fun _ => stPart x >>= fun _ => k) Q) := by
  simp only [ldWin, stPart, Prog.lift, Prog.bind_op, Prog.bind_ret, Prog.pure_eq_ret]
  conv_lhs => unfold ownAny
  iintro ⟨%X, H⟩ Hk
  iapply (wp_ldF c partM X zero2) $$ H
  iintro H
  iapply (wp_stF c partM x zero2) $$ [H]
  · iapply (own_any c); iexact H
  iexact Hk
theorem wp_putH {α : Type} {Q : α → sProp 𝕄} (x : FVec F S8x512 .f32) (k : Pg F α) :
    (ownAny c hmeM : sProp 𝕄) ⊢ iprop((own c hmeM x -∗ wpc k Q) -∗ wpc (ldH >>= fun _ => stH x >>= fun _ => k) Q) := by
  simp only [ldH, stH, Prog.lift, Prog.bind_op, Prog.bind_ret, Prog.pure_eq_ret]
  conv_lhs => unfold ownAny
  iintro ⟨%X, H⟩ Hk
  iapply (wp_ldF c hmeM X zero2) $$ H
  iintro H
  iapply (wp_stF c hmeM x zero2) $$ [H]
  · iapply (own_any c); iexact H
  iexact Hk
theorem wp_putOut {α : Type} {Q : α → sProp 𝕄} (x : FVec F S256x256 .f32) (k : Pg F α) :
    (ownAny c a7 : sProp 𝕄) ⊢ iprop((own c a7 x -∗ wpc k Q) -∗ wpc (ldOut >>= fun _ => stOut x >>= fun _ => k) Q) := by
  simp only [ldOut, stOut, Prog.lift, Prog.bind_op, Prog.bind_ret, Prog.pure_eq_ret]
  conv_lhs => unfold ownAny
  iintro ⟨%X, H⟩ Hk
  iapply (wp_ldF c a7 X zero2) $$ H
  iintro H
  iapply (wp_stF c a7 x zero2) $$ [H]
  · iapply (own_any c); iexact H
  iexact Hk

end
end Cert.Mlp
end
-- ==== Proof.Layer.lean ====
/-
# One layer of the body

The reduce-scatter and the all-gather of one layer, from what a device holds before it to what it holds after it.
-/
module

public import proofs.«01_k».proof.Proof.Access

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## Contents -/

theorem pay3_slot (r : FVec F S8x512 .f32) (h : S8x512.numel = S1x8x512.numel) : (fun j => k0_pay3 r (Shape.reshapeEquiv h j)) = r := by
  funext j
  show r (Shape.reshapeEquiv _ (Shape.reshapeEquiv h j)) = r j
  rw [Shape.reshapeEquiv_reshapeEquiv, Shape.reshapeEquiv_self]
theorem pay6_slot (v : FVec F S32x8x512 .f32) (h : S8x512.numel = S1x8x512.numel) :
    (fun j => k0_pay6 (k0_pay4 v) (Shape.reshapeEquiv h j)) = k0_pay5 v := by
  funext j
  show k0_pay4 v (Shape.reshapeEquiv _ (Shape.reshapeEquiv h j)) = k0_pay4 v (Shape.reshapeEquiv _ j)
  rw [Shape.reshapeEquiv_reshapeEquiv]

/-! ## What a device holds -/

theorem join_sep (s : Finset (Fin 32)) (Φ Ψ : Fin 32 → sProp 𝕄) : iprop(bigSep s Φ ∗ bigSep s Ψ) ⊢ bigSep s fun p => iprop(Φ p ∗ Ψ p) :=
  Entails.of_eq (BI.bigSep_sep s Φ Ψ).symm

/-- The other devices. -/
abbrev others (c : Dev nD) : Finset (Fin 32) := Finset.univ.erase c

theorem all_split (c : Dev nD) (Φ : Fin 32 → sProp 𝕄) : bigSep Finset.univ Φ = iprop(Φ c ∗ bigSep (others c) Φ) := BI.bigSep_erase (Finset.mem_univ c)

/-- The positions, the tokens and the credit of device `c`'s copies to and from device `p`, before layer `l`. -/
def led (b : Bool) (l : ℕ) (c p : Dev nD) : sProp 𝕄 := iprop(tokSt b c p l ∗ sendSt b c p l ∗ recvSt b c p l)
/-- Before layer `l`: that device `c` may copy its rows to `p`; after the last, its slot for `p`. -/
def rsN (l : ℕ) (c p : Dev nD) : sProp 𝕄 := if l < 3 then perm false l c p else ownAny c (slotM false p)
/-- What device `c` holds about another device before layer `l`. -/
def peer (l : ℕ) (c p : Dev nD) : sProp 𝕄 := iprop(ownAny c (slotM true p) ∗ rsN l c p ∗ led false l c p ∗ led true l c p)
/-- What device `c` holds before layer `l`. -/
def LState (l : ℕ) (c : Dev nD) : sProp 𝕄 :=
  iprop(ownAny c partM ∗ ownAny c hmeM ∗ ownAny c (slotM false c) ∗ ownAny c (slotM true c) ∗ bigSep (others c) (peer l c))

/-- The reduce-scatter slot that a device keeps in the last layer. -/
def keep (l : ℕ) (c p : Dev nD) : sProp 𝕄 := if l < 2 then iprop(emp) else ownAny c (slotM false p)

def st0 (l : ℕ) (c p : Dev nD) : sProp 𝕄 := iprop(srcR m false l c p ∗ peer l c p)
def st1 (l : ℕ) (c p : Dev nD) : sProp 𝕄 := iprop(sendPost false l c p ∗ recvSt false c p l ∗ led true l c p)
def st2r (l : ℕ) (c p : Dev nD) : sProp 𝕄 := iprop(perm true l c p ∗ sendPost false l c p ∗ recvSt false c p (l + 1) ∗ led true l c p)
def st2 (l : ℕ) (c p : Dev nD) : sProp 𝕄 := iprop(slotF m false l c p ∗ st2r l c p)
def st3 (l : ℕ) (c p : Dev nD) : sProp 𝕄 := iprop(srcR m true l c p ∗ st2 m l c p)
def st4 (l : ℕ) (c p : Dev nD) : sProp 𝕄 :=
  iprop(keep l c p ∗ sendPost false l c p ∗ sendPost true l c p ∗ recvSt false c p (l + 1) ∗ recvSt true c p l)
def st5r (l : ℕ) (c p : Dev nD) : sProp 𝕄 :=
  iprop(rsN (l + 1) c p ∗ sendPost false l c p ∗ sendPost true l c p ∗ recvSt false c p (l + 1) ∗ recvSt true c p (l + 1))
def st5 (l : ℕ) (c p : Dev nD) : sProp 𝕄 := iprop(slotF m true l c p ∗ st5r l c p)
def st6 (l : ℕ) (c p : Dev nD) : sProp 𝕄 := iprop(srcR m false l c p ∗ srcR m true l c p ∗ peer (l + 1) c p)

theorem slotF_any (b : Bool) (l : ℕ) (c p : Dev nD) : (slotF m b l c p : sProp 𝕄) ⊢ ownAny c (slotM b p) := by
  unfold slotF; exact own_any c (slotM b p) _

/-- The slots of a landing buffer, filled, are the buffer at the stack of what came. -/
theorem land_split (b : Bool) (l : ℕ) (c : Dev nD) :
    (own c (landM b) (stack fun p : Fin 32 => gotV m b l c p) : sProp 𝕄) = iprop(own c (slotM b c) (gotV m b l c c) ∗ bigSep (others c) (slotF m b l c)) := by
  rw [own_stack, all_split c]; rfl
theorem part_split (l : ℕ) (c : Dev nD) :
    (own c partM (partV m l c) : sProp 𝕄) = iprop(own c (rowsM c) (rowsOf (partV m l c) c) ∗ bigSep (others c) (srcR m false l c)) := by
  rw [own_rows, all_split c]; rfl
theorem hme_split (l : ℕ) (c : Dev nD) :
    (own c hmeM (hidV m l c) : sProp 𝕄) = iprop(ownH c c (hidV m l c) ∗ bigSep (others c) (srcR m true l c)) := by
  rw [own_deal, all_split c]; rfl

section
variable (K : Dev nD × CK → ℕ) (c : Dev nD)

local notation "wpc " => wp frame (wpE (defs₀ (F := F)) 𝒱₀ (c : Thread nD τ) none) Set.univ

/-- A run of a piece about every other device. -/
theorem wp_run {α : Type} {Q : α → sProp 𝕄} (pc : Fin 32 → Pg F PUnit) (Pre Post : Fin 32 → sProp 𝕄) (T : ℕ → sProp 𝕄) (k : Pg F α)
    (step : ∀ (p : Fin 32) (_ : p ≠ c) (k : Pg F α), iprop(Pre p ∗ T p.val) ⊢ iprop(((Post p ∗ T (p.val + 1)) -∗ wpc k Q) -∗ wpc (pc p >>= fun _ => k) Q))
    (diag : T c.val ⊢ T (c.val + 1)) :
    iprop(bigSep (others c) Pre ∗ T 0) ⊢ iprop(((bigSep (others c) Post ∗ T 32) -∗ wpc k Q) -∗ wpc (gchainR c pc 0 32 k) Q) := by
  have ext (Φ : Fin 32 → sProp 𝕄) : bigSep (from_ 0) (fun p => if p = c then iprop(emp) else Φ p) = bigSep (others c) Φ := by
    rw [from_zero, all_split c, if_pos rfl]
    refine (BI.equiv_iff.mp BI.emp_sep).trans ?_
    exact BI.bigSep_congr fun p hp => if_neg (Finset.ne_of_mem_erase hp)
  rw [← ext Pre, ← ext Post]
  refine wp_gchain_from c pc _ _ T Q k (fun p hp k => ?_) ?_ 32 0 rfl
  · rw [if_neg hp, if_neg hp]; exact step p hp k
  · rw [if_pos rfl, if_pos rfl]; exact sep_mono_right diag

theorem owes_self (b : Bool) (l : ℕ) (hl : l < 3) : (owesAt m K c (stepAt b l c.val) : sProp 𝕄) ⊢ owesAt m K c (stepAt b l (c.val + 1)) := by
  have hc : c.val < 32 := c.isLt
  have e : Ow c (stepAt b l c.val) = Ow c (stepAt b l (c.val + 1)) := by
    rw [Ow_step c (stepAt b l c.val) (by cases b <;> simp only [stepAt] <;> split <;> omega), owe_self, add_zero]; rfl
  unfold owesAt; rw [e]

theorem run_send0 {α : Type} {Q : α → sProp 𝕄} (l : ℕ) (hl : l < 3) (k : Pg F α) :
    iprop(bigSep (others c) (st0 m l c) ∗ owesAt m K c (stepAt false l 0))
      ⊢ iprop(((bigSep (others c) (st1 l c) ∗ owesAt m K c (stepAt false l 32)) -∗ wpc k Q) -∗ wpc (gchainR c (pSend0 c) 0 32 k) Q) := by
  refine wp_run c (pSend0 c) _ _ (fun t => owesAt m K c (stepAt false l t)) k (fun p hp k => ?_) (owes_self m K c false l hl)
  unfold st0 st1 peer rsN
  rw [if_pos hl]
  unfold led
  conv_lhs => unfold recvSt
  iintro ⟨⟨Hs, Hag, Hpm, ⟨Htk, Hss, Hrs⟩, ⟨Htk1, Hss1, Hat1, #HrR, Hcs1⟩⟩, HO⟩ Hk
  iapply (wp_pSend0 m K c p l hl hp k) $$ [Hs Hag Hpm Htk Hss HO]
  · isplitr [HO]; rotate_left; · iexact HO
    unfold sendPre
    isplitl [Hs]; · iexact Hs
    isplitl [Hpm]; · iexact Hpm
    isplitl [Hag]
    · rw [show give (F := F) false l c p = iprop(ownAny c (slotM true p) ∗ reached ER (recvCell true p c) l) from rfl]
      isplitl [Hag]; · iexact Hag
      iexact HrR
    isplitl [Htk] <;> iassumption
  iintro ⟨Hp, HO⟩
  iapply Hk
  isplitr [HO]; rotate_left; · iexact HO
  isplitl [Hp]; · iexact Hp
  unfold recvSt
  isplitl [Hrs]; · iexact Hrs
  isplitl [Htk1]; · iexact Htk1
  isplitl [Hss1]; · iexact Hss1
  isplitl [Hat1]; · iexact Hat1
  isplitr; · iexact HrR
  iexact Hcs1

theorem run_recv0 {α : Type} {Q : α → sProp 𝕄} (l : ℕ) (hl : l < 3) (k : Pg F α) :
    iprop(bigSep (others c) (st1 l c) ∗ owesAt m K c (stepAt false l 32))
      ⊢ iprop(((bigSep (others c) (st2 m l c) ∗ owesAt m K c (stepAt false l 32)) -∗ wpc k Q) -∗ wpc (gchainR c (pRecv0 c) 0 32 k) Q) := by
  refine wp_run c (pRecv0 c) _ _ (fun _ => owesAt m K c (stepAt false l 32)) k (fun p hp k => ?_) (BI.Entails.refl _)
  unfold st1 st2 st2r
  iintro ⟨⟨Hp, Hrs, Hl⟩, HO⟩ Hk
  iapply (wp_pRecv0 m K c p l hl hp k) $$ [Hrs HO]
  · isplitl [Hrs] <;> iassumption
  unfold recvPost
  iintro ⟨⟨Hf, Hg, Hrs⟩, HO⟩
  iapply Hk
  isplitr [HO]; rotate_left; · iexact HO
  isplitl [Hf]; · iexact Hf
  isplitl [Hg]
  · rw [show perm (F := F) true l c p = give false l p c from rfl]; iexact Hg
  isplitl [Hp]; · iexact Hp
  isplitl [Hrs] <;> iassumption

theorem run_send1 {α : Type} {Q : α → sProp 𝕄} (l : ℕ) (hl : l < 3) (k : Pg F α) :
    iprop(bigSep (others c) (st3 m l c) ∗ owesAt m K c (stepAt true l 0))
      ⊢ iprop(((bigSep (others c) (st4 l c) ∗ owesAt m K c (stepAt true l 32)) -∗ wpc k Q) -∗ wpc (gchainR c (pSend1 c) 0 32 k) Q) := by
  refine wp_run c (pSend1 c) _ _ (fun t => owesAt m K c (stepAt true l t)) k (fun p hp k => ?_) (owes_self m K c true l hl)
  unfold st3 st2 st2r st4 led
  conv_lhs => unfold recvSt
  iintro ⟨⟨Hs, Hf, Hpm, Hp0, ⟨Hat0, #HrR, Hcs0⟩, ⟨Htk, Hss, Hat1, #HrR1, Hcs1⟩⟩, HO⟩ Hk
  have hgive : iprop(slotF m false l c p ∗ reached ER (recvCell false p c) (l + 1)) ⊢ iprop(give (F := F) true l c p ∗ keep (F := F) l c p) := by
    unfold give keep
    by_cases h2 : l < 2
    · rw [if_pos h2, if_pos h2]
      unfold perm
      iintro ⟨Hf, Hr⟩
      isplitl
      · isplitl [Hf]
        · iapply (slotF_any m false l c p); iexact Hf
        iexact Hr
      iempintro
    · rw [if_neg h2, if_neg h2]
      iintro ⟨Hf, -⟩
      isplitr; · iempintro
      iapply (slotF_any m false l c p); iexact Hf
  ihave Hgk := hgive $$ [Hf]
  · isplitl; · iexact Hf
    iexact HrR
  icases Hgk with ⟨Hg, Hkp⟩
  iapply (wp_pSend1 m K c p l hl hp k) $$ [Hs Hpm Hg Htk Hss HO]
  · isplitr [HO]; rotate_left; · iexact HO
    unfold sendPre
    isplitl [Hs]; · iexact Hs
    isplitl [Hpm]; · iexact Hpm
    isplitl [Hg]; · iexact Hg
    isplitl [Htk] <;> iassumption
  iintro ⟨Hp, HO⟩
  iapply Hk
  isplitr [HO]; rotate_left; · iexact HO
  unfold recvSt
  isplitl [Hkp]; · iexact Hkp
  isplitl [Hp0]; · iexact Hp0
  isplitl [Hp]; · iexact Hp
  isplitl [Hat0 Hcs0]
  · isplitl [Hat0]; · iexact Hat0
    isplitr; · iexact HrR
    iexact Hcs0
  isplitl [Hat1]; · iexact Hat1
  isplitr; · iexact HrR1
  iexact Hcs1

theorem run_recv1 {α : Type} {Q : α → sProp 𝕄} (l : ℕ) (hl : l < 3) (k : Pg F α) :
    iprop(bigSep (others c) (st4 l c) ∗ owesAt m K c (stepAt true l 32))
      ⊢ iprop(((bigSep (others c) (st5 m l c) ∗ owesAt m K c (stepAt true l 32)) -∗ wpc k Q) -∗ wpc (gchainR c (pRecv1 c) 0 32 k) Q) := by
  refine wp_run c (pRecv1 c) _ _ (fun _ => owesAt m K c (stepAt true l 32)) k (fun p hp k => ?_) (BI.Entails.refl _)
  unfold st4 st5 st5r
  have hrs : iprop(keep (F := F) l c p ∗ give (F := F) true l p c) ⊢ rsN (F := F) (l + 1) c p := by
    unfold give keep rsN
    by_cases h2 : l < 2
    · rw [if_pos h2, if_pos h2, if_pos (by omega)]; iintro ⟨-, H⟩; iexact H
    · rw [if_neg h2, if_neg h2, if_neg (by omega)]; iintro ⟨H, -⟩; iexact H
  iintro ⟨⟨Hk0, Hp0, Hp1, Hr0, Hrs⟩, HO⟩ Hk
  iapply (wp_pRecv1 m K c p l hl hp k) $$ [Hrs HO]
  · isplitl [Hrs] <;> iassumption
  unfold recvPost
  iintro ⟨⟨Hf, Hg, Hrs⟩, HO⟩
  iapply Hk
  isplitr [HO]; rotate_left; · iexact HO
  isplitl [Hf]; · iexact Hf
  isplitl [Hk0 Hg]
  · iapply hrs; isplitl [Hk0] <;> iassumption
  isplitl [Hp0]; · iexact Hp0
  isplitl [Hp1]; · iexact Hp1
  isplitl [Hr0] <;> iassumption

theorem run_swait {α : Type} {Q : α → sProp 𝕄} (l t : ℕ) (hl : l < 3) (k : Pg F α) :
    iprop(bigSep (others c) (st5 m l c) ∗ owesAt m K c t)
      ⊢ iprop(((bigSep (others c) (st6 m l c) ∗ owesAt m K c t) -∗ wpc k Q) -∗ wpc (gchainR c (pSwait c) 0 32 k) Q) := by
  refine wp_run c (pSwait c) _ _ (fun _ => owesAt m K c t) k (fun p hp k => ?_) (BI.Entails.refl _)
  unfold st5 st5r st6 peer led sendPost
  iintro ⟨⟨Hf, Hrs, ⟨Hc0, Ht0, Hs0⟩, ⟨Hc1, Ht1, Hs1⟩, Hr0, Hr1⟩, HO⟩ Hk
  iapply (wp_pSwait m K c p l t hl hp k) $$ [Hc0 Hs0 Hc1 Hs1 HO]
  · isplitr [HO]; rotate_left; · iexact HO
    unfold leavePre
    isplitl [Hc0 Hs0]
    · isplitl [Hc0] <;> iassumption
    isplitl [Hc1] <;> iassumption
  unfold leavePost
  iintro ⟨⟨⟨Hsr0, Hs0⟩, ⟨Hsr1, Hs1⟩⟩, HO⟩
  iapply Hk
  isplitr [HO]; rotate_left; · iexact HO
  isplitl [Hsr0]; · iexact Hsr0
  isplitl [Hsr1]; · iexact Hsr1
  isplitl [Hf]; · iapply (slotF_any m true l c p); iexact Hf
  isplitl [Hrs]; · iexact Hrs
  isplitl [Ht0 Hs0 Hr0]
  · isplitl [Ht0]; · iexact Ht0
    isplitl [Hs0] <;> iassumption
  isplitl [Ht1]; · iexact Ht1
  isplitl [Hs1] <;> iassumption

/-- One layer. -/
theorem wp_layer {α : Type} {Q : α → sProp 𝕄} (l : ℕ) (hl : l < 3) (mi : Memref sig .tc .vmem S256x512 .f32) (mo : Memref sig .tc .vmem S512x256 .f32)
    (k : FVec F S256x256 .f32 → Pg F α) :
    iprop(LState (F := F) l c ∗ own c mi (inWin m l c) ∗ own c mo (inWout m l c) ∗ owesAt m K c (stepAt false l 0))
      ⊢ iprop(((LState (F := F) (l + 1) c ∗ own c mi (inWin m l c) ∗ own c mo (inWout m l c) ∗ owesAt m K c (stepAt false (l + 1) 0)) -∗ wpc (k (xAt m (l + 1) c)) Q)
        -∗ wpc (layerR c mi mo (xAt m l c) k) Q) := by
  unfold layerR
  conv_lhs => unfold LState
  iintro ⟨⟨Hp, Hh, Hs0, Hs1, Hpe⟩, Hi, Ho, HO⟩ Hk
  iapply (wp_ldWin c mi (inWin m l c)) $$ Hi
  iintro Hi
  iapply (wp_putPart c (partV m l c)) $$ Hp
  rw [part_split]
  iintro ⟨Hrow, Hsrc⟩
  iapply (run_send0 m K c l hl _) $$ [Hsrc Hpe HO]
  · isplitr [HO]; rotate_left; · iexact HO
    unfold st0
    iapply (join_sep (others c) (srcR m false l c) (peer l c))
    isplitl [Hsrc] <;> iassumption
  iintro ⟨Hst, HO⟩
  iapply (wp_ldRows c (rowsOf (partV m l c) c)) $$ Hrow
  iintro Hrow
  iapply (wp_putSlot c false _ (rowsOf (partV m l c) c) (pay3_slot _)) $$ Hs0
  iintro Hs0
  iapply (run_recv0 m K c l hl _) $$ [Hst HO]
  · isplitl [Hst] <;> iassumption
  iintro ⟨Hst, HO⟩
  ihave Hst' := (show (bigSep (others c) (st2 m l c) : sProp 𝕄) ⊢ iprop(bigSep (others c) (slotF m false l c) ∗ bigSep (others c) (st2r l c)) from
    Entails.of_eq (BI.bigSep_sep _ _ _)) $$ Hst
  icases Hst' with ⟨Hsl, Hst⟩
  iapply (wp_ldSlots c false (stack fun p : Fin 32 => gotV m false l c p)) $$ [Hsl Hs0]
  · rw [land_split]; isplitl [Hs0]
    · iexact Hs0
    iexact Hsl
  rw [land_split]
  iintro ⟨Hs0, Hsl⟩
  iapply (wp_putH c (hidV m l c)) $$ Hh
  rw [hme_split]
  iintro ⟨Hown, Hsrc⟩
  iapply (run_send1 m K c l hl _) $$ [Hsrc Hsl Hst HO]
  · isplitr [HO]; rotate_left; · iexact HO
    unfold st3
    iapply (join_sep (others c) (srcR m true l c) (st2 m l c))
    isplitl [Hsrc]; · iexact Hsrc
    unfold st2
    iapply (join_sep (others c) (slotF m false l c) (st2r l c))
    isplitl [Hsl] <;> iassumption
  iintro ⟨Hst, HO⟩
  iapply (wp_putSlot c true _ (hidV m l c) (pay6_slot _)) $$ Hs1
  iintro Hs1
  iapply (run_recv1 m K c l hl _) $$ [Hst HO]
  · isplitl [Hst] <;> iassumption
  iintro ⟨Hst, HO⟩
  ihave Hst' := (show (bigSep (others c) (st5 m l c) : sProp 𝕄) ⊢ iprop(bigSep (others c) (slotF m true l c) ∗ bigSep (others c) (st5r l c)) from
    Entails.of_eq (BI.bigSep_sep _ _ _)) $$ Hst
  icases Hst' with ⟨Hsl, Hst⟩
  iapply (wp_ldSlots c true (stack fun p : Fin 32 => gotV m true l c p)) $$ [Hsl Hs1]
  · rw [land_split]; isplitl [Hs1]
    · iexact Hs1
    iexact Hsl
  rw [land_split]
  iintro ⟨Hs1, Hsl⟩
  iapply (wp_ldWout c mo (inWout m l c)) $$ Ho
  iintro Ho
  iapply (run_swait m K c l (stepAt true l 32) hl _) $$ [Hsl Hst HO]
  · isplitr [HO]; rotate_left; · iexact HO
    unfold st5
    iapply (join_sep (others c) (slotF m true l c) (st5r l c))
    isplitl [Hsl] <;> iassumption
  iintro ⟨Hst, HO⟩
  ihave Hst' := (show (bigSep (others c) (st6 m l c) : sProp 𝕄) ⊢ iprop(bigSep (others c) (srcR m false l c) ∗ bigSep (others c) (srcR m true l c) ∗ bigSep (others c) (peer (l + 1) c)) from
    Entails.of_eq ((BI.bigSep_sep _ _ _).trans (congrArg _ (BI.bigSep_sep _ _ _)))) $$ Hst
  icases Hst' with ⟨Hsr0, Hsr1, Hpe⟩
  iapply Hk
  unfold LState
  isplitr [Hi Ho HO]
  · isplitl [Hrow Hsr0]
    · iapply (own_any c partM (partV m l c)); rw [part_split]; isplitl [Hrow] <;> iassumption
    isplitl [Hown Hsr1]
    · iapply (own_any c hmeM (hidV m l c)); rw [hme_split]; isplitl [Hown] <;> iassumption
    isplitl [Hs0]; · iapply (own_any c (slotM false c)); iexact Hs0
    isplitl [Hs1]; · iapply (own_any c (slotM true c)); iexact Hs1
    iexact Hpe
  isplitl [Hi]; · iexact Hi
  isplitl [Ho]; · iexact Ho
  have e : stepAt true l 32 = stepAt false (l + 1) 0 := by unfold stepAt; simp only [if_true, Bool.false_eq_true, if_false]; omega
  rw [← e]; iexact HO

end
end Cert.Mlp
end
-- ==== Proof.Body.lean ====
/-
# The whole body

From what the launch deals a device to what it gives back: the entry handshake, the three layers, the result's store,
and every semaphore closed at zero.
-/
module

public import proofs.«01_k».proof.Proof.Layer

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## A device's semaphores, one by one -/

/-- The four copy semaphores about device `p`. -/
def quad (Φ : CK → sProp 𝕄) (p : Fin 32) : sProp 𝕄 :=
  iprop(Φ (some (false, false, p)) ∗ Φ (some (false, true, p)) ∗ Φ (some (true, false, p)) ∗ Φ (some (true, true, p)))

/-- A device's semaphores are the barrier and the four copy semaphores about each device. -/
theorem bigSep_CK (Φ : CK → sProp 𝕄) : bigSep Finset.univ Φ = iprop(Φ none ∗ bigSep Finset.univ (quad Φ)) := by
  have e : (Finset.univ : Finset CK).erase none = Finset.univ.map Function.Embedding.some := by
    ext x; cases x <;> simp
  have h2 (Ψ : Bool → sProp 𝕄) : bigSep Finset.univ Ψ = iprop(Ψ false ∗ Ψ true) := bigSep_univ_eq_bigSepL [false, true] (by decide) (by decide) Ψ
  rw [BI.bigSep_erase (Finset.mem_univ none), e, bigSep_map, bigSep_univ_prod, h2, bigSep_univ_prod, bigSep_univ_prod, h2, h2]
  unfold quad
  rw [bigSep_sep', bigSep_sep', bigSep_sep']
  exact congrArg _ (BI.Entails.antisymm BI.sep_assoc BI.sep_assoc')

/-- A position past the last duty of a semaphore. -/
def spent (c : Dev nD) (k : CK) : sProp 𝕄 :=
  iprop(∃ R, ⌜∀ r, R ≤ r → (Rd m).duties (kcell (c, k)) r = ∅⌝ ∗ atPos ER (kcell (c, k)) R ∅ 0)

/-- The positions at the semaphores that a device has about itself. -/
def diag (c : Dev nD) : sProp 𝕄 := quad (fun k => atPos ER (kcell (c, k)) 0 ∅ 0) c

/-- What a device holds about another before layer `l`, the buffers aside. -/
def leds (l : ℕ) (c p : Dev nD) : sProp 𝕄 := iprop(led false l c p ∗ led true l c p)

/-- What a device needs to signal device `p`. -/
def sig0 (c p : Dev nD) : sProp 𝕄 :=
  iprop(dutyTok ER (barCell p) 0 c ∗ reached ER (barCell p) 0 ∗ reached ER (recvCell false p c) 0)

/-- What the launch deals device `c`, the invariants aside. -/
def dealt (c : Dev nD) : sProp 𝕄 :=
  iprop(atPos ER (barCell c) 0 ∅ 0 ∗ cred (tallyAt (barCell c) 0 32) ∗ bigSep Finset.univ (sig0 c) ∗ diag c ∗ bigSep (others c) (leds 0 c))

theorem spent_send (b : Bool) (c p : Dev nD) (R : ℕ) (h : p = c ∨ 3 ≤ R) :
    (atPos ER (sendCell b p c) R ∅ 0 : sProp 𝕄) ⊢ spent m c (some (false, b, p)) := by
  unfold spent
  iintro H
  iexists R
  isplitr; · ipureintro; exact fun r hr => duties_send_later m b c p r (h.imp id fun h => le_trans h hr)
  iexact H
theorem spent_recv (b : Bool) (c p : Dev nD) (R : ℕ) (h : p = c ∨ 3 ≤ R) :
    (atPos ER (recvCell b p c) R ∅ 0 : sProp 𝕄) ⊢ spent m c (some (true, b, p)) := by
  unfold spent
  iintro H
  iexists R
  isplitr; · ipureintro; exact fun r hr => duties_recv_later m b c p r (h.imp id fun h => le_trans h hr)
  iexact H
theorem spent_bar (c : Dev nD) : (atPos ER (barCell c) 1 ∅ 0 : sProp 𝕄) ⊢ spent m c none := by
  unfold spent
  iintro H
  iexists 1
  isplitr; · ipureintro; exact fun r hr => duties_bar_later m c r hr
  iexact H

theorem diag_spent (c : Dev nD) : (diag c : sProp 𝕄) ⊢ quad (spent m c) c := by
  unfold diag quad
  exact BI.sep_mono (spent_send m false c c 0 (Or.inl rfl)) (BI.sep_mono (spent_send m true c c 0 (Or.inl rfl))
    (BI.sep_mono (spent_recv m false c c 0 (Or.inl rfl)) (spent_recv m true c c 0 (Or.inl rfl))))
theorem leds_spent (c p : Dev nD) : (leds 3 c p : sProp 𝕄) ⊢ quad (spent m c) p := by
  unfold leds led quad sendSt recvSt
  iintro ⟨⟨-, ⟨H1, -⟩, H2, -, -⟩, -, ⟨H3, -⟩, H4, -, -⟩
  isplitl [H1]; · iapply (spent_send m false c p 3 (Or.inr le_rfl)); iexact H1
  isplitl [H3]; · iapply (spent_send m true c p 3 (Or.inr le_rfl)); iexact H3
  isplitl [H2]; · iapply (spent_recv m false c p 3 (Or.inr le_rfl)); iexact H2
  iapply (spent_recv m true c p 3 (Or.inr le_rfl)); iexact H4

theorem all_leds_spent (c : Dev nD) : (bigSep (others c) (leds 3 c) : sProp 𝕄) ⊢ bigSep (others c) (quad (spent m c)) :=
  bigSep_mono fun p _ => leds_spent m c p

section
variable (K : Dev nD × CK → ℕ) (c : Dev nD)

local notation "wpc " => wp frame (wpE (defs₀ (F := F)) 𝒱₀ (c : Thread nD τ) none) Set.univ

/-- A semaphore past its last duty is given back at zero. -/
theorem close_one (k : CK) : iprop(env m K ∗ spent m c k) ⊢ (|={Set.univ}=> semVal (kcell (c, k)) 0 : sProp 𝕄) := by
  unfold spent
  iintro ⟨#He, %R, %hR, Hat⟩
  iapply (Rounds.cell_close ER (Rd m) (Set.mem_univ (K (c, k))) (fun h => h) (R := R) hR)
  isplitr; · iapply (env_inv m K (c, k)); iexact He
  iexact Hat

theorem close_all : iprop(env m K ∗ bigSep Finset.univ (spent m c)) ⊢ (|={Set.univ}=> bigSep Finset.univ fun k : CK => semVal (kcell (c, k)) 0 : sProp 𝕄) :=
  ((sep_mono_left (BI.bigSep_of_persistent Finset.univ (env m K))).trans (by rw [← bigSep_sep']; exact bigSep_mono fun k _ => close_one m K c k)).trans
    (bigSep_fupd _ _)

/-- The input stages at their blocks. -/
def ins : sProp 𝕄 :=
  iprop(own c a0 (inX m c) ∗ own c a1 (inWin m 0 c) ∗ own c a2 (inWout m 0 c) ∗ own c a3 (inWin m 1 c) ∗ own c a4 (inWout m 1 c)
    ∗ own c a5 (inWin m 2 c) ∗ own c a6 (inWout m 2 c))
/-- The scratch buffers, at any contents. -/
def scr : sProp 𝕄 := iprop(ownAny c partM ∗ ownAny c hmeM ∗ ownAny c (landM false) ∗ ownAny c (landM true))

/-- The body after the device has read its number. -/
def afterId (d : Dev nD) : Pg F PUnit :=
  chainR pBar 0 32 (semWaitWord barS 32#32 >>= fun _ => ldX >>= fun x =>
  layerR d a1 a2 (k0_pay1 x) fun x₁ => layerR d a3 a4 x₁ fun x₂ => layerR d a5 a6 x₂ fun x₃ =>
  ldOut >>= fun _ => stOut x₃ >>= fun _ => pure ⟨⟩)

/-- The handshake: every device is told that it may write here, and every device has told that one may write there. -/
theorem wp_shake {α : Type} {Q : α → sProp 𝕄} (k : Pg F α) :
    iprop((bigSep Finset.univ (fun p : Fin 32 => ownAny c (slotM false p)) ∗ bigSep Finset.univ (sig0 c))
        ∗ (atPos ER (barCell c) 0 ∅ 0 ∗ cred (tallyAt (barCell c) 0 32)) ∗ owesAt m K c 0)
      ⊢ iprop(((bigSep Finset.univ (fun d : Fin 32 => perm false 0 c d) ∗ atPos ER (barCell c) 1 ∅ 0 ∗ owesAt m K c 32) -∗ wpc k Q)
        -∗ wpc (chainR pBar 0 32 (semWaitWord barS 32#32 >>= fun _ => k)) Q) := by
  iintro ⟨Hp, Hb, HO⟩ Hk
  ihave Hp' := (join_sep Finset.univ (fun p : Fin 32 => ownAny c (slotM false p)) (sig0 (F := F) c)) $$ Hp
  rw [← from_zero]
  iapply (wp_chain_from c pBar (fun p => iprop(ownAny c (slotM false p) ∗ sig0 c p)) (fun _ => iprop(emp)) (owesAt m K c) Q _ (fun p k => ?_) 32 0 rfl) $$ [Hp' HO]
  · unfold sig0
    iintro ⟨⟨Hs, Ht, #Hr, #Hv⟩, HO⟩ Hk
    iapply (wp_pBar m K c p k) $$ [Hs Ht HO]
    · isplitr [HO]; rotate_left; · iexact HO
      isplitl [Hs]
      · unfold perm
        isplitl [Hs]; · iexact Hs
        iexact Hv
      isplitl [Ht]; · iexact Ht
      iexact Hr
    iintro HO
    iapply Hk
    isplitr; · iempintro
    iexact HO
  · isplitl [Hp'] <;> iassumption
  iintro ⟨-, HO⟩
  iapply (wp_barWait m K c k) $$ [Hb HO]
  · isplitl [Hb] <;> iassumption
  iexact Hk

/-- The body. -/
theorem wp_body (Q : PUnit → sProp 𝕄) :
    iprop(scr c ∗ dealt c ∗ owesAt m K c 0 ∗ ins m c ∗ ownAny c a7)
      ⊢ iprop(((scr c ∗ (bigSep Finset.univ fun k : CK => semVal (kcell (c, k)) 0) ∗ (∃ W, owes (c : Thread nD τ) 0 W) ∗ ins m c ∗ own c a7 (xAt m 3 c)) -∗ Q ⟨⟩)
        -∗ wpc bodyR Q) := by
  rw [show (bodyR : Pg F PUnit) = .op .deviceId afterId from rfl, wp_deviceId]
  unfold scr dealt ins afterId
  iintro ⟨⟨Hpt, Hhm, Hrs, Hag⟩, ⟨Hat, Hcr, Hsig, Hdg, Hled⟩, HO, ⟨H0, H1, H2, H3, H4, H5, H6⟩, H7⟩ Hk
  ihave Hrs' := (ownAny_slots c false) $$ Hrs
  ihave Hag' := (ownAny_slots c true) $$ Hag
  iapply (wp_shake m K c _) $$ [Hrs' Hsig Hat Hcr HO]
  · isplitl [Hrs' Hsig]
    · isplitl [Hrs'] <;> iassumption
    isplitl [Hat Hcr]
    · isplitl [Hat] <;> iassumption
    iexact HO
  iintro ⟨Hpm', Hat, HO⟩
  ihave Hag2 := (Entails.of_eq (all_split c fun p => ownAny c (slotM true p))) $$ Hag'
  ihave Hpm2 := (Entails.of_eq (all_split c fun d => perm (F := F) false 0 c d)) $$ Hpm'
  icases Hag2 with ⟨Hagc, Hag⟩
  icases Hpm2 with ⟨Hrsc, Hpm⟩
  iapply (wp_ldX c (inX m c)) $$ H0
  iintro H0
  iapply (wp_layer m K c 0 (by decide) a1 a2 _) $$ [Hpt Hhm Hrsc Hpm Hagc Hag Hled H1 H2 HO]
  · isplitr [H1 H2 HO]
    · unfold LState
      isplitl [Hpt]; · iexact Hpt
      isplitl [Hhm]; · iexact Hhm
      isplitl [Hrsc]
      · iapply (show (perm false 0 c c : sProp 𝕄) ⊢ ownAny c (slotM false c) from sep_elim_left); iexact Hrsc
      isplitl [Hagc]; · iexact Hagc
      iapply (join_sep (others c) (fun p => ownAny c (slotM true p)) (fun p => iprop(rsN 0 c p ∗ led false 0 c p ∗ led true 0 c p)))
      isplitl [Hag]; · iexact Hag
      iapply (join_sep (others c) (fun p => rsN 0 c p) (fun p => iprop(led false 0 c p ∗ led true 0 c p)))
      isplitl [Hpm]; · iexact Hpm
      iexact Hled
    isplitl [H1]; · iexact H1
    isplitl [H2]; · iexact H2
    iexact HO
  iintro ⟨HS, H1, H2, HO⟩
  iapply (wp_layer m K c 1 (by decide) a3 a4 _) $$ [HS H3 H4 HO]
  · isplitl [HS]; · iexact HS
    isplitl [H3]; · iexact H3
    isplitl [H4]; · iexact H4
    iexact HO
  iintro ⟨HS, H3, H4, HO⟩
  iapply (wp_layer m K c 2 (by decide) a5 a6 _) $$ [HS H5 H6 HO]
  · isplitl [HS]; · iexact HS
    isplitl [H5]; · iexact H5
    isplitl [H6]; · iexact H6
    iexact HO
  iintro ⟨HS, H5, H6, HO⟩
  iapply (wp_putOut c (xAt m 3 c) _) $$ H7
  iintro H7
  rw [show stepAt false 3 0 = 224 from rfl]
  unfold owesAt
  rw [Ow_end]
  icases HO with ⟨#He, HO⟩
  unfold LState
  icases HS with ⟨Hpt, Hhm, Hrsc, Hagc, Hpe⟩
  ihave Hpe' := (show (bigSep (others c) (peer 3 c) : sProp 𝕄)
      ⊢ iprop(bigSep (others c) (fun p => ownAny c (slotM true p)) ∗ bigSep (others c) (fun p => ownAny c (slotM false p)) ∗ bigSep (others c) (leds 3 c)) from
    Entails.of_eq ((BI.bigSep_sep _ _ _).trans (congrArg _ (BI.bigSep_sep _ _ _)))) $$ Hpe
  icases Hpe' with ⟨Hag, Hrs, Hled⟩
  imod (close_all m K c) $$ [Hat Hdg Hled] with Hz
  · isplitr; · iexact He
    rw [bigSep_CK, all_split c]
    isplitl [Hat]; · iapply (spent_bar m c); iexact Hat
    isplitl [Hdg]; · iapply (diag_spent m c); iexact Hdg
    iapply (all_leds_spent m c); iexact Hled
  rw [show (pure ⟨⟩ : Pg F PUnit) = .ret ⟨⟩ from rfl, wp_ret]
  imodintro
  iapply Hk
  isplitl [Hpt Hhm Hrsc Hrs Hagc Hag]
  · isplitl [Hpt]; · iexact Hpt
    isplitl [Hhm]; · iexact Hhm
    isplitl [Hrsc Hrs]
    · iapply (slots_ownAny c false); rw [all_split c]
      isplitl [Hrsc] <;> iassumption
    iapply (slots_ownAny c true); rw [all_split c]
    isplitl [Hagc] <;> iassumption
  isplitl [Hz]; · iexact Hz
  isplitl [HO]; · iexact HO
  isplitr [H7]; rotate_left; · iexact H7
  isplitl [H0]; · iexact H0
  isplitl [H1]; · iexact H1
  isplitl [H2]; · iexact H2
  isplitl [H3]; · iexact H3
  isplitl [H4]; · iexact H4
  isplitl [H5]; · iexact H5
  iexact H6

end
end Cert.Mlp
end
-- ==== Proof.Alloc.lean ====
/-
# What the launch deals

The semaphores' ghost state, allocated for every device at once, and what each device takes from it: its own positions,
and the tokens of the duties that it pays on other devices.
-/
module

public import proofs.«01_k».proof.Proof.Body
public import proofs.«01_k».proof.Proof.Gen.KernelIdeal.Launch
public import Idealize.ShloMosaic.Lib.Pipeline.Launch
public import Idealize.ShloMosaic.Lib.Pipeline.Kit

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The semaphores apart -/

theorem kd_csem (k : CK) : kd (csem k) = match k with
    | none => .bar | some (false, b, p) => .send b p | some (true, b, p) => .recv b p := by
  rcases k with _ | ⟨_ | _, b, p⟩
  · exact kd_bar
  · exact kd_send b p
  · exact kd_recv b p
theorem csem_injective : Function.Injective csem := by
  intro k k' h
  have h' := (kd_csem k).symm.trans ((congrArg kd h).trans (kd_csem k'))
  rcases k with _ | ⟨_ | _, b, p⟩ <;> rcases k' with _ | ⟨_ | _, b', p'⟩ <;> cases h' <;> rfl
theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  subst h1; subst h2; rfl

/-- The kernel's own semaphores: the copies'. -/
abbrev osem : Bool × Bool × Fin 32 → SemLoc sig := fun k => csem (some k)

theorem stage_sem : ∀ (w : Fin 8) (s : Fin (spec0 w).nbuf), ((spec0 w).sem s).val < 8 := by decide
theorem kd_stage (w : Fin 8) (s : Fin (spec0 w).nbuf) : kd (.dma ((spec0 w).sem s)) = .other := if_pos (stage_sem w s)

theorem ownSemFacts : Pipeline.OwnSemFacts cfg0.spec osem where
  isScoped := by decide
  inj := fun k k' h => Option.some.inj (csem_injective h)
  disj := fun k w s h => by
    have h' := (kd_csem (some k)).symm.trans ((congrArg kd h).trans (kd_stage w s))
    rcases k with ⟨_ | _, b, p⟩ <;> cases h'

/-! ## The tokens -/

/-- A device's own semaphores' tokens: a barrier's, of every device; a copy semaphore's, of every round. -/
abbrev TK : Type := Fin 32 ⊕ ((Bool × Bool) × Fin 32 × Fin 3)
abbrev tokOf (cj : Dev nD × TK) : GSem nD τ sig × ℕ × Fin 32 := match cj.2 with
  | .inl d => (barCell cj.1, 0, d)
  | .inr (sb, p, r) => (kcell (cj.1, some (sb.1, sb.2, p)), r.val, 0)
theorem tokOf_injective : Function.Injective tokOf := by
  rintro ⟨c, j⟩ ⟨c', j'⟩ h
  rcases j with d | ⟨⟨s, b⟩, p, r⟩ <;> rcases j' with d' | ⟨⟨s', b'⟩, p', r'⟩
  · have h1 := kcell_injective (a₁ := (c, none)) (a₂ := (c', none)) (congrArg Prod.fst h)
    have h2 : d = d' := congrArg (fun x : GSem nD τ sig × ℕ × Fin 32 => x.2.2) h
    cases h1; cases h2; rfl
  · exact absurd (kcell_injective (a₁ := (c, none)) (a₂ := (c', some (s', b', p'))) (congrArg Prod.fst h)) (fun h => by cases h)
  · exact absurd (kcell_injective (a₁ := (c, some (s, b, p))) (a₂ := (c', none)) (congrArg Prod.fst h)) (fun h => by cases h)
  · have h1 := kcell_injective (a₁ := (c, some (s, b, p))) (a₂ := (c', some (s', b', p'))) (congrArg Prod.fst h)
    have h2 : r = r' := Fin.ext (congrArg (fun x : GSem nD τ sig × ℕ × Fin 32 => x.2.1) h)
    cases h1; cases h2; rfl

def ringCells : Finset (GSem nD τ sig) := Finset.univ.map ⟨kcell, kcell_injective⟩
def ringToks : Finset (GSem nD τ sig × ℕ × Fin 32) := Finset.univ.map ⟨tokOf, tokOf_injective⟩
def u₀ : UU :=
  (initOf (Pipeline.cells cfgs cellOf_inj) (Pipeline.launchToks cfgs cellOf_inj), initOf ringCells ringToks)

/-- The tokens of a copy semaphore of device `c`, of every round. -/
def tok3 (k : CK) (c : Dev nD) : sProp 𝕄 := bigSep Finset.univ fun r : Fin 3 => dutyTok ER (kcell (c, k)) r.val 0
/-- The tokens of device `c`'s own semaphores. -/
def toks (c : Dev nD) : sProp 𝕄 :=
  iprop((bigSep Finset.univ fun d : Fin 32 => dutyTok ER (barCell c) 0 d) ∗ bigSep Finset.univ (quad fun k => tok3 k c))

/-- What the launch deals device `c` first. -/
def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)

theorem toks_eq : bigSep ringToks (fun x => (dutyTok ER x.1 x.2.1 x.2.2 : sProp 𝕄)) = bigSep Finset.univ fun c : Dev nD => toks c := by
  have h2 (Ψ : Bool → sProp 𝕄) : bigSep Finset.univ Ψ = iprop(Ψ false ∗ Ψ true) := bigSep_univ_eq_bigSepL [false, true] (by decide) (by decide) Ψ
  unfold ringToks
  rw [bigSep_map, bigSep_univ_prod]
  refine bigSep_congr fun c _ => ?_
  refine (BI.bigSep_univ_sum _).trans ?_
  unfold toks
  refine congrArg _ ?_
  rw [bigSep_univ_prod, bigSep_univ_prod, h2, h2, h2]
  simp only [bigSep_univ_prod]
  unfold quad
  rw [bigSep_sep', bigSep_sep', bigSep_sep']
  exact BI.Entails.antisymm BI.sep_assoc BI.sep_assoc'

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq (toks_eq (F := F))) $$ Htok
  unfold G; simp only [bigSep_sep']
  isplitl [Hst']; · iexact Hst'
  isplitl [Hat' Hr']
  · isplitl [Hat'] <;> iassumption
  iexact Htok'

/-! ## The semaphores' counters -/

/-- A device's semaphores are the barrier and the kernel's own. -/
theorem bigSep_opt (Φ : CK → sProp 𝕄) : bigSep Finset.univ Φ = iprop(Φ none ∗ bigSep Finset.univ fun k => Φ (some k)) := by
  have e : (Finset.univ : Finset CK).erase none = Finset.univ.map Function.Embedding.some := by
    ext x; cases x <;> simp
  rw [BI.bigSep_erase (Finset.mem_univ none), e, bigSep_map]; rfl

set_option maxRecDepth 100000 in
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    (bigSep Finset.univ fun k : CK => semVal (kcell (c, k)) 0 : sProp 𝕄)
      = iprop(unscopedSems0 c ∗ Pipeline.ownSems0 (Ix := ℕ) (Name := ℕ) (U := UU) (Lvl := ℕ) (Val := Elt F) (τ := τ) osem c) := by
  rw [bigSep_opt, unscopedSems0_eq]; rfl

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : CK => semVal (kcell (c, k)) 0) ∗ bigSep Finset.univ fun k : CK => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing -/

/-- Every semaphore's invariant, and that each has reached round 0. -/
def records (K : Dev nD × CK → ℕ) : sProp 𝕄 :=
  iprop((bigSep Finset.univ fun ck : Dev nD × CK => cellInv ER (Rd m) (K ck) (kcell ck))
    ∗ bigSep Finset.univ fun ck : Dev nD × CK => reached ER (kcell ck) 0)
instance records_persistent (K : Dev nD × CK → ℕ) : BI.Persistent (records m K) := by unfold records; infer_instance

theorem records_reached (K : Dev nD × CK → ℕ) (ck : Dev nD × CK) : (records m K : sProp 𝕄) ⊢ reached ER (kcell ck) 0 :=
  sep_elim_right.trans (bigSep_elim (Finset.mem_univ ck))
theorem reached_bar (K : Dev nD × CK → ℕ) (c : Dev nD) : (records m K : sProp 𝕄) ⊢ reached ER (barCell c) 0 := records_reached m K (c, none)
theorem reached_send (K : Dev nD × CK → ℕ) (b : Bool) (p c : Dev nD) : (records m K : sProp 𝕄) ⊢ reached ER (sendCell b p c) 0 :=
  records_reached m K (c, some (false, b, p))
theorem reached_recv (K : Dev nD × CK → ℕ) (b : Bool) (p c : Dev nD) : (records m K : sProp 𝕄) ⊢ reached ER (recvCell b p c) 0 :=
  records_reached m K (c, some (true, b, p))

/-- What a device holds about another at the start, the credit aside. -/
def led0 (b : Bool) (c p : Dev nD) : sProp 𝕄 :=
  iprop(tokSt b c p 0 ∗ sendSt b c p 0 ∗ atPos ER (recvCell b p c) 0 ∅ 0 ∗ reached ER (recvCell b p c) 0)
/-- The credit of the copies from `p` to `c`. -/
def crd (b : Bool) (c p : Dev nD) : sProp 𝕄 := bigSep (Finset.Ico 0 3) fun r => cred (tallyAt (recvCell b p c) r N)

theorem leds_intro (c p : Dev nD) : iprop((led0 false c p ∗ led0 true c p) ∗ crd false c p ∗ crd true c p) ⊢ (leds 0 c p : sProp 𝕄) := by
  unfold led0 crd leds led recvSt
  iintro ⟨⟨⟨H1, H2, H3, H4⟩, G1, G2, G3, G4⟩, C1, C2⟩
  isplitl [H1 H2 H3 H4 C1]
  · isplitl [H1]; · iexact H1
    isplitl [H2]; · iexact H2
    isplitl [H3]; · iexact H3
    isplitl [H4] <;> iassumption
  isplitl [G1]; · iexact G1
  isplitl [G2]; · iexact G2
  isplitl [G3]; · iexact G3
  isplitl [G4] <;> iassumption
theorem all_leds (c : Dev nD) :
    (bigSep (others c) fun p => iprop((led0 false c p ∗ led0 true c p) ∗ crd false c p ∗ crd true c p)) ⊢ (bigSep (others c) (leds 0 c) : sProp 𝕄) :=
  bigSep_mono fun p _ => leds_intro c p

/-- What device `c` takes from the global step. -/
def G' (c : Dev nD) : sProp 𝕄 :=
  iprop(∃ K : Dev nD × CK → ℕ, (bigSep Finset.univ fun ck : Dev nD × CK => cellInv ER (Rd m) (K ck) (kcell ck))
    ∗ atPos ER (barCell c) 0 ∅ 0 ∗ bigSep Finset.univ (sig0 c) ∗ diag c ∗ bigSep (others c) fun p => iprop(led0 false c p ∗ led0 true c p))

/-- The tokens that device `c` pays with. -/
def payToks (c : Dev nD) : sProp 𝕄 :=
  iprop((bigSep Finset.univ fun p : Fin 32 => dutyTok ER (barCell p) 0 c) ∗ bigSep Finset.univ fun p : Fin 32 => iprop(tokSt false c p 0 ∗ tokSt true c p 0))
def linear (c : Dev nD) : sProp 𝕄 := iprop((bigSep Finset.univ fun k : CK => atPos ER (kcell (c, k)) 0 ∅ 0) ∗ payToks c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem sig0_intro (K : Dev nD × CK → ℕ) (c p : Dev nD) : iprop(records m K ∗ dutyTok ER (barCell p) 0 c) ⊢ (sig0 c p : sProp 𝕄) := by
  unfold sig0
  iintro ⟨#HR, H⟩
  isplitl [H]; · iexact H
  isplitr; · iapply (reached_bar m K p); iexact HR
  iapply (reached_recv m K false p c); iexact HR

theorem led0_intro (K : Dev nD × CK → ℕ) (c p : Dev nD) :
    iprop(records m K ∗ quad (fun k => atPos ER (kcell (c, k)) 0 ∅ 0) p ∗ tokSt false c p 0 ∗ tokSt true c p 0)
      ⊢ (iprop(led0 false c p ∗ led0 true c p) : sProp 𝕄) := by
  unfold led0 quad sendSt
  iintro ⟨#HR, ⟨H1, H2, H3, H4⟩, Ht, Ht'⟩
  isplitl [H1 H3 Ht]
  · isplitl [Ht]; · iexact Ht
    isplitl [H1]
    · isplitl [H1]; · iexact H1
      iapply (reached_send m K false p c); iexact HR
    isplitl [H3]; · iexact H3
    iapply (reached_recv m K false p c); iexact HR
  isplitl [Ht']; · iexact Ht'
  isplitl [H2]
  · isplitl [H2]; · iexact H2
    iapply (reached_send m K true p c); iexact HR
  isplitl [H4]; · iexact H4
  iapply (reached_recv m K true p c); iexact HR

theorem all_sig0 (K : Dev nD × CK → ℕ) (c : Dev nD) :
    iprop(records m K ∗ bigSep Finset.univ fun p : Fin 32 => dutyTok ER (barCell p) 0 c) ⊢ (bigSep Finset.univ (sig0 c) : sProp 𝕄) :=
  with_persistent fun p _ => sig0_intro m K c p
theorem all_led0 (K : Dev nD × CK → ℕ) (c : Dev nD) :
    iprop(records m K ∗ bigSep (others c) fun p => iprop(quad (fun k => atPos ER (kcell (c, k)) 0 ∅ 0) p ∗ tokSt false c p 0 ∗ tokSt true c p 0))
      ⊢ (bigSep (others c) (fun p => iprop(led0 false c p ∗ led0 true c p)) : sProp 𝕄) :=
  with_persistent fun p _ => led0_intro m K c p

theorem ghost_intro (K : Dev nD × CK → ℕ) (c : Dev nD) : iprop(records m K ∗ linear c) ⊢ G' m c := by
  unfold linear payToks G'
  rw [bigSep_CK, all_split c (quad _), all_split c (fun p => iprop(tokSt false c p 0 ∗ tokSt true c p 0))]
  iintro ⟨#HR, ⟨HaB, Hdg, Hoth⟩, Hbar, -, Htok⟩
  iexists K
  isplitr
  · iapply (show (records m K : sProp 𝕄) ⊢ (bigSep Finset.univ fun ck : Dev nD × CK => cellInv ER (Rd m) (K ck) (kcell ck)) from sep_elim_left); iexact HR
  isplitl [HaB]; · iexact HaB
  isplitl [Hbar]
  · iapply (all_sig0 m K c); isplitr; · iexact HR
    iexact Hbar
  isplitl [Hdg]; · unfold diag; iexact Hdg
  iapply (all_led0 m K c); isplitr; · iexact HR
  iapply (join_sep (others c) (quad fun k => atPos ER (kcell (c, k)) 0 ∅ 0) (fun p => iprop(tokSt false c p 0 ∗ tokSt true c p 0)))
  isplitl [Hoth]; · iexact Hoth
  iexact Htok

/-- The rounds of a copy semaphore's tokens. -/
theorem tokSt_eq (b : Bool) (c p : Dev nD) : (tokSt b c p 0 : sProp 𝕄) = iprop(tok3 (some (false, b, p)) c ∗ tok3 (some (true, b, c)) p) := by
  have e : Finset.Ico 0 3 = (Finset.univ : Finset (Fin 3)).map Fin.valEmbedding := by decide
  unfold tokSt tok3
  rw [e, bigSep_map, ← bigSep_sep']; rfl

/-- A double conjunction over devices, the other way round. -/
theorem swap (Φ : Fin 32 → Fin 32 → sProp 𝕄) :
    (bigSep Finset.univ fun c => bigSep Finset.univ fun d => Φ c d) = bigSep Finset.univ fun d => bigSep Finset.univ fun c => Φ c d := by
  rw [← bigSep_univ_prod (fun x : Fin 32 × Fin 32 => Φ x.1 x.2), ← bigSep_univ_prod (fun x : Fin 32 × Fin 32 => Φ x.2 x.1)]
  exact bigSep_univ_equiv (Equiv.prodComm (Fin 32) (Fin 32)) (fun x : Fin 32 × Fin 32 => Φ x.1 x.2)

theorem sep_cross (A B C D : sProp 𝕄) : iprop(A ∗ B ∗ C ∗ D) = iprop((A ∗ C) ∗ B ∗ D) := by
  have h1 : iprop(A ∗ B ∗ C ∗ D) ⊢ iprop((A ∗ C) ∗ B ∗ D) := by
    iintro ⟨H1, H2, H3, H4⟩
    isplitl [H1 H3]
    · isplitl [H1] <;> iassumption
    isplitl [H2] <;> iassumption
  have h2 : iprop((A ∗ C) ∗ B ∗ D) ⊢ iprop(A ∗ B ∗ C ∗ D) := by
    iintro ⟨⟨H1, H3⟩, H2, H4⟩
    isplitl [H1]; · iexact H1
    isplitl [H2]; · iexact H2
    isplitl [H3] <;> iassumption
  exact BI.Entails.antisymm h1 h2

/-- The tokens, dealt to the devices that pay: a barrier's to the device that signals, an arrival's to the device that sends. -/
theorem toks_around : (bigSep Finset.univ fun c : Dev nD => (toks c : sProp 𝕄)) = bigSep Finset.univ fun c : Dev nD => payToks c := by
  unfold toks payToks
  rw [bigSep_sep', bigSep_sep', swap (fun (c : Dev nD) (d : Fin 32) => (dutyTok ER (barCell c) 0 d : sProp 𝕄))]
  refine congrArg _ ?_
  simp only [tokSt_eq]
  unfold quad
  simp only [bigSep_sep']
  rw [swap (fun (c : Dev nD) (p : Fin 32) => (tok3 (some (true, false, p)) c : sProp 𝕄)),
    swap (fun (c : Dev nD) (p : Fin 32) => (tok3 (some (true, true, p)) c : sProp 𝕄))]
  exact sep_cross _ _ _ _

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄)), toks_around]
  iintro ⟨HI, ⟨Hat, #HR⟩, Htk⟩
  ihave HK := (BI.bigSep_exists_pi Finset.univ (fun (ck : Dev nD × CK) (κ : ℕ) => (cellInv ER (Rd m) κ (kcell ck) : sProp 𝕄))) $$ HI
  icases HK with ⟨%K, #HI⟩
  iapply (with_persistent (R := records m K) fun c _ => ghost_intro m K c)
  isplitr
  · unfold records; isplitl; · iexact HI
    iexact HR
  · iapply (Entails.of_eq (bigSep_sep' Finset.univ (fun c : Dev nD => bigSep Finset.univ fun k : CK => (atPos ER (kcell (c, k)) 0 ∅ 0 : sProp 𝕄)) payToks).symm)
    isplitl [Hat]; · iexact Hat
    iexact Htk

/-- Every device's semaphores at once become every device's share of the protocol. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What a device owes an arrival's semaphore, step by step. -/
theorem owe_recv (d : Dev nD) (b : Bool) (p c : Dev nD) (s u : ℕ) (hs : s < 224) (h : owe d s (recvCell b p c) u ≠ 0) :
    (d = p ∧ u < 3) ∧ s = stepAt b u c.val := by
  unfold owe at h
  split at h
  · rw [tallyAt_ne_cell (fun h => by cases congrArg Prod.snd h)] at h; exact absurd rfl h
  rename_i h32
  split at h
  · exact absurd rfl h
  rw [tallyAt_apply] at h
  split at h
  · rename_i hg
    obtain ⟨hg, hu⟩ := hg
    have h1 : c = Fin.ofNat 32 s := congrArg (fun g : GSem nD τ sig => g.1.1) hg
    have h2 := (kd_recv b p).symm.trans ((congrArg (fun g : GSem nD τ sig => kd g.2) hg).trans (kd_recv _ _))
    injection h2 with h3 h4
    have h1' : c.val = s % 32 := congrArg Fin.val h1
    refine ⟨⟨h4.symm, by omega⟩, ?_⟩
    unfold stepAt
    subst h3
    simp only [decide_eq_true_eq]
    split <;> omega
  · exact absurd rfl h

theorem Ow_recv (d : Dev nD) (b : Bool) (p c : Dev nD) (h : p ≠ c) (u : ℕ) : Ow d 0 (recvCell b p c) u = if d = p ∧ u < 3 then N else 0 := by
  unfold Ow
  rw [Finset.sum_apply, Finsupp.finset_sum_apply]
  have hc : c.val < 32 := c.isLt
  split
  · rename_i hd
    obtain ⟨rfl, hu⟩ := hd
    rw [Finset.sum_eq_single (stepAt b u c.val)]
    · rw [owe_copy b u d c h.symm, tallyAt_apply, if_pos ⟨rfl, rfl⟩]
    · intro s hs hne
      by_contra hn
      exact hne (owe_recv d b d c s u (Finset.mem_Ico.mp hs).2 hn).2
    · intro hn
      exact absurd (Finset.mem_Ico.mpr ⟨Nat.zero_le _, by unfold stepAt; split <;> omega⟩) hn
  · rename_i hd
    refine Finset.sum_eq_zero fun s hs => ?_
    by_contra hn
    exact hd (owe_recv d b p c s u (Finset.mem_Ico.mp hs).2 hn).1

theorem Ow_bar (d c : Dev nD) (u : ℕ) : Ow d 0 (barCell c) u = if u = 0 then 1 else 0 := by
  unfold Ow
  rw [Finset.sum_apply, Finsupp.finset_sum_apply]
  have hc : c.val < 32 := c.isLt
  rw [Finset.sum_eq_single c.val]
  · rw [owe_bar, tallyAt_apply]
    by_cases hu : u = 0
    · rw [if_pos ⟨rfl, hu⟩, if_pos hu]
    · rw [if_neg (fun h => hu h.2), if_neg hu]
  · intro s hs hne
    unfold owe
    split
    · rename_i h32
      rw [tallyAt_ne_cell (fun h => ?_)]; · rfl
      have h1 : c = Fin.ofNat 32 s := congrArg (fun g : GSem nD τ sig => g.1.1) h
      have h1' : c.val = s % 32 := congrArg Fin.val h1
      omega
    · split
      · rfl
      · rw [tallyAt_ne_cell (fun h => by cases congrArg Prod.snd h)]; rfl
  · intro hn
    exact absurd (Finset.mem_Ico.mpr ⟨Nat.zero_le _, by omega⟩) hn

theorem launch_bar (c : Dev nD) :
    tallyOn (barCell c) (launchCredit (Pipeline.owing fun d => Ow d 0) 0 (barCell c)) = (tallyAt (barCell c) 0 32 : CellTallies nD τ sig ℕ) := by
  unfold tallyAt; refine congrArg _ (Finsupp.ext fun u => ?_)
  rw [Pipeline.launchCredit_owing, Finset.sum_congr rfl fun d _ => Ow_bar d c u, Finset.sum_const, Finset.card_univ, Finsupp.single_apply]
  by_cases hu : u = 0
  · rw [if_pos hu, if_pos hu.symm]; rfl
  · rw [if_neg hu, if_neg (fun h => hu h.symm)]; rfl

theorem launch_recv (b : Bool) (p c : Dev nD) (h : p ≠ c) :
    tallyOn (recvCell b p c) (launchCredit (Pipeline.owing fun d => Ow d 0) 0 (recvCell b p c))
      = (tallyAt (recvCell b p c) 0 N + (tallyAt (recvCell b p c) 1 N + tallyAt (recvCell b p c) 2 N) : CellTallies nD τ sig ℕ) := by
  unfold tallyAt; rw [← tallyOn_add, ← tallyOn_add]; refine congrArg _ (Finsupp.ext fun u => ?_)
  rw [Pipeline.launchCredit_owing, Finset.sum_congr rfl fun d _ => Ow_recv d b p c h u, Finsupp.add_apply, Finsupp.add_apply, Finsupp.single_apply, Finsupp.single_apply, Finsupp.single_apply]
  by_cases hu : u < 3
  · simp only [hu, and_true]
    rw [Finset.sum_ite_eq' Finset.univ p fun _ => N, if_pos (Finset.mem_univ _)]
    interval_cases u <;> simp
  · simp only [hu, and_false, if_false, Finset.sum_const_zero]
    rw [if_neg (by omega), if_neg (by omega), if_neg (by omega)]; rfl

theorem crd_intro (b : Bool) (p c : Dev nD) (h : p ≠ c) :
    (cred (tallyOn (recvCell b p c) (launchCredit (Pipeline.owing fun d => Ow d 0) 0 (recvCell b p c))) : sProp 𝕄) ⊢ crd b c p := by
  rw [launch_recv b p c h]
  unfold crd
  rw [peel _ 0 (by decide), peel _ 1 (by decide), peel _ 2 (by decide), Finset.Ico_self, BI.bigSep_empty]
  iintro ⟨H0, H1, H2⟩
  isplitl [H0]; · iexact H0
  isplitl [H1]; · iexact H1
  isplitl [H2]; · iexact H2
  iempintro

/-- What the launch credits device `c`'s semaphore `k` with. -/
def crdOf (c : Dev nD) (k : CK) : sProp 𝕄 := cred (tallyOn (kcell (c, k)) (launchCredit (Pipeline.owing fun d => Ow d 0) 0 (kcell (c, k))))
theorem crdOf_bar (c : Dev nD) : (crdOf c none : sProp 𝕄) ⊢ cred (tallyAt (barCell c) 0 32) := Entails.of_eq (congrArg cred (launch_bar c))
theorem crdOf_pair (c p : Dev nD) (h : p ≠ c) : quad (crdOf (F := F) c) p ⊢ iprop(crd false c p ∗ crd true c p) := by
  unfold quad crdOf
  iintro ⟨-, -, H1, H2⟩
  isplitl [H1]; · iapply (crd_intro (F := F) false p c h); iexact H1
  iapply (crd_intro (F := F) true p c h); iexact H2
theorem crdOf_all (c : Dev nD) : bigSep (others c) (quad (crdOf (F := F) c)) ⊢ bigSep (others c) fun p => iprop(crd false c p ∗ crd true c p) :=
  bigSep_mono fun p hp => crdOf_pair c p (Finset.ne_of_mem_erase hp)
theorem launch_crdOf (c : Dev nD) : (Pipeline.launchCred (fun d => Ow d 0) c : sProp 𝕄) ⊢ bigSep Finset.univ (crdOf (F := F) c) := by
  unfold Pipeline.launchCred
  refine (BI.bigSep_subset (Finset.subset_univ (Finset.univ.map ⟨csem, csem_injective⟩))).trans ?_
  rw [bigSep_map]; exact BI.Entails.refl _

/-- A device's launch credit: the barrier's, and that of the copies from every other device. -/
theorem creds (c : Dev nD) :
    (Pipeline.launchCred (fun d => Ow d 0) c : sProp 𝕄)
      ⊢ iprop(cred (tallyAt (barCell c) 0 32) ∗ bigSep (others c) fun p => iprop(crd false c p ∗ crd true c p)) := by
  iintro H
  ihave H' := ((launch_crdOf (F := F) c).trans (Entails.of_eq ((bigSep_CK (crdOf (F := F) c)).trans (congrArg _ (all_split c (quad (crdOf (F := F) c))))))) $$ H
  icases H' with ⟨Hb, -, Hr⟩
  isplitl [Hb]; · iapply (crdOf_bar (F := F) c); iexact Hb
  iapply (crdOf_all (F := F) c); iexact Hr

end Cert.Mlp
end
-- ==== Proof.PiecesEq.lean ====
/-
# The printed body is `bodyR`

Each printed part, at the kernel's buffers, is a stretch of `bodyR` (`partN_eq`); in sequence they are `bodyR`
(`body_eq`).
-/
module

public import proofs.«01_k».proof.Proof.Pieces

@[expose] public section

set_option maxRecDepth 65536

noncomputable section

namespace Cert.Mlp

open Cert.KernelIdeal Cert.KernelIdeal.Gen
open Idealize.ShloMosaic Idealize.SL.Sem

variable {F : FTy → Type} [FloatOps F]

/-- A printed function at the kernel's buffers and semaphores. -/
abbrev onBufs {β : Type _} (f : ∀ (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S256x512 .f32) (harg8 : arg8.IsWhole) (arg9 : Memref sig .tc .vmem S8x512 .f32) (harg9 : arg9.IsWhole) (arg10 : Memref sig .tc .vmem S32x8x512 .f32) (harg10 : arg10.IsWhole) (arg11 : Memref sig .tc .vmem S32x8x512 .f32) (harg11 : arg11.IsWhole) (arg12 : DmaSems sig S32) (arg13 : DmaSems sig S32) (arg14 : DmaSems sig S32) (arg15 : DmaSems sig S32), β) : β :=
  f a0 (Memref.isWhole_whole _) a1 (Memref.isWhole_whole _) a2 (Memref.isWhole_whole _) a3 (Memref.isWhole_whole _) a4 (Memref.isWhole_whole _) a5 (Memref.isWhole_whole _) a6 (Memref.isWhole_whole _) a7 (Memref.isWhole_whole _) partM (Memref.isWhole_whole _) hmeM (Memref.isWhole_whole _) (Memref.whole cc0_scratch2) (Memref.isWhole_whole _) (Memref.whole cc0_scratch3) (Memref.isWhole_whole _) cc0_scratch4 cc0_scratch5 cc0_scratch6 cc0_scratch7

theorem part1_eq : onBufs (k0_part1 (F := F))
    = (Prog.lift .deviceId : Pg F (Dev nD)) >>= fun d => chainR pBar 0 7 ((pure ⟨d, (vw d), (SemArray.scalar (sig.barrier 0 rfl) : Sems sig S_), (Scalar.muli 7#32 1#32)⟩ : Pg F (Σ' (d0 : Dev nD) (v2 : BitVec 32) (v3 : Sems sig S_), BitVec 32))) := by
  rw [k0_part1_eq_skeleton]; rfl
theorem part2_eq : onBufs (k0_part2 (F := F)) (SemArray.scalar (sig.barrier 0 rfl) : Sems sig S_) (Scalar.muli 7#32 1#32)
    = chainR pBar 7 9 ((pure ⟨⟩ : Pg F (PUnit))) := by
  rw [k0_part2_eq_skeleton]; rfl
theorem part3_eq : onBufs (k0_part3 (F := F)) (SemArray.scalar (sig.barrier 0 rfl) : Sems sig S_)
    = chainR pBar 16 8 ((pure ⟨(Scalar.muli 24#32 1#32), 0#32⟩ : Pg F (Σ' (v52 : BitVec 32), BitVec 32))) := by
  rw [k0_part3_eq_skeleton]; rfl
theorem part4_eq : onBufs (k0_part4 (F := F)) (SemArray.scalar (sig.barrier 0 rfl) : Sems sig S_) (Scalar.muli 24#32 1#32) (0#32)
    = chainR pBar 24 8 (semWaitWord barS 32#32 >>= fun _ => ldX >>= fun v68 => (pure (k0_pay1 v68) : Pg F (FVec F S256x256 .f32))) := by
  rw [k0_part4_eq_skeleton]; rfl
theorem part5_eq (d : Dev nD) (v69 : FVec F S256x256 .f32) : onBufs (k0_part5 (F := F)) d (vw d) v69
    = ldWin a1 >>= fun v70 => ldWin partM >>= fun _ => stPart (k0_pay2 v69 v70) >>= fun _ => gchainR d (pSend0 d) 0 8 ((pure (Scalar.cmpi .ne (vw d) 8#32) : Pg F (BitVec 1))) := by
  rw [k0_part5_eq_skeleton]; rfl
theorem part6_eq (d : Dev nD) : onBufs (k0_part6 (F := F)) d (vw d) (Scalar.cmpi .ne (vw d) 8#32)
    = gchainR d (pSend0 d) 8 10 ((pure (Scalar.cmpi .ne (vw d) 18#32) : Pg F (BitVec 1))) := by
  rw [k0_part6_eq_skeleton]; rfl
theorem part7_eq (d : Dev nD) : onBufs (k0_part7 (F := F)) d (vw d) (Scalar.cmpi .ne (vw d) 18#32)
    = gchainR d (pSend0 d) 18 10 ((pure (Scalar.cmpi .ne (vw d) 28#32) : Pg F (BitVec 1))) := by
  rw [k0_part7_eq_skeleton]; rfl
theorem part8_eq (d : Dev nD) : onBufs (k0_part8 (F := F)) d (vw d) (Scalar.cmpi .ne (vw d) 28#32)
    = gchainR d (pSend0 d) 28 4 (ldRows d >>= fun v174 => ldSlot false d >>= fun _ => stSlot false d (k0_pay3 v174) >>= fun _ => gchainR d (pRecv0 d) 0 4 ((pure (Scalar.cmpi .ne (vw d) 4#32) : Pg F (BitVec 1)))) := by
  rw [k0_part8_eq_skeleton]; rfl
theorem part9_eq (d : Dev nD) : onBufs (k0_part9 (F := F)) (vw d) (Scalar.cmpi .ne (vw d) 4#32)
    = gchainR d (pRecv0 d) 4 10 ((pure (Scalar.cmpi .ne (vw d) 14#32) : Pg F (BitVec 1))) := by
  rw [k0_part9_eq_skeleton]; rfl
theorem part10_eq (d : Dev nD) : onBufs (k0_part10 (F := F)) (vw d) (Scalar.cmpi .ne (vw d) 14#32)
    = gchainR d (pRecv0 d) 14 10 ((pure (Scalar.cmpi .ne (vw d) 24#32) : Pg F (BitVec 1))) := by
  rw [k0_part10_eq_skeleton]; rfl
theorem part11_eq (d : Dev nD) : onBufs (k0_part11 (F := F)) (vw d) (Scalar.cmpi .ne (vw d) 24#32)
    = gchainR d (pRecv0 d) 24 8 (ldSlots false >>= fun v275 => ldH >>= fun _ => (pure ⟨k0_pay4 v275, k0_pay5 v275⟩ : Pg F (Σ' (v278 : FVec F S8x512 .f32), FVec F S8x512 .f32))) := by
  rw [k0_part11_eq_skeleton]; rfl
theorem part12_eq (d : Dev nD) (v281 : FVec F S8x512 .f32) : onBufs (k0_part12 (F := F)) d (vw d) v281
    = stH v281 >>= fun _ => gchainR d (pSend1 d) 0 9 ((pure ⟨⟩ : Pg F (PUnit))) := by
  rw [k0_part12_eq_skeleton]; rfl
theorem part13_eq (d : Dev nD) : onBufs (k0_part13 (F := F)) d (vw d)
    = gchainR d (pSend1 d) 9 10 ((pure ⟨⟩ : Pg F (PUnit))) := by
  rw [k0_part13_eq_skeleton]; rfl
theorem part14_eq (d : Dev nD) : onBufs (k0_part14 (F := F)) d (vw d)
    = gchainR d (pSend1 d) 19 10 ((pure ⟨⟩ : Pg F (PUnit))) := by
  rw [k0_part14_eq_skeleton]; rfl
theorem part15_eq (d : Dev nD) (v278 : FVec F S8x512 .f32) : onBufs (k0_part15 (F := F)) d (vw d) v278
    = gchainR d (pSend1 d) 29 3 (ldSlot true d >>= fun _ => stSlot true d (k0_pay6 v278) >>= fun _ => gchainR d (pRecv1 d) 0 6 ((pure ⟨(Scalar.extui (Scalar.cmpi .ne (vw d) 6#32)), 0#32⟩ : Pg F (Σ' (v401 : BitVec 32), BitVec 32)))) := by
  rw [k0_part15_eq_skeleton]; rfl
theorem part16_eq (d : Dev nD) : onBufs (k0_part16 (F := F)) (vw d) (Scalar.extui (Scalar.cmpi .ne (vw d) 6#32)) (0#32)
    = gchainR d (pRecv1 d) 6 10 ((pure ⟨(Scalar.extui (Scalar.cmpi .ne (vw d) 16#32)), 0#32⟩ : Pg F (Σ' (v431 : BitVec 32), BitVec 32))) := by
  rw [k0_part16_eq_skeleton]; rfl
theorem part17_eq (d : Dev nD) : onBufs (k0_part17 (F := F)) (vw d) (Scalar.extui (Scalar.cmpi .ne (vw d) 16#32)) (0#32)
    = gchainR d (pRecv1 d) 16 10 ((pure ⟨(Scalar.extui (Scalar.cmpi .ne (vw d) 26#32)), 0#32⟩ : Pg F (Σ' (v461 : BitVec 32), BitVec 32))) := by
  rw [k0_part17_eq_skeleton]; rfl
theorem part18_eq (d : Dev nD) : onBufs (k0_part18 (F := F)) d (vw d) (Scalar.extui (Scalar.cmpi .ne (vw d) 26#32)) (0#32)
    = gchainR d (pRecv1 d) 26 6 (ldSlots true >>= fun v478 => ldWout a2 >>= fun v480 => gchainR d (pSwait d) 0 2 ((pure (k0_pay7 v478 v480) : Pg F (FVec F S256x256 .f32)))) := by
  rw [k0_part18_eq_skeleton]; rfl
theorem part19_eq (d : Dev nD) : onBufs (k0_part19 (F := F)) d (vw d)
    = gchainR d (pSwait d) 2 10 ((pure ⟨⟩ : Pg F (PUnit))) := by
  rw [k0_part19_eq_skeleton]; rfl
theorem part20_eq (d : Dev nD) : onBufs (k0_part20 (F := F)) d (vw d)
    = gchainR d (pSwait d) 12 10 ((pure ⟨⟩ : Pg F (PUnit))) := by
  rw [k0_part20_eq_skeleton]; rfl
theorem part21_eq (d : Dev nD) : onBufs (k0_part21 (F := F)) d (vw d)
    = gchainR d (pSwait d) 22 10 (ldWin a3 >>= fun v579 => (pure ⟨k0_pay8 v579, (constant S256x512 .f32 0x00000000#32)⟩ : Pg F (Σ' (v580 : FVec F S256x512 .f32), FVec F S256x512 .f32))) := by
  rw [k0_part21_eq_skeleton]; rfl
theorem part22_eq (d : Dev nD) (v482 : FVec F S256x256 .f32) (v580 : FVec F S256x512 .f32) (cst_444 : FVec F S256x512 .f32) : onBufs (k0_part22 (F := F)) d (vw d) v482 v580 cst_444
    = ldWin partM >>= fun _ => stPart (k0_pay9 v482 v580 cst_444) >>= fun _ => gchainR d (pSend0 d) 0 8 ((pure ⟨⟩ : Pg F (PUnit))) := by
  rw [k0_part22_eq_skeleton]; rfl
theorem part23_eq (d : Dev nD) : onBufs (k0_part23 (F := F)) d (vw d)
    = gchainR d (pSend0 d) 8 10 ((pure ⟨⟩ : Pg F (PUnit))) := by
  rw [k0_part23_eq_skeleton]; rfl
theorem part24_eq (d : Dev nD) : onBufs (k0_part24 (F := F)) d (vw d)
    = gchainR d (pSend0 d) 18 10 ((pure ⟨⟩ : Pg F (PUnit))) := by
  rw [k0_part24_eq_skeleton]; rfl
theorem part25_eq (d : Dev nD) : onBufs (k0_part25 (F := F)) d (vw d)
    = gchainR d (pSend0 d) 28 4 (ldRows d >>= fun v683 => ldSlot false d >>= fun _ => stSlot false d (k0_pay10 v683) >>= fun _ => gchainR d (pRecv0 d) 0 4 ((pure (Scalar.cmpi .ne (Scalar.extui (Scalar.cmpi .ne (vw d) 4#32)) 0#32) : Pg F (BitVec 1)))) := by
  rw [k0_part25_eq_skeleton]; rfl
theorem part26_eq (d : Dev nD) : onBufs (k0_part26 (F := F)) (vw d) (Scalar.cmpi .ne (Scalar.extui (Scalar.cmpi .ne (vw d) 4#32)) 0#32)
    = gchainR d (pRecv0 d) 4 10 ((pure (Scalar.cmpi .ne (Scalar.extui (Scalar.cmpi .ne (vw d) 14#32)) 0#32) : Pg F (BitVec 1))) := by
  rw [k0_part26_eq_skeleton]; rfl
theorem part27_eq (d : Dev nD) : onBufs (k0_part27 (F := F)) (vw d) (Scalar.cmpi .ne (Scalar.extui (Scalar.cmpi .ne (vw d) 14#32)) 0#32)
    = gchainR d (pRecv0 d) 14 10 ((pure (Scalar.cmpi .ne (Scalar.extui (Scalar.cmpi .ne (vw d) 24#32)) 0#32) : Pg F (BitVec 1))) := by
  rw [k0_part27_eq_skeleton]; rfl
theorem part28_eq (d : Dev nD) : onBufs (k0_part28 (F := F)) (vw d) (Scalar.cmpi .ne (Scalar.extui (Scalar.cmpi .ne (vw d) 24#32)) 0#32)
    = gchainR d (pRecv0 d) 24 8 (ldSlots false >>= fun v784 => ldH >>= fun _ => stH (k0_pay12 v784) >>= fun _ => (pure ⟨k0_pay11 v784, (Scalar.cmpi .ne (vw d) 0#32)⟩ : Pg F (Σ' (v787 : FVec F S8x512 .f32), BitVec 1))) := by
  rw [k0_part28_eq_skeleton]; rfl
theorem part29_eq (d : Dev nD) : onBufs (k0_part29 (F := F)) d (vw d) (Scalar.cmpi .ne (vw d) 0#32)
    = gchainR d (pSend1 d) 0 10 ((pure (Scalar.cmpi .ne (vw d) 10#32) : Pg F (BitVec 1))) := by
  rw [k0_part29_eq_skeleton]; rfl
theorem part30_eq (d : Dev nD) : onBufs (k0_part30 (F := F)) d (vw d) (Scalar.cmpi .ne (vw d) 10#32)
    = gchainR d (pSend1 d) 10 10 ((pure (Scalar.cmpi .ne (vw d) 20#32) : Pg F (BitVec 1))) := by
  rw [k0_part30_eq_skeleton]; rfl
theorem part31_eq (d : Dev nD) : onBufs (k0_part31 (F := F)) d (vw d) (Scalar.cmpi .ne (vw d) 20#32)
    = gchainR d (pSend1 d) 20 10 ((pure (Scalar.cmpi .ne (vw d) 30#32) : Pg F (BitVec 1))) := by
  rw [k0_part31_eq_skeleton]; rfl
theorem part32_eq (d : Dev nD) (v787 : FVec F S8x512 .f32) : onBufs (k0_part32 (F := F)) d (vw d) v787 (Scalar.cmpi .ne (vw d) 30#32)
    = gchainR d (pSend1 d) 30 2 (ldSlot true d >>= fun _ => stSlot true d (k0_pay13 v787) >>= fun _ => gchainR d (pRecv1 d) 0 7 ((pure 7#32 : Pg F (BitVec 32)))) := by
  rw [k0_part32_eq_skeleton]; rfl
theorem part33_eq (d : Dev nD) : onBufs (k0_part33 (F := F)) (vw d) (7#32)
    = gchainR d (pRecv1 d) 7 10 ((pure 17#32 : Pg F (BitVec 32))) := by
  rw [k0_part33_eq_skeleton]; rfl
theorem part34_eq (d : Dev nD) : onBufs (k0_part34 (F := F)) (vw d) (17#32)
    = gchainR d (pRecv1 d) 17 10 ((pure 27#32 : Pg F (BitVec 32))) := by
  rw [k0_part34_eq_skeleton]; rfl
theorem part35_eq (d : Dev nD) : onBufs (k0_part35 (F := F)) d (vw d) (27#32)
    = gchainR d (pRecv1 d) 27 5 (ldSlots true >>= fun v987 => ldWout a4 >>= fun v989 => gchainR d (pSwait d) 0 3 ((pure ⟨k0_pay14 v987 v989, (Scalar.cmpi .ne (vw d) 3#32)⟩ : Pg F (Σ' (v991 : FVec F S256x256 .f32), BitVec 1)))) := by
  rw [k0_part35_eq_skeleton]; rfl
theorem part36_eq (d : Dev nD) : onBufs (k0_part36 (F := F)) d (vw d) (Scalar.cmpi .ne (vw d) 3#32)
    = gchainR d (pSwait d) 3 10 ((pure (Scalar.cmpi .ne (vw d) 13#32) : Pg F (BitVec 1))) := by
  rw [k0_part36_eq_skeleton]; rfl
theorem part37_eq (d : Dev nD) : onBufs (k0_part37 (F := F)) d (vw d) (Scalar.cmpi .ne (vw d) 13#32)
    = gchainR d (pSwait d) 13 10 ((pure (Scalar.cmpi .ne (vw d) 23#32) : Pg F (BitVec 1))) := by
  rw [k0_part37_eq_skeleton]; rfl
theorem part38_eq (d : Dev nD) (v991 : FVec F S256x256 .f32) : onBufs (k0_part38 (F := F)) d (vw d) v991 (Scalar.cmpi .ne (vw d) 23#32)
    = gchainR d (pSwait d) 23 9 (ldWin a5 >>= fun v1088 => (pure (k0_pay15 v991 v1088) : Pg F (FVec F S256x512 .f32))) := by
  rw [k0_part38_eq_skeleton]; rfl
theorem part39_eq (d : Dev nD) (v1090 : FVec F S256x512 .f32) : onBufs (k0_part39 (F := F)) d (vw d) v1090
    = ldWin partM >>= fun _ => stPart (k0_pay16 v1090) >>= fun _ => gchainR d (pSend0 d) 0 9 ((pure (Scalar.cmpi .ne (vw d) 9#32) : Pg F (BitVec 1))) := by
  rw [k0_part39_eq_skeleton]; rfl
theorem part40_eq (d : Dev nD) : onBufs (k0_part40 (F := F)) d (vw d) (Scalar.cmpi .ne (vw d) 9#32)
    = gchainR d (pSend0 d) 9 10 ((pure (Scalar.cmpi .ne (vw d) 19#32) : Pg F (BitVec 1))) := by
  rw [k0_part40_eq_skeleton]; rfl
theorem part41_eq (d : Dev nD) : onBufs (k0_part41 (F := F)) d (vw d) (Scalar.cmpi .ne (vw d) 19#32)
    = gchainR d (pSend0 d) 19 10 ((pure (Scalar.cmpi .ne (vw d) 29#32) : Pg F (BitVec 1))) := by
  rw [k0_part41_eq_skeleton]; rfl
theorem part42_eq (d : Dev nD) : onBufs (k0_part42 (F := F)) d (vw d) (Scalar.cmpi .ne (vw d) 29#32)
    = gchainR d (pSend0 d) 29 3 (ldRows d >>= fun v1192 => ldSlot false d >>= fun _ => stSlot false d (k0_pay17 v1192) >>= fun _ => gchainR d (pRecv0 d) 0 5 ((pure (Scalar.cmpi .ne (vw d) 5#32) : Pg F (BitVec 1)))) := by
  rw [k0_part42_eq_skeleton]; rfl
theorem part43_eq (d : Dev nD) : onBufs (k0_part43 (F := F)) (vw d) (Scalar.cmpi .ne (vw d) 5#32)
    = gchainR d (pRecv0 d) 5 10 ((pure (Scalar.cmpi .ne (vw d) 15#32) : Pg F (BitVec 1))) := by
  rw [k0_part43_eq_skeleton]; rfl
theorem part44_eq (d : Dev nD) : onBufs (k0_part44 (F := F)) (vw d) (Scalar.cmpi .ne (vw d) 15#32)
    = gchainR d (pRecv0 d) 15 10 ((pure (Scalar.cmpi .ne (vw d) 25#32) : Pg F (BitVec 1))) := by
  rw [k0_part44_eq_skeleton]; rfl
theorem part45_eq (d : Dev nD) : onBufs (k0_part45 (F := F)) (vw d) (Scalar.cmpi .ne (vw d) 25#32)
    = gchainR d (pRecv0 d) 25 7 (ldSlots false >>= fun v1293 => ldH >>= fun _ => stH (k0_pay19 v1293) >>= fun _ => (pure (k0_pay18 v1293) : Pg F (FVec F S8x512 .f32))) := by
  rw [k0_part45_eq_skeleton]; rfl
theorem part46_eq (d : Dev nD) : onBufs (k0_part46 (F := F)) d (vw d)
    = gchainR d (pSend1 d) 0 10 ((pure ⟨⟩ : Pg F (PUnit))) := by
  rw [k0_part46_eq_skeleton]; rfl
theorem part47_eq (d : Dev nD) : onBufs (k0_part47 (F := F)) d (vw d)
    = gchainR d (pSend1 d) 10 10 ((pure ⟨⟩ : Pg F (PUnit))) := by
  rw [k0_part47_eq_skeleton]; rfl
theorem part48_eq (d : Dev nD) : onBufs (k0_part48 (F := F)) d (vw d)
    = gchainR d (pSend1 d) 20 10 ((pure ⟨⟩ : Pg F (PUnit))) := by
  rw [k0_part48_eq_skeleton]; rfl
theorem part49_eq (d : Dev nD) (v1296 : FVec F S8x512 .f32) : onBufs (k0_part49 (F := F)) d (vw d) v1296
    = gchainR d (pSend1 d) 30 2 (ldSlot true d >>= fun _ => stSlot true d (k0_pay20 v1296) >>= fun _ => gchainR d (pRecv1 d) 0 7 ((pure ⟨(Scalar.extui (Scalar.cmpi .ne (vw d) 7#32)), 0#32⟩ : Pg F (Σ' (v1422 : BitVec 32), BitVec 32)))) := by
  rw [k0_part49_eq_skeleton]; rfl
theorem part50_eq (d : Dev nD) : onBufs (k0_part50 (F := F)) (vw d) (Scalar.extui (Scalar.cmpi .ne (vw d) 7#32)) (0#32)
    = gchainR d (pRecv1 d) 7 10 ((pure ⟨(Scalar.extui (Scalar.cmpi .ne (vw d) 17#32)), 0#32⟩ : Pg F (Σ' (v1452 : BitVec 32), BitVec 32))) := by
  rw [k0_part50_eq_skeleton]; rfl
theorem part51_eq (d : Dev nD) : onBufs (k0_part51 (F := F)) (vw d) (Scalar.extui (Scalar.cmpi .ne (vw d) 17#32)) (0#32)
    = gchainR d (pRecv1 d) 17 10 ((pure ⟨(Scalar.extui (Scalar.cmpi .ne (vw d) 27#32)), 0#32⟩ : Pg F (Σ' (v1482 : BitVec 32), BitVec 32))) := by
  rw [k0_part51_eq_skeleton]; rfl
theorem part52_eq (d : Dev nD) : onBufs (k0_part52 (F := F)) d (vw d) (Scalar.extui (Scalar.cmpi .ne (vw d) 27#32)) (0#32)
    = gchainR d (pRecv1 d) 27 5 (ldSlots true >>= fun v1496 => ldWout a6 >>= fun v1498 => gchainR d (pSwait d) 0 3 ((pure (k0_pay21 v1496 v1498) : Pg F (FVec F S256x256 .f32)))) := by
  rw [k0_part52_eq_skeleton]; rfl
theorem part53_eq (d : Dev nD) : onBufs (k0_part53 (F := F)) d (vw d)
    = gchainR d (pSwait d) 3 10 ((pure ⟨⟩ : Pg F (PUnit))) := by
  rw [k0_part53_eq_skeleton]; rfl
theorem part54_eq (d : Dev nD) : onBufs (k0_part54 (F := F)) d (vw d)
    = gchainR d (pSwait d) 13 10 ((pure ⟨⟩ : Pg F (PUnit))) := by
  rw [k0_part54_eq_skeleton]; rfl

/-- The parts in sequence, as the printed body's first 55 parts call them. -/
theorem part55_seq : onBufs (k0_part55 (F := F)) = (do
      let ⟨d0, v2, v3, v18⟩ : Σ' (d0 : Dev nD) (v2 : BitVec 32) (v3 : Sems sig S_), BitVec 32 ← onBufs (k0_part1 (F := F))
      onBufs (k0_part2 (F := F)) v3 v18
      let ⟨v52, c0_i32_75⟩ : Σ' (v52 : BitVec 32), BitVec 32 ← onBufs (k0_part3 (F := F)) v3
      let v69 : FVec F S256x256 .f32 ← onBufs (k0_part4 (F := F)) v3 v52 c0_i32_75
      let v100 : BitVec 1 ← onBufs (k0_part5 (F := F)) d0 v2 v69
      let v130 : BitVec 1 ← onBufs (k0_part6 (F := F)) d0 v2 v100
      let v160 : BitVec 1 ← onBufs (k0_part7 (F := F)) d0 v2 v130
      let v191 : BitVec 1 ← onBufs (k0_part8 (F := F)) d0 v2 v160
      let v221 : BitVec 1 ← onBufs (k0_part9 (F := F)) v2 v191
      let v251 : BitVec 1 ← onBufs (k0_part10 (F := F)) v2 v221
      let ⟨v278, v281⟩ : Σ' (v278 : FVec F S8x512 .f32), FVec F S8x512 .f32 ← onBufs (k0_part11 (F := F)) v2 v251
      onBufs (k0_part12 (F := F)) d0 v2 v281
      onBufs (k0_part13 (F := F)) d0 v2
      onBufs (k0_part14 (F := F)) d0 v2
      let ⟨v401, c0_i32_321⟩ : Σ' (v401 : BitVec 32), BitVec 32 ← onBufs (k0_part15 (F := F)) d0 v2 v278
      let ⟨v431, c0_i32_341⟩ : Σ' (v431 : BitVec 32), BitVec 32 ← onBufs (k0_part16 (F := F)) v2 v401 c0_i32_321
      let ⟨v461, c0_i32_361⟩ : Σ' (v461 : BitVec 32), BitVec 32 ← onBufs (k0_part17 (F := F)) v2 v431 c0_i32_341
      let v482 : FVec F S256x256 .f32 ← onBufs (k0_part18 (F := F)) d0 v2 v461 c0_i32_361
      onBufs (k0_part19 (F := F)) d0 v2
      onBufs (k0_part20 (F := F)) d0 v2
      let ⟨v580, cst_444⟩ : Σ' (v580 : FVec F S256x512 .f32), FVec F S256x512 .f32 ← onBufs (k0_part21 (F := F)) d0 v2
      onBufs (k0_part22 (F := F)) d0 v2 v482 v580 cst_444
      onBufs (k0_part23 (F := F)) d0 v2
      onBufs (k0_part24 (F := F)) d0 v2
      let v702 : BitVec 1 ← onBufs (k0_part25 (F := F)) d0 v2
      let v732 : BitVec 1 ← onBufs (k0_part26 (F := F)) v2 v702
      let v762 : BitVec 1 ← onBufs (k0_part27 (F := F)) v2 v732
      let ⟨v787, v791⟩ : Σ' (v787 : FVec F S8x512 .f32), BitVec 1 ← onBufs (k0_part28 (F := F)) v2 v762
      let v821 : BitVec 1 ← onBufs (k0_part29 (F := F)) d0 v2 v791
      let v851 : BitVec 1 ← onBufs (k0_part30 (F := F)) d0 v2 v821
      let v881 : BitVec 1 ← onBufs (k0_part31 (F := F)) d0 v2 v851
      let c7_i32_666 : BitVec 32 ← onBufs (k0_part32 (F := F)) d0 v2 v787 v881
      let c17_i32_686 : BitVec 32 ← onBufs (k0_part33 (F := F)) v2 c7_i32_666
      let c27_i32_706 : BitVec 32 ← onBufs (k0_part34 (F := F)) v2 c17_i32_686
      let ⟨v991, v1001⟩ : Σ' (v991 : FVec F S256x256 .f32), BitVec 1 ← onBufs (k0_part35 (F := F)) d0 v2 c27_i32_706
      let v1031 : BitVec 1 ← onBufs (k0_part36 (F := F)) d0 v2 v1001
      let v1061 : BitVec 1 ← onBufs (k0_part37 (F := F)) d0 v2 v1031
      let v1090 : FVec F S256x512 .f32 ← onBufs (k0_part38 (F := F)) d0 v2 v991 v1061
      let v1121 : BitVec 1 ← onBufs (k0_part39 (F := F)) d0 v2 v1090
      let v1151 : BitVec 1 ← onBufs (k0_part40 (F := F)) d0 v2 v1121
      let v1181 : BitVec 1 ← onBufs (k0_part41 (F := F)) d0 v2 v1151
      let v1212 : BitVec 1 ← onBufs (k0_part42 (F := F)) d0 v2 v1181
      let v1242 : BitVec 1 ← onBufs (k0_part43 (F := F)) v2 v1212
      let v1272 : BitVec 1 ← onBufs (k0_part44 (F := F)) v2 v1242
      let v1296 : FVec F S8x512 .f32 ← onBufs (k0_part45 (F := F)) v2 v1272
      onBufs (k0_part46 (F := F)) d0 v2
      onBufs (k0_part47 (F := F)) d0 v2
      onBufs (k0_part48 (F := F)) d0 v2
      let ⟨v1422, c0_i32_1011⟩ : Σ' (v1422 : BitVec 32), BitVec 32 ← onBufs (k0_part49 (F := F)) d0 v2 v1296
      let ⟨v1452, c0_i32_1031⟩ : Σ' (v1452 : BitVec 32), BitVec 32 ← onBufs (k0_part50 (F := F)) v2 v1422 c0_i32_1011
      let ⟨v1482, c0_i32_1051⟩ : Σ' (v1482 : BitVec 32), BitVec 32 ← onBufs (k0_part51 (F := F)) v2 v1452 c0_i32_1031
      let v1500 : FVec F S256x256 .f32 ← onBufs (k0_part52 (F := F)) d0 v2 v1482 c0_i32_1051
      onBufs (k0_part53 (F := F)) d0 v2
      onBufs (k0_part54 (F := F)) d0 v2
      gchainR d0 (pSwait d0) 23 1 (pure ⟨d0, v2, v1500⟩) : Pg F (Σ' (d0 : Dev nD) (v2 : BitVec 32), FVec F S256x256 .f32)) := by
  rw [k0_part55_eq_skeleton]; rfl

/-- The printed body from its 55 parts on. -/
theorem body_seq : onBufs (cc0_body (F := F)) = (do
      let ⟨d0, v2, v1500⟩ : Σ' (d0 : Dev nD) (v2 : BitVec 32), FVec F S256x256 .f32 ← onBufs (k0_part55 (F := F))
      gchainR d0 (pSwait d0) 24 8 (ldOut >>= fun _ => stOut v1500 >>= fun _ => pure ⟨⟩) : Pg F PUnit) := by
  rw [cc0_body_eq_skeleton]; rfl

/-- The printed body is `bodyR`. -/
theorem body_eq : onBufs (cc0_body (F := F)) = bodyR := by
  rw [body_seq, part55_seq]
  simp only [part1_eq, part2_eq, part3_eq, part4_eq, part5_eq, part6_eq, part7_eq, part8_eq, part9_eq, part10_eq, part11_eq, part12_eq, part13_eq, part14_eq, part15_eq, part16_eq, part17_eq, part18_eq, part19_eq, part20_eq, part21_eq, part22_eq, part23_eq, part24_eq, part25_eq, part26_eq, part27_eq, part28_eq, part29_eq, part30_eq, part31_eq, part32_eq, part33_eq, part34_eq, part35_eq, part36_eq, part37_eq, part38_eq, part39_eq, part40_eq, part41_eq, part42_eq, part43_eq, part44_eq, part45_eq, part46_eq, part47_eq, part48_eq, part49_eq, part50_eq, part51_eq, part52_eq, part53_eq, part54_eq, bind_assoc, pure_bind, chainR_bind, gchainR_bind, chainR_chainR, gchainR_gchainR, Nat.reduceAdd]
  rfl

end Cert.Mlp

end
-- ==== Proof.Launch.lean ====
/-
# The run

The pipeline's data, its obligation met by the body, and the run of the whole program on every device.
-/
module

public import proofs.«01_k».proof.Proof.Alloc
public import proofs.«01_k».proof.Proof.PiecesEq
public import Idealize.ShloMosaic.Lib.Pipeline.CollectiveSegs
public import Idealize.ShloMosaic.Lib.Quiescent

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)
variable (ρ : Dev nD → PrngReg)

/-! ## The pipeline's data -/

/-- The start: zero counters. -/
abbrev s₀ : MemSt nD τ sig (Elt F) := ⟨m, fun _ => 0, ρ⟩

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What device `c` starts from. -/
def start (c : Dev nD) : sProp 𝕄 := iprop((∃ K : Dev nD × CK → ℕ, env m K) ∗ dealt c)
def Φ₀ (c : Dev nD) : sProp 𝕄 := iprop(start m c ∗ scr c)
/-- What it ends with: its scratch buffers, its semaphores at zero. -/
def Φ₁ (c : Dev nD) : sProp 𝕄 := iprop(scr c ∗ bigSep Finset.univ fun k : CK => semVal (kcell (c, k)) 0)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => inX m c
    | ⟨1, _⟩ => inWin m 0 c
    | ⟨2, _⟩ => inWout m 0 c
    | ⟨3, _⟩ => inWin m 1 c
    | ⟨4, _⟩ => inWout m 1 c
    | ⟨5, _⟩ => inWin m 2 c
    | ⟨6, _⟩ => inWout m 2 c
    | ⟨7, _⟩ => xAt m 3 c
  Φ t := match t with
    | ⟨0, _⟩ => Φ₀ m c
    | ⟨_ + 1, _⟩ => Φ₁ c
  q _ := fullShare
  owed t := match t with
    | ⟨0, _⟩ => Ow c 0
    | ⟨_ + 1, _⟩ => 0

/-! ## The body meets the pipeline -/

section
variable (c : Dev nD)

/-- Every window's block is its whole array: an operand is fetched whole at the one point. -/
theorem before_of (w : Fin cfg0.W) (h : (cfg0.win w).fetch t₀ = true) (d) :
    (dats m ρ 0 c).before w t₀ d = (dats m ρ 0 c).fetched w t₀ d := by unfold Dat.before; rw [if_pos h]
theorem before_0 (d) : (dats m ρ 0 c).before (0 : Fin 8) t₀ d = inX m c := before_of m ρ c _ (by rfl) d
theorem before_1 (d) : (dats m ρ 0 c).before (1 : Fin 8) t₀ d = inWin m 0 c := before_of m ρ c _ (by rfl) d
theorem before_2 (d) : (dats m ρ 0 c).before (2 : Fin 8) t₀ d = inWout m 0 c := before_of m ρ c _ (by rfl) d
theorem before_3 (d) : (dats m ρ 0 c).before (3 : Fin 8) t₀ d = inWin m 1 c := before_of m ρ c _ (by rfl) d
theorem before_4 (d) : (dats m ρ 0 c).before (4 : Fin 8) t₀ d = inWout m 1 c := before_of m ρ c _ (by rfl) d
theorem before_5 (d) : (dats m ρ 0 c).before (5 : Fin 8) t₀ d = inWin m 2 c := before_of m ρ c _ (by rfl) d
theorem before_6 (d) : (dats m ρ 0 c).before (6 : Fin 8) t₀ d = inWout m 2 c := before_of m ρ c _ (by rfl) d

/-- The stages before the body, and after it. -/
def bodyPre : sProp 𝕄 :=
  iprop(Φ₀ m c ∗ (dats m ρ 0 c).owesAt (0 : ℕ) t₀.castSucc
    ∗ (∃ d, own c a0 ((dats m ρ 0 c).before (0 : Fin 8) t₀ d)) ∗ (∃ d, own c a1 ((dats m ρ 0 c).before (1 : Fin 8) t₀ d))
    ∗ (∃ d, own c a2 ((dats m ρ 0 c).before (2 : Fin 8) t₀ d)) ∗ (∃ d, own c a3 ((dats m ρ 0 c).before (3 : Fin 8) t₀ d))
    ∗ (∃ d, own c a4 ((dats m ρ 0 c).before (4 : Fin 8) t₀ d)) ∗ (∃ d, own c a5 ((dats m ρ 0 c).before (5 : Fin 8) t₀ d))
    ∗ (∃ d, own c a6 ((dats m ρ 0 c).before (6 : Fin 8) t₀ d)) ∗ (∃ d, own c a7 ((dats m ρ 0 c).before (7 : Fin 8) t₀ d)))
def bodyPost : sProp 𝕄 :=
  iprop(Φ₁ c ∗ (dats m ρ 0 c).owesAt (0 : ℕ) t₀.succ
    ∗ own c a0 (inX m c) ∗ own c a1 (inWin m 0 c) ∗ own c a2 (inWout m 0 c) ∗ own c a3 (inWin m 1 c)
    ∗ own c a4 (inWout m 1 c) ∗ own c a5 (inWin m 2 c) ∗ own c a6 (inWout m 2 c) ∗ own c a7 (xAt m 3 c))

theorem sound_body :
    (bodyPre m ρ c : sProp 𝕄) ⊢ wp frame (wpE (defs₀ (F := F)) 𝒱₀ (c : Thread nD τ) none) Set.univ (onBufs (cc0_body (F := F))) (fun _ => bodyPost m ρ c) := by
  rw [body_eq]
  unfold bodyPre Φ₀ start
  simp only [before_0, before_1, before_2, before_3, before_4, before_5, before_6]
  iintro ⟨⟨⟨⟨%K, #He⟩, Hd⟩, Hscr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  unfold Dat.owesAt Pipeline.owesWithin
  icases Ho with ⟨%W, %hW, HO⟩
  iapply (wp_body m K c fun _ => bodyPost m ρ c) $$ [Hd Hscr H0 H1 H2 H3 H4 H5 H6 H7 HO]
  · isplitl [Hscr]; · iexact Hscr
    isplitl [Hd]; · iexact Hd
    isplitl [HO]
    · unfold owesAt
      isplitr; · iexact He
      iexists W; iexact HO
    isplitr [H7]; rotate_left; · iapply (own_any c a7 _); iexact H7
    unfold ins
    isplitl [H0]; · iexact H0
    isplitl [H1]; · iexact H1
    isplitl [H2]; · iexact H2
    isplitl [H3]; · iexact H3
    isplitl [H4]; · iexact H4
    isplitl [H5]; · iexact H5
    iexact H6
  unfold ins
  iintro ⟨Hscr, Hz, ⟨%W', HO⟩, ⟨H0, H1, H2, H3, H4, H5, H6⟩, H7⟩
  unfold bodyPost Φ₁ Dat.owesAt Pipeline.owesWithin
  isplitl [Hscr Hz]
  · isplitl [Hscr]; · iexact Hscr
    iexact Hz
  isplitl [HO]
  · iexists W'
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxRecDepth 8000 in
theorem body_obligation : BodyObligation (dats (F := F) m ρ 0 c) (defs₀ (F := F)) 𝒱₀ (0 : ℕ) Set.univ := fun t => by
  rw [fin_N t]
  rw [bigSep_W0, bigSep_W0]
  exact sound_body m ρ c

end

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => Ow d 0) c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  unfold G'
  icases HG with ⟨%K, HI, Hat, Hsig, Hdg, Hled⟩
  imodintro
  unfold start
  isplitl
  · isplitl [HI Hlev]
    · iexists K; unfold env
      isplitl [HI] <;> iassumption
    unfold dealt
    isplitl [Hat]; · iexact Hat
    isplitl [H1]; · iexact H1
    isplitl [Hsig]; · iexact Hsig
    isplitl [Hdg]; · iexact Hdg
    ihave H := (join_sep (others c) (fun p => iprop(led0 false c p ∗ led0 true c p)) (fun p => iprop(crd false c p ∗ crd true c p))) $$ [Hled HN]
    · isplitl [Hled] <;> iassumption
    iapply (all_leds (F := F) c); iexact H
  · iempintro

/-- A whole buffer at some contents, as a memref and as a cell of memory. -/
theorem ownAny_whole (c : Dev nD) (b : Ref sig .tc) :
    (iprop(∃ f : Buf (Elt F) ((c : Thread nD τ).loc b), ((c : Thread nD τ).loc b) ↦{fullShare} f) : sProp 𝕄) = ownAny c (Memref.whole b) := by
  have e1 : (iprop(∃ f : Buf (Elt F) ((c : Thread nD τ).loc b), ((c : Thread nD τ).loc b) ↦{fullShare} f) : sProp 𝕄) ⊢ ownAny c (Memref.whole b) := by
    unfold ownAny own owns; simp only [Memref.view_whole, View.read_whole, View.set_whole]
    iintro ⟨%f, H⟩; iexists f; iexists f
    isplitr; · ipureintro; rfl
    iexact H
  have e2 : (ownAny c (Memref.whole b) : sProp 𝕄) ⊢ iprop(∃ f : Buf (Elt F) ((c : Thread nD τ).loc b), ((c : Thread nD τ).loc b) ↦{fullShare} f) := by
    unfold ownAny own owns; simp only [Memref.view_whole, View.read_whole, View.set_whole]
    iintro ⟨%X, %f, %hf, H⟩; iexists f
    iexact H
  exact BI.equiv_iff.mp ⟨e1, e2⟩

/-- The scratch buffers the launch hands over are the body's. -/
theorem scr_eq (c : Dev nD) : (Pipeline.scopedRest (Ix := ℕ) (Name := ℕ) (U := UU) (Lvl := ℕ) (Val := Elt F) spec0 c : sProp 𝕄) = scr c := by
  rw [scopedRest0_eq, ownAny_whole, ownAny_whole, ownAny_whole, ownAny_whole]; rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  rw [← scr_eq]
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  rw [sems0_eq, ← scr_eq]
  iintro ⟨Hr, Hu, Ho⟩
  isplitl [Hu]; · iexact Hu
  isplitl [Ho]; · iexact Ho
  iexact Hr

theorem waits (c : Dev nD) : (levAts L lv : sProp 𝕄) ⊢ Pipeline.cellsWaits cfgs (dats m ρ) (0 : ℕ) 0 c :=
  Pipeline.cellsWaits_intro cfgs (dats m ρ) (0 : ℕ) 0 c fun w s t => by
    rcases t with ⟨_ | _, ht⟩
    · exact mayWait c _ 0 0 (by decide) (by rw [kd_stage w s]; exact Nat.le_refl 0)
    · rw [show (dats m ρ 0 c).owed ⟨_ + 1, ht⟩ = 0 from rfl, MayWait_zero]; iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On thirty-two devices, over any float values, from any memory with zero counters: every fair execution of the program
    ends, without a fault, with each device's windowed arrays at the pipeline's contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => Ow d 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Mlp
end
-- ==== Proof.Frames.lean ====
/-
# The frames

From the run of the program over any float values: the arguments end unchanged and every semaphore at zero, for the kernel
as printed, for its idealization, and for the reference.
-/
module

public import proofs.«01_k».proof.Proof.Launch
public import proofs.«01_k».proof.Defs
public import proofs.«01_k».proof.Proof.Gen.Kernel
public import proofs.«01_k».proof.Proof.Gen.ReferenceIdeal.Run

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)
variable (ρ : Dev nD → PrngReg)

/-- An operand's array ends as it began. -/
theorem final_in (c : Dev nD) (w : Fin cfg0.W) (h : (cfg0.win w).isOut = false) :
    finalA m ρ c w = m ((cfg0.win w).arr.view.loc (c : Thread nD τ)) := (dats m ρ 0 c).arrAt_in w h _

/-- Over any float values: the program ends, its arguments unchanged, its result at the pipeline's contents, every semaphore
    at zero. -/
theorem run_args : θ_run defs (onTc (τ := τ) (main (F := F))) ⟨m, fun _ => 0, ρ⟩ fun r => (∀ c : Dev nD,
      r.2.mem ((c.tc : Thread nD τ).loc main_v1) = finalA m ρ c (7 : Fin 8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0 :=
  (θ_run defs _ _).mono (fun _ h => ⟨fun c =>
    ⟨h.1 c (7 : Fin 8), (h.1 c (0 : Fin 8)).trans (final_in m ρ c _ rfl), (h.1 c (1 : Fin 8)).trans (final_in m ρ c _ rfl),
      (h.1 c (3 : Fin 8)).trans (final_in m ρ c _ rfl), (h.1 c (5 : Fin 8)).trans (final_in m ρ c _ rfl),
      (h.1 c (2 : Fin 8)).trans (final_in m ρ c _ rfl), (h.1 c (4 : Fin 8)).trans (final_in m ρ c _ rfl),
      (h.1 c (6 : Fin 8)).trans (final_in m ρ c _ rfl)⟩, h.2⟩) (run_main m ρ)

/-- The same, without the result. -/
theorem run_frame : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0 :=
  (θ_run defs _ _).mono (fun _ h => ⟨fun c => (h.1 c).2, h.2⟩) (run_args m ρ)

/-- The idealized kernel ends, its arguments unchanged, every semaphore at zero. -/
theorem frame_ideal : Cert.quiescent_KernelIdeal := fun m g _ => run_frame (F := Ideal) m g

set_option maxRecDepth 100000 in
/-- The kernel as printed and its idealization run the same body. -/
theorem defs₀_eq : Cert.Kernel.defs₀ (F := F) = Cert.KernelIdeal.defs₀ := by
  unfold Cert.Kernel.defs₀ Cert.KernelIdeal.defs₀
  refine congrArg Defs.onTc ?_
  funext ℓ x
  obtain ⟨_ | n, h⟩ := ℓ
  · rfl
  · exact absurd h (by omega)
/-- They run the same pipeline. -/
theorem defs_eq : Cert.Kernel.defs (F := F) = Cert.KernelIdeal.defs := congrArg (Pipeline.defs Cert.KernelIdeal.pcfgs) defs₀_eq

/-- The kernel as printed ends, its arguments unchanged, every semaphore at zero: it has the idealization's text. -/
theorem frame_kernel : Cert.quiescent_Kernel := fun m g _ => by
  rw [defs_eq]
  exact run_frame (F := Bits) m g

/-- The reference ends, its arguments unchanged; it has no semaphore. -/
theorem frame_reference : Cert.quiescent_ReferenceIdeal := fun m g _ =>
  (θ_run Cert.ReferenceIdeal.defs _ _).mono (fun _ h => ⟨fun c => (h c).2, sem_eq_zero_of_no_sems (by decide) _⟩)
    (Cert.ReferenceIdeal.Value.run (F := Ideal) m g)

end Cert.Mlp
end
-- ==== Proof.Value.lean ====
/-
# What the kernel computes, over the extended reals

One layer: if the devices hold the column blocks of `X`, the row blocks of `W` and the column blocks of `V`, then after the
layer they hold the column blocks of `max (X W) 0 V`. The sum of the 32 partial products is one product, cut into 32 blocks
of its contraction.
-/
module

public import proofs.«01_k».proof.Proof.Sched
public import proofs.«01_k».proof.Proof.Gen.ReferenceIdeal
public import Idealize.ShloMosaic.Lib.MatmulPlain
public import Idealize.ShloMosaic.Lib.StackMember
public import Idealize.ShloMosaic.Lib.Pipeline.Value
public import Idealize.ShloMosaic.Lib.Layout

@[expose] public section

noncomputable section

namespace Cert.Mlp

open Cert.KernelIdeal Cert.KernelIdeal.Gen
open Idealize.ShloMosaic Idealize.ShloMosaic.TcCoe Idealize.ShloMosaic.ValueIdx
open scoped BigOperators

/-! ## The pieces at an index -/

/-- A partial product, read at an index. -/
theorem pay2_apply (x : FVec Ideal S256x256 .f32) (w : FVec Ideal S256x512 .f32) (r : Fin 256) (j : Fin 512) :
    k0_pay2 x w (ix2 r j) = ∑ k : Fin 256, x (ix2 r k) * w (ix2 k j) := by
  unfold k0_pay2
  simp only [shapeCast_self]
  refine (Ideal.matmul_plain_apply (M := 256) (K := 256) (N := 512) none x w _ r j).trans ?_
  rw [show (constant S256x512 .f32 0x00000000#32 : FVec Ideal S256x512 .f32) (ix2 r j) = 0 from Ideal.ofBits_zero_f32, zero_add]

/-- The device's rows of the hidden layer, read at an index. -/
theorem pay5_apply (v : FVec Ideal S32x8x512 .f32) (i : Fin 8) (j : Fin 512) :
    k0_pay5 v (ix2 i j) = max (∑ p : Fin 32, v (ix3 p i j)) 0 := by
  unfold k0_pay5 k0_pay4
  simp only [shapeCast_self]
  refine congrArg₂ max ?_ ?_
  · refine (Ideal.multiReduction_add_single v _ _ _ _ _).trans ?_
    refine Finset.sum_congr rfl fun p _ => congrArg v ?_
    funext a; apply Fin.ext
    match a with
    | ⟨0, _⟩ => rfl
    | ⟨1, _⟩ => rfl
    | ⟨2, _⟩ => rfl
  · exact Ideal.ofBits_zero_f32

/-- The product of the gathered hidden layer, read at an index. -/
theorem pay7_apply (g : FVec Ideal S32x8x512 .f32) (w : FVec Ideal S512x256 .f32) (r : Fin 256) (n : Fin 256) :
    k0_pay7 g w (ix2 r n) = ∑ j : Fin 512, g (ix3 ⟨r.val / 8, by omega⟩ ⟨r.val % 8, by omega⟩ j) * w (ix2 j n) := by
  unfold k0_pay7
  simp only [shapeCast_self]
  refine (Ideal.matmul_plain_apply (M := 256) (K := 512) (N := 256) none _ w _ r n).trans ?_
  rw [show (constant S256x256 .f32 0x00000000#32 : FVec Ideal S256x256 .f32) (ix2 r n) = 0 from Ideal.ofBits_zero_f32, zero_add]
  refine Finset.sum_congr rfl fun j _ => congrArg (· * w (ix2 j n)) ?_
  refine shapeCast_apply g _ (ix2 r j) (ix3 ⟨r.val / 8, by omega⟩ ⟨r.val % 8, by omega⟩ j) ?_
  rw [Shape.rowMajor_val_three, Shape.rowMajor_val_two]
  show (r.val / 8 * 8 + r.val % 8) * 512 + j.val = r.val * 512 + j.val
  omega

/-! ## One layer -/

/-- Device `c`'s column `k` among all 8192. -/
def at8192 (c : Fin 32) (k : Fin 256) : Fin 8192 := ⟨256 * c.val + k.val, by omega⟩
/-- The devices hold the column blocks of `X`. -/
def Cols {R : ℕ} (x : Dev nD → FVec Ideal ⟨2, ![R, 256]⟩ .f32) (X : FVec Ideal ⟨2, ![R, 8192]⟩ .f32) : Prop :=
  ∀ (c : Fin 32) (r : Fin R) (k : Fin 256), x c (ix2 r k) = X (ix2 r (at8192 c k))
/-- The devices hold the row blocks of `W`. -/
def Rows (w : Dev nD → FVec Ideal S256x512 .f32) (W : FVec Ideal ⟨2, ![8192, 512]⟩ .f32) : Prop :=
  ∀ (c : Fin 32) (k : Fin 256) (j : Fin 512), w c (ix2 k j) = W (ix2 (at8192 c k) j)

/-- A sum over 8192 is the sum over the devices of the sums over their 256. -/
theorem sum_blocks (f : Fin 8192 → EReal) : ∑ c : Fin 32, ∑ k : Fin 256, f (at8192 c k) = ∑ K : Fin 8192, f K := by
  rw [← Fintype.sum_prod_type' (f := fun c k => f (at8192 c k))]
  refine Fintype.sum_equiv (finProdFinEquiv (m := 32) (n := 256)) _ f fun q => congrArg f (Fin.ext ?_)
  show 256 * q.1.val + q.2.val = q.2.val + 256 * q.1.val
  omega

/-- The reference's hidden layer and result of one layer. -/
def refH (X : FVec Ideal ⟨2, ![256, 8192]⟩ .f32) (W : FVec Ideal ⟨2, ![8192, 512]⟩ .f32) : FVec Ideal ⟨2, ![256, 512]⟩ .f32 :=
  maximumf (Host.dotGeneral Cert.ReferenceIdeal.dot_S256x8192_S8192x512_S256x512_1_0_0_1_n_n none X W)
    (broadcastInDim Cert.ReferenceIdeal.S256x512 ![] Cert.ReferenceIdeal.Gen.bcast_S_S256x512 (constant Cert.ReferenceIdeal.S_ .f32 0x00000000#32))
def refX (X : FVec Ideal ⟨2, ![256, 8192]⟩ .f32) (W : FVec Ideal ⟨2, ![8192, 512]⟩ .f32) (V : FVec Ideal ⟨2, ![512, 8192]⟩ .f32) :
    FVec Ideal ⟨2, ![256, 8192]⟩ .f32 :=
  Host.dotGeneral Cert.ReferenceIdeal.dot_S256x512_S512x8192_S256x8192_1_0_0_1_n_n none (refH X W) V

theorem refH_apply (X : FVec Ideal ⟨2, ![256, 8192]⟩ .f32) (W : FVec Ideal ⟨2, ![8192, 512]⟩ .f32) (r : Fin 256) (j : Fin 512) :
    refH X W (ix2 r j) = max (∑ K : Fin 8192, X (ix2 r K) * W (ix2 K j)) 0 := by
  unfold refH
  refine congrArg₂ max ?_ ?_
  · exact StackMember.dotGeneral_plain_apply (m := 256) (k := 8192) (n := 512) none X W r j
  · exact Ideal.ofBits_zero_f32
theorem refX_apply (X : FVec Ideal ⟨2, ![256, 8192]⟩ .f32) (W : FVec Ideal ⟨2, ![8192, 512]⟩ .f32) (V : FVec Ideal ⟨2, ![512, 8192]⟩ .f32)
    (r : Fin 256) (n : Fin 8192) : refX X W V (ix2 r n) = ∑ j : Fin 512, refH X W (ix2 r j) * V (ix2 j n) :=
  StackMember.dotGeneral_plain_apply (m := 256) (k := 512) (n := 8192) none (refH X W) V r n

variable (m : (ℓ : Loc nD τ sig) → Buf (Elt Ideal) ℓ)

/-- Device `q`'s rows of the hidden layer are rows `8 q …` of the reference's. -/
theorem hidAt_apply {l : ℕ} {x : Dev nD → FVec Ideal S256x256 .f32} {X : FVec Ideal ⟨2, ![256, 8192]⟩ .f32}
    {W : FVec Ideal ⟨2, ![8192, 512]⟩ .f32} (hx : Cols x X) (hw : Rows (inWin m l) W) (q : Fin 32) (i : Fin 8) (j : Fin 512) :
    hidAt m l x q (ix2 i j) = refH X W (ix2 ⟨8 * q.val + i.val, by omega⟩ j) := by
  unfold hidAt
  rw [pay5_apply, refH_apply, ← sum_blocks]
  refine congrArg (max · 0) (Finset.sum_congr rfl fun p _ => ?_)
  have e : stack (fun p : Fin 32 => rowsOf (partAt m l x p) q) (ix3 p i j) = partAt m l x p (ix2 ⟨8 * q.val + i.val, by omega⟩ j) := by
    show partAt m l x p _ = _
    congr 1
    funext a; apply Fin.ext
    match a with
    | ⟨0, _⟩ => show 8 * q.val + 1 * i.val = 8 * q.val + i.val; omega
    | ⟨1, _⟩ => show 0 + 1 * j.val = j.val; omega
  rw [e]
  unfold partAt
  rw [pay2_apply]
  refine Finset.sum_congr rfl fun k _ => ?_
  rw [hx p _ k, hw p k j]

/-- One layer of the kernel is one layer of the reference, block by block. -/
theorem layer_cols {l : ℕ} {X : FVec Ideal ⟨2, ![256, 8192]⟩ .f32} {W : FVec Ideal ⟨2, ![8192, 512]⟩ .f32}
    {V : FVec Ideal ⟨2, ![512, 8192]⟩ .f32} (hx : Cols (xAt m l) X) (hw : Rows (inWin m l) W) (hv : Cols (inWout m l) V) :
    Cols (xAt m (l + 1)) (refX X W V) := fun c r n => by
  show k0_pay7 (stack fun p : Fin 32 => hidAt m l (xAt m l) p) (inWout m l c) (ix2 r n) = _
  rw [pay7_apply, refX_apply]
  refine Finset.sum_congr rfl fun j _ => ?_
  rw [hv c j n]
  refine congrArg (· * V (ix2 j (at8192 c n))) ?_
  show hidAt m l (xAt m l) ⟨r.val / 8, _⟩ (ix2 ⟨r.val % 8, _⟩ j) = _
  rw [hidAt_apply m hx hw]
  exact congrArg (fun a => refH X W (ix2 a j)) (Fin.ext (Nat.div_add_mod r.val 8))

end Cert.Mlp
end
-- ==== Proof.Algebraic.lean ====
/-
# The kernel against the reference

The arrays the run starts from and ends with, whole, and the value claim: each device's result is its block of the
reference's result.
-/
module

public import proofs.«01_k».proof.Defs
public import proofs.«01_k».proof.Proof.Gen.ReferenceIdeal.Run
public import proofs.«01_k».proof.Proof.Frames
public import proofs.«01_k».proof.Proof.Value

@[expose] public section

noncomputable section

namespace Cert.Mlp

open Cert.KernelIdeal Cert.KernelIdeal.Gen
open Idealize.ShloMosaic Idealize.ShloMosaic.TcCoe Idealize.ShloMosaic.ValueIdx Idealize.SL.Sem

/-! ## The windows' arrays, whole -/

section
variable {F : FTy → Type} [FloatOps F]
variable (m : (ℓ : Loc nD τ sig) → Buf (Elt F) ℓ) (ρ : Dev nD → PrngReg)

/-- A window over a whole array has that array's places. -/
theorem whole_emb {s : Shape} {e : EltTy} {cs : CoreSpace} (arr : Memref sig .tc .hbm s e) (o p : Bool)
    (st : Memref sig .tc (.core cs) ⟨s.rank, s.size⟩ e) (sm : DmaSem sig) (h : arr.IsWhole) (h' : st.IsWhole)
    (t : Fin Pipeline.Grid.none.N) (i : s.Idx) :
    ((Pipeline.Window.whole arr o p st sm h h').blk t).view.emb i = arr.view.emb i := by
  refine congrArg arr.view.emb ?_
  funext a; apply Fin.ext
  show 0 * _ + 1 * (i a).val = (i a).val
  omega

theorem inX_eq (c : Dev nD) : inX m c = m ((c : Thread nD τ).loc main_arg0) :=
  funext fun i => congrArg (m ((c : Thread nD τ).loc main_arg0)) (whole_emb (Memref.whole main_arg0) _ _ _ _ _ _ _ i)
theorem inWin_0 (c : Dev nD) : inWin m 0 c = m ((c : Thread nD τ).loc main_arg1) :=
  funext fun i => congrArg (m ((c : Thread nD τ).loc main_arg1)) (whole_emb (Memref.whole main_arg1) _ _ _ _ _ _ _ i)
theorem inWin_1 (c : Dev nD) : inWin m 1 c = m ((c : Thread nD τ).loc main_arg2) :=
  funext fun i => congrArg (m ((c : Thread nD τ).loc main_arg2)) (whole_emb (Memref.whole main_arg2) _ _ _ _ _ _ _ i)
theorem inWin_2 (c : Dev nD) : inWin m 2 c = m ((c : Thread nD τ).loc main_arg3) :=
  funext fun i => congrArg (m ((c : Thread nD τ).loc main_arg3)) (whole_emb (Memref.whole main_arg3) _ _ _ _ _ _ _ i)
theorem inWout_0 (c : Dev nD) : inWout m 0 c = m ((c : Thread nD τ).loc main_arg4) :=
  funext fun i => congrArg (m ((c : Thread nD τ).loc main_arg4)) (whole_emb (Memref.whole main_arg4) _ _ _ _ _ _ _ i)
theorem inWout_1 (c : Dev nD) : inWout m 1 c = m ((c : Thread nD τ).loc main_arg5) :=
  funext fun i => congrArg (m ((c : Thread nD τ).loc main_arg5)) (whole_emb (Memref.whole main_arg5) _ _ _ _ _ _ _ i)
theorem inWout_2 (c : Dev nD) : inWout m 2 c = m ((c : Thread nD τ).loc main_arg6) :=
  funext fun i => congrArg (m ((c : Thread nD τ).loc main_arg6)) (whole_emb (Memref.whole main_arg6) _ _ _ _ _ _ _ i)

/-- The result array ends at what the body left of the last layer. -/
theorem final_out (c : Dev nD) : finalA m ρ c (7 : Fin 8) = xAt m 3 c := by
  have e : ∀ i, (win0_7.blk (0 : Fin 1)).view.emb i = i := fun i => whole_emb (Memref.whole main_v1) _ _ _ _ _ _ _ i
  refine (dats m ρ 0 c).arrAt_eq_of_cover (7 : Fin 8) (xAt m 3 c) (fun t _ => ?_) fun i => ⟨t₀, by decide, ?_⟩
  · rw [fin_N t]
    funext i
    show xAt m 3 c i = xAt m 3 c _
    exact congrArg (xAt m 3 c) (e i).symm
  · have h := (win0_7.blk (0 : Fin 1)).view.emb_mem_set i
    rw [e] at h
    exact h

end

/-! ## The blocks of the arguments and of the result -/

variable (m : (ℓ : Loc nD τ sig) → Buf (Elt Ideal) ℓ)

/-- Blocks of columns, as the claim names them. -/
theorem cols_block {R : ℕ} {x : Dev nD → FVec Ideal ⟨2, ![R, 256]⟩ .f32} {X : FVec Ideal ⟨2, ![R, 8192]⟩ .f32}
    (h : Layout.Tiles ⟨2, ![R, 256]⟩ ⟨2, ![R, 8192]⟩ 1 32)
    (hx : ∀ c : Fin 32, x c = Layout.block ⟨2, ![R, 256]⟩ ⟨2, ![R, 8192]⟩ 1 32 c X h) : Cols x X := fun c r k => by
  rw [hx c]
  refine congrArg X ?_
  funext a; apply Fin.ext
  match a with
  | ⟨0, _⟩ => rfl
  | ⟨1, _⟩ => show c.val * 256 + k.val = 256 * c.val + k.val; omega
theorem block_cols {x : Dev nD → FVec Ideal ⟨2, ![256, 256]⟩ .f32} {X : FVec Ideal ⟨2, ![256, 8192]⟩ .f32} (hx : Cols x X) (c : Fin 32) :
    x c = Layout.block ⟨2, ![256, 256]⟩ ⟨2, ![256, 8192]⟩ 1 32 c X := by
  funext i
  refine (congrArg (x c) (eq_ix2 i)).trans ((hx c (i 0) (i 1)).trans (congrArg X ?_))
  funext a; apply Fin.ext
  match a with
  | ⟨0, _⟩ => rfl
  | ⟨1, _⟩ => show 256 * c.val + (i 1).val = c.val * 256 + (i 1).val; omega
/-- Blocks of rows, as the claim names them. -/
theorem rows_block {w : Dev nD → FVec Ideal S256x512 .f32} {W : FVec Ideal ⟨2, ![8192, 512]⟩ .f32}
    (hw : ∀ c : Fin 32, w c = Layout.block ⟨2, ![256, 512]⟩ ⟨2, ![8192, 512]⟩ 0 32 c W) : Rows w W := fun c k j => by
  rw [hw c]
  refine congrArg W ?_
  funext a; apply Fin.ext
  match a with
  | ⟨0, _⟩ => show c.val * 256 + k.val = 256 * c.val + k.val; omega
  | ⟨1, _⟩ => rfl

/-- The input blocks of the first layer are the argument's. -/
theorem xAt_0 : xAt m 0 = inX m := funext fun c => by
  show k0_pay1 (inX m c) = inX m c
  unfold k0_pay1; exact shapeCast_self _ _

/-- Three layers: the result's blocks are those of the reference's three layers. -/
theorem result_cols {X : FVec Ideal ⟨2, ![256, 8192]⟩ .f32} {W₀ W₁ W₂ : FVec Ideal ⟨2, ![8192, 512]⟩ .f32}
    {V₀ V₁ V₂ : FVec Ideal ⟨2, ![512, 8192]⟩ .f32} (hx : Cols (inX m) X)
    (hw₀ : Rows (inWin m 0) W₀) (hw₁ : Rows (inWin m 1) W₁) (hw₂ : Rows (inWin m 2) W₂)
    (hv₀ : Cols (inWout m 0) V₀) (hv₁ : Cols (inWout m 1) V₁) (hv₂ : Cols (inWout m 2) V₂) :
    Cols (xAt m 3) (refX (refX (refX X W₀ V₀) W₁ V₁) W₂ V₂) :=
  layer_cols m (layer_cols m (layer_cols m (by rw [xAt_0]; exact hx) hw₀ hv₀) hw₁ hv₁) hw₂ hv₂

/-- Over the extended reals, on 32 devices, each device's result is its block of the reference's result. -/
theorem kernel_algebraic : Cert.algebraic_KernelIdeal_ReferenceIdeal := fun m g m' g' _ hin => by
  let A (b : Ref Cert.ReferenceIdeal.sig .tc) := m' (((0 : Dev Cert.ReferenceIdeal.nD).tc : Thread Cert.ReferenceIdeal.nD Cert.ReferenceIdeal.τ).loc b)
  have hres : Cols (xAt m 3) (refX (refX (refX (A Cert.ReferenceIdeal.main_arg0) (A Cert.ReferenceIdeal.main_arg1) (A Cert.ReferenceIdeal.main_arg4))
      (A Cert.ReferenceIdeal.main_arg2) (A Cert.ReferenceIdeal.main_arg5)) (A Cert.ReferenceIdeal.main_arg3) (A Cert.ReferenceIdeal.main_arg6)) :=
    result_cols m (cols_block _ fun c => (inX_eq m c).trans (hin c).1)
      (rows_block fun c => (inWin_0 m c).trans (hin c).2.1) (rows_block fun c => (inWin_1 m c).trans (hin c).2.2.1)
      (rows_block fun c => (inWin_2 m c).trans (hin c).2.2.2.1)
      (cols_block _ fun c => (inWout_0 m c).trans (hin c).2.2.2.2.1) (cols_block _ fun c => (inWout_1 m c).trans (hin c).2.2.2.2.2.1)
      (cols_block _ fun c => (inWout_2 m c).trans (hin c).2.2.2.2.2.2)
  exact ⟨_, (θ_run defs _ _).mono (fun _ h c => ⟨(h.1 c).1.trans ((final_out m g c).trans (block_cols hres c)), (h.1 c).2⟩)
      (run_args (F := Ideal) m g),
    (θ_run Cert.ReferenceIdeal.defs _ _).mono (fun _ h => h 0) (Cert.ReferenceIdeal.Value.run (F := Ideal) m' g')⟩

end Cert.Mlp
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Mlp.frame_kernel, Cert.Mlp.frame_ideal, Cert.Mlp.frame_reference, trivial, Cert.Mlp.kernel_algebraic⟩

end Cert.Proof

end
